-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![256, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![256, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S256x2048 : Shape := ⟨2, ![256, 2048]⟩
abbrev S256x4096 : Shape := ⟨2, ![256, 4096]⟩
abbrev S3x256x512 : Shape := ⟨3, ![3, 256, 512]⟩
abbrev S3x64x2048 : Shape := ⟨3, ![3, 64, 2048]⟩
abbrev S2x512x4096 : Shape := ⟨3, ![2, 512, 4096]⟩
abbrev S2x4096x512 : Shape := ⟨3, ![2, 4096, 512]⟩
abbrev S3x4 : Shape := ⟨2, ![3, 4]⟩
abbrev S2x3 : Shape := ⟨2, ![2, 3]⟩
abbrev S36 : Shape := ⟨1, ![36]⟩
abbrev S2 : Shape := ⟨1, ![2]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩
abbrev S1x4096x512 : Shape := ⟨3, ![1, 4096, 512]⟩
abbrev S4096x512 : Shape := ⟨2, ![4096, 512]⟩
abbrev S1x1 : Shape := ⟨2, ![1, 1]⟩
abbrev S64x512 : Shape := ⟨2, ![64, 512]⟩
abbrev S256x512 : Shape := ⟨2, ![256, 512]⟩
abbrev S1x256x512 : Shape := ⟨3, ![1, 256, 512]⟩
abbrev S1x64x512 : Shape := ⟨3, ![1, 64, 512]⟩
abbrev S1x64x2048 : Shape := ⟨3, ![1, 64, 2048]⟩

abbrev nBuf : Space → Nat
  | .hbm => 8
  | .vmem => 9
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S64x2048, .f32⟩
  | .local _ .vmem, ⟨0, _⟩ => ⟨S64x2048, .f32⟩
  | .local _ .vmem, ⟨1, _⟩ => ⟨S64x2048, .f32⟩
  | .local _ .vmem, ⟨2, _⟩ => ⟨S256x2048, .f32⟩
  | .local _ .vmem, ⟨3, _⟩ => ⟨S256x4096, .f32⟩
  | .local _ .vmem, ⟨4, _⟩ => ⟨S256x2048, .f32⟩
  | .local _ .vmem, ⟨5, _⟩ => ⟨S3x256x512, .f32⟩
  | .local _ .vmem, ⟨6, _⟩ => ⟨S3x64x2048, .f32⟩
  | .local _ .vmem, ⟨7, _⟩ => ⟨S2x512x4096, .f32⟩
  | .local _ .vmem, ⟨8, _⟩ => ⟨S2x4096x512, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c1_i32_0 : BitVec 32) : Fin 2 → Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32_23 : BitVec 32 := 512#32
  let v35 : BitVec 32 := Scalar.muli v13 c512_i32_23
  ![0, v35.toNat]
def k0_dev1 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v48 : BitVec 32 := Scalar.addi v2 c1_i32_35
  let c4_i32_36 : BitVec 32 := 4#32
  let c0_i32_37 : BitVec 32 := 0#32
  let v49 : BitVec 1 := Scalar.cmpi .eq c4_i32_36 c0_i32_37
  let c1_i32_38 : BitVec 32 := 1#32
  let v50 : BitVec 32 := Scalar.select v49 c1_i32_38 c4_i32_36
  let v51 : BitVec 32 := Scalar.remsi v48 v50
  let c0_i32_40 : BitVec 32 := 0#32
  let v53 : BitVec 1 := Scalar.cmpi .slt v51 c0_i32_40
  let c0_i32_41 : BitVec 32 := 0#32
  let v54 : BitVec 1 := Scalar.cmpi .slt v50 c0_i32_41
  let v55 : BitVec 1 := Scalar.xori v53 v54
  let c0_i32_39 : BitVec 32 := 0#32
  let v52 : BitVec 1 := Scalar.cmpi .ne v51 c0_i32_39
  let v56 : BitVec 1 := Scalar.andi v55 v52
  let v57 : BitVec 32 := Scalar.addi v51 v50
  let v58 : BitVec 32 := Scalar.select v56 v57 v51
  let c1_i32_43 : BitVec 32 := 1#32
  let v59 : BitVec 32 := Scalar.muli v58 c1_i32_43
  let v60 : BitVec 32 := Scalar.addi c0_i32_44 v59
  v60.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_45 : BitVec 32 := 2#32
  let v61 : BitVec 32 := Scalar.addi v2 c2_i32_45
  let c4_i32_46 : BitVec 32 := 4#32
  let c0_i32_47 : BitVec 32 := 0#32
  let v62 : BitVec 1 := Scalar.cmpi .eq c4_i32_46 c0_i32_47
  let c1_i32_48 : BitVec 32 := 1#32
  let v63 : BitVec 32 := Scalar.select v62 c1_i32_48 c4_i32_46
  let v64 : BitVec 32 := Scalar.remsi v61 v63
  let c0_i32_50 : BitVec 32 := 0#32
  let v66 : BitVec 1 := Scalar.cmpi .slt v64 c0_i32_50
  let c0_i32_51 : BitVec 32 := 0#32
  let v67 : BitVec 1 := Scalar.cmpi .slt v63 c0_i32_51
  let v68 : BitVec 1 := Scalar.xori v66 v67
  let c0_i32_49 : BitVec 32 := 0#32
  let v65 : BitVec 1 := Scalar.cmpi .ne v64 c0_i32_49
  let v69 : BitVec 1 := Scalar.andi v68 v65
  let v70 : BitVec 32 := Scalar.addi v64 v63
  let v71 : BitVec 32 := Scalar.select v69 v70 v64
  let c1_i32_53 : BitVec 32 := 1#32
  let v72 : BitVec 32 := Scalar.muli v71 c1_i32_53
  let v73 : BitVec 32 := Scalar.addi c0_i32_54 v72
  v73.toNat
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v74 : BitVec 32 := Scalar.addi v2 c3_i32
  let c4_i32_55 : BitVec 32 := 4#32
  let c0_i32_56 : BitVec 32 := 0#32
  let v75 : BitVec 1 := Scalar.cmpi .eq c4_i32_55 c0_i32_56
  let c1_i32_57 : BitVec 32 := 1#32
  let v76 : BitVec 32 := Scalar.select v75 c1_i32_57 c4_i32_55
  let v77 : BitVec 32 := Scalar.remsi v74 v76
  let c0_i32_59 : BitVec 32 := 0#32
  let v79 : BitVec 1 := Scalar.cmpi .slt v77 c0_i32_59
  let c0_i32_60 : BitVec 32 := 0#32
  let v80 : BitVec 1 := Scalar.cmpi .slt v76 c0_i32_60
  let v81 : BitVec 1 := Scalar.xori v79 v80
  let c0_i32_58 : BitVec 32 := 0#32
  let v78 : BitVec 1 := Scalar.cmpi .ne v77 c0_i32_58
  let v82 : BitVec 1 := Scalar.andi v81 v78
  let v83 : BitVec 32 := Scalar.addi v77 v76
  let v84 : BitVec 32 := Scalar.select v82 v83 v77
  let c1_i32_62 : BitVec 32 := 1#32
  let v85 : BitVec 32 := Scalar.muli v84 c1_i32_62
  let v86 : BitVec 32 := Scalar.addi c0_i32_63 v85
  v86.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32 : BitVec 32 := 64#32
  let v89 : BitVec 32 := Scalar.muli v2 c64_i32
  let v90 : Index := Scalar.indexCast v89
  let c0_66 : Index := 0#32
  ![v90.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_74 : BitVec 32 := 64#32
  let v105 : BitVec 32 := Scalar.muli v2 c64_i32_74
  let c0_i32_80 : BitVec 32 := 0#32
  ![v105.toNat, 0]
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_67 : BitVec 32 := 1#32
  let v94 : BitVec 32 := Scalar.addi v2 c1_i32_67
  let c4_i32_68 : BitVec 32 := 4#32
  let c0_i32_69 : BitVec 32 := 0#32
  let v95 : BitVec 1 := Scalar.cmpi .eq c4_i32_68 c0_i32_69
  let c1_i32_70 : BitVec 32 := 1#32
  let v96 : BitVec 32 := Scalar.select v95 c1_i32_70 c4_i32_68
  let v97 : BitVec 32 := Scalar.remsi v94 v96
  let c0_i32_72 : BitVec 32 := 0#32
  let v99 : BitVec 1 := Scalar.cmpi .slt v97 c0_i32_72
  let c0_i32_73 : BitVec 32 := 0#32
  let v100 : BitVec 1 := Scalar.cmpi .slt v96 c0_i32_73
  let v101 : BitVec 1 := Scalar.xori v99 v100
  let c0_i32_71 : BitVec 32 := 0#32
  let v98 : BitVec 1 := Scalar.cmpi .ne v97 c0_i32_71
  let v102 : BitVec 1 := Scalar.andi v101 v98
  let v103 : BitVec 32 := Scalar.addi v97 v96
  let v104 : BitVec 32 := Scalar.select v102 v103 v97
  let c1_i32_78 : BitVec 32 := 1#32
  let v106 : BitVec 32 := Scalar.muli v104 c1_i32_78
  let v107 : BitVec 32 := Scalar.addi c0_i32_79 v106
  v107.toNat
def k0_dev5 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_83 : BitVec 32 := 2#32
  let v114 : BitVec 32 := Scalar.addi v2 c2_i32_83
  let c4_i32_84 : BitVec 32 := 4#32
  let c0_i32_85 : BitVec 32 := 0#32
  let v115 : BitVec 1 := Scalar.cmpi .eq c4_i32_84 c0_i32_85
  let c1_i32_86 : BitVec 32 := 1#32
  let v116 : BitVec 32 := Scalar.select v115 c1_i32_86 c4_i32_84
  let v117 : BitVec 32 := Scalar.remsi v114 v116
  let c0_i32_88 : BitVec 32 := 0#32
  let v119 : BitVec 1 := Scalar.cmpi .slt v117 c0_i32_88
  let c0_i32_89 : BitVec 32 := 0#32
  let v120 : BitVec 1 := Scalar.cmpi .slt v116 c0_i32_89
  let v121 : BitVec 1 := Scalar.xori v119 v120
  let c0_i32_87 : BitVec 32 := 0#32
  let v118 : BitVec 1 := Scalar.cmpi .ne v117 c0_i32_87
  let v122 : BitVec 1 := Scalar.andi v121 v118
  let v123 : BitVec 32 := Scalar.addi v117 v116
  let v124 : BitVec 32 := Scalar.select v122 v123 v117
  let c1_i32_94 : BitVec 32 := 1#32
  let v126 : BitVec 32 := Scalar.muli v124 c1_i32_94
  let v127 : BitVec 32 := Scalar.addi c0_i32_95 v126
  v127.toNat
def k0_dev6 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_99 : BitVec 32 := 3#32
  let v134 : BitVec 32 := Scalar.addi v2 c3_i32_99
  let c4_i32_100 : BitVec 32 := 4#32
  let c0_i32_101 : BitVec 32 := 0#32
  let v135 : BitVec 1 := Scalar.cmpi .eq c4_i32_100 c0_i32_101
  let c1_i32_102 : BitVec 32 := 1#32
  let v136 : BitVec 32 := Scalar.select v135 c1_i32_102 c4_i32_100
  let v137 : BitVec 32 := Scalar.remsi v134 v136
  let c0_i32_104 : BitVec 32 := 0#32
  let v139 : BitVec 1 := Scalar.cmpi .slt v137 c0_i32_104
  let c0_i32_105 : BitVec 32 := 0#32
  let v140 : BitVec 1 := Scalar.cmpi .slt v136 c0_i32_105
  let v141 : BitVec 1 := Scalar.xori v139 v140
  let c0_i32_103 : BitVec 32 := 0#32
  let v138 : BitVec 1 := Scalar.cmpi .ne v137 c0_i32_103
  let v142 : BitVec 1 := Scalar.andi v141 v138
  let v143 : BitVec 32 := Scalar.addi v137 v136
  let v144 : BitVec 32 := Scalar.select v142 v143 v137
  let c1_i32_110 : BitVec 32 := 1#32
  let v146 : BitVec 32 := Scalar.muli v144 c1_i32_110
  let v147 : BitVec 32 := Scalar.addi c0_i32_111 v146
  v147.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_122 : BitVec 32 := 64#32
  let v165 : BitVec 32 := Scalar.muli v2 c64_i32_122
  let c512_i32_128 : BitVec 32 := 512#32
  ![v165.toNat, 512]
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_115 : BitVec 32 := 1#32
  let v154 : BitVec 32 := Scalar.addi v2 c1_i32_115
  let c4_i32_116 : BitVec 32 := 4#32
  let c0_i32_117 : BitVec 32 := 0#32
  let v155 : BitVec 1 := Scalar.cmpi .eq c4_i32_116 c0_i32_117
  let c1_i32_118 : BitVec 32 := 1#32
  let v156 : BitVec 32 := Scalar.select v155 c1_i32_118 c4_i32_116
  let v157 : BitVec 32 := Scalar.remsi v154 v156
  let c0_i32_120 : BitVec 32 := 0#32
  let v159 : BitVec 1 := Scalar.cmpi .slt v157 c0_i32_120
  let c0_i32_121 : BitVec 32 := 0#32
  let v160 : BitVec 1 := Scalar.cmpi .slt v156 c0_i32_121
  let v161 : BitVec 1 := Scalar.xori v159 v160
  let c0_i32_119 : BitVec 32 := 0#32
  let v158 : BitVec 1 := Scalar.cmpi .ne v157 c0_i32_119
  let v162 : BitVec 1 := Scalar.andi v161 v158
  let v163 : BitVec 32 := Scalar.addi v157 v156
  let v164 : BitVec 32 := Scalar.select v162 v163 v157
  let c1_i32_126 : BitVec 32 := 1#32
  let v166 : BitVec 32 := Scalar.muli v164 c1_i32_126
  let v167 : BitVec 32 := Scalar.addi c0_i32_127 v166
  v167.toNat
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_131 : BitVec 32 := 2#32
  let v174 : BitVec 32 := Scalar.addi v2 c2_i32_131
  let c4_i32_132 : BitVec 32 := 4#32
  let c0_i32_133 : BitVec 32 := 0#32
  let v175 : BitVec 1 := Scalar.cmpi .eq c4_i32_132 c0_i32_133
  let c1_i32_134 : BitVec 32 := 1#32
  let v176 : BitVec 32 := Scalar.select v175 c1_i32_134 c4_i32_132
  let v177 : BitVec 32 := Scalar.remsi v174 v176
  let c0_i32_136 : BitVec 32 := 0#32
  let v179 : BitVec 1 := Scalar.cmpi .slt v177 c0_i32_136
  let c0_i32_137 : BitVec 32 := 0#32
  let v180 : BitVec 1 := Scalar.cmpi .slt v176 c0_i32_137
  let v181 : BitVec 1 := Scalar.xori v179 v180
  let c0_i32_135 : BitVec 32 := 0#32
  let v178 : BitVec 1 := Scalar.cmpi .ne v177 c0_i32_135
  let v182 : BitVec 1 := Scalar.andi v181 v178
  let v183 : BitVec 32 := Scalar.addi v177 v176
  let v184 : BitVec 32 := Scalar.select v182 v183 v177
  let c1_i32_142 : BitVec 32 := 1#32
  let v186 : BitVec 32 := Scalar.muli v184 c1_i32_142
  let v187 : BitVec 32 := Scalar.addi c0_i32_143 v186
  v187.toNat
def k0_dev9 (d0 : Dev nD) : Nat :=
  let c0_i32_158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_147 : BitVec 32 := 3#32
  let v194 : BitVec 32 := Scalar.addi v2 c3_i32_147
  let c4_i32_148 : BitVec 32 := 4#32
  let c0_i32_149 : BitVec 32 := 0#32
  let v195 : BitVec 1 := Scalar.cmpi .eq c4_i32_148 c0_i32_149
  let c1_i32_150 : BitVec 32 := 1#32
  let v196 : BitVec 32 := Scalar.select v195 c1_i32_150 c4_i32_148
  let v197 : BitVec 32 := Scalar.remsi v194 v196
  let c0_i32_152 : BitVec 32 := 0#32
  let v199 : BitVec 1 := Scalar.cmpi .slt v197 c0_i32_152
  let c0_i32_153 : BitVec 32 := 0#32
  let v200 : BitVec 1 := Scalar.cmpi .slt v196 c0_i32_153
  let v201 : BitVec 1 := Scalar.xori v199 v200
  let c0_i32_151 : BitVec 32 := 0#32
  let v198 : BitVec 1 := Scalar.cmpi .ne v197 c0_i32_151
  let v202 : BitVec 1 := Scalar.andi v201 v198
  let v203 : BitVec 32 := Scalar.addi v197 v196
  let v204 : BitVec 32 := Scalar.select v202 v203 v197
  let c1_i32_157 : BitVec 32 := 1#32
  let v206 : BitVec 32 := Scalar.muli v204 c1_i32_157
  let v207 : BitVec 32 := Scalar.addi c0_i32_158 v206
  v207.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_169 : BitVec 32 := 64#32
  let v225 : BitVec 32 := Scalar.muli v2 c64_i32_169
  let c1024_i32 : BitVec 32 := 1024#32
  ![v225.toNat, 1024]
def k0_dev10 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_162 : BitVec 32 := 1#32
  let v214 : BitVec 32 := Scalar.addi v2 c1_i32_162
  let c4_i32_163 : BitVec 32 := 4#32
  let c0_i32_164 : BitVec 32 := 0#32
  let v215 : BitVec 1 := Scalar.cmpi .eq c4_i32_163 c0_i32_164
  let c1_i32_165 : BitVec 32 := 1#32
  let v216 : BitVec 32 := Scalar.select v215 c1_i32_165 c4_i32_163
  let v217 : BitVec 32 := Scalar.remsi v214 v216
  let c0_i32_167 : BitVec 32 := 0#32
  let v219 : BitVec 1 := Scalar.cmpi .slt v217 c0_i32_167
  let c0_i32_168 : BitVec 32 := 0#32
  let v220 : BitVec 1 := Scalar.cmpi .slt v216 c0_i32_168
  let v221 : BitVec 1 := Scalar.xori v219 v220
  let c0_i32_166 : BitVec 32 := 0#32
  let v218 : BitVec 1 := Scalar.cmpi .ne v217 c0_i32_166
  let v222 : BitVec 1 := Scalar.andi v221 v218
  let v223 : BitVec 32 := Scalar.addi v217 v216
  let v224 : BitVec 32 := Scalar.select v222 v223 v217
  let c1_i32_172 : BitVec 32 := 1#32
  let v226 : BitVec 32 := Scalar.muli v224 c1_i32_172
  let v227 : BitVec 32 := Scalar.addi c0_i32_173 v226
  v227.toNat
def k0_dev11 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_176 : BitVec 32 := 2#32
  let v234 : BitVec 32 := Scalar.addi v2 c2_i32_176
  let c4_i32_177 : BitVec 32 := 4#32
  let c0_i32_178 : BitVec 32 := 0#32
  let v235 : BitVec 1 := Scalar.cmpi .eq c4_i32_177 c0_i32_178
  let c1_i32_179 : BitVec 32 := 1#32
  let v236 : BitVec 32 := Scalar.select v235 c1_i32_179 c4_i32_177
  let v237 : BitVec 32 := Scalar.remsi v234 v236
  let c0_i32_181 : BitVec 32 := 0#32
  let v239 : BitVec 1 := Scalar.cmpi .slt v237 c0_i32_181
  let c0_i32_182 : BitVec 32 := 0#32
  let v240 : BitVec 1 := Scalar.cmpi .slt v236 c0_i32_182
  let v241 : BitVec 1 := Scalar.xori v239 v240
  let c0_i32_180 : BitVec 32 := 0#32
  let v238 : BitVec 1 := Scalar.cmpi .ne v237 c0_i32_180
  let v242 : BitVec 1 := Scalar.andi v241 v238
  let v243 : BitVec 32 := Scalar.addi v237 v236
  let v244 : BitVec 32 := Scalar.select v242 v243 v237
  let c1_i32_186 : BitVec 32 := 1#32
  let v246 : BitVec 32 := Scalar.muli v244 c1_i32_186
  let v247 : BitVec 32 := Scalar.addi c0_i32_187 v246
  v247.toNat
def k0_dev12 (d0 : Dev nD) : Nat :=
  let c0_i32_202 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_191 : BitVec 32 := 3#32
  let v254 : BitVec 32 := Scalar.addi v2 c3_i32_191
  let c4_i32_192 : BitVec 32 := 4#32
  let c0_i32_193 : BitVec 32 := 0#32
  let v255 : BitVec 1 := Scalar.cmpi .eq c4_i32_192 c0_i32_193
  let c1_i32_194 : BitVec 32 := 1#32
  let v256 : BitVec 32 := Scalar.select v255 c1_i32_194 c4_i32_192
  let v257 : BitVec 32 := Scalar.remsi v254 v256
  let c0_i32_196 : BitVec 32 := 0#32
  let v259 : BitVec 1 := Scalar.cmpi .slt v257 c0_i32_196
  let c0_i32_197 : BitVec 32 := 0#32
  let v260 : BitVec 1 := Scalar.cmpi .slt v256 c0_i32_197
  let v261 : BitVec 1 := Scalar.xori v259 v260
  let c0_i32_195 : BitVec 32 := 0#32
  let v258 : BitVec 1 := Scalar.cmpi .ne v257 c0_i32_195
  let v262 : BitVec 1 := Scalar.andi v261 v258
  let v263 : BitVec 32 := Scalar.addi v257 v256
  let v264 : BitVec 32 := Scalar.select v262 v263 v257
  let c1_i32_201 : BitVec 32 := 1#32
  let v266 : BitVec 32 := Scalar.muli v264 c1_i32_201
  let v267 : BitVec 32 := Scalar.addi c0_i32_202 v266
  v267.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_213 : BitVec 32 := 64#32
  let v285 : BitVec 32 := Scalar.muli v2 c64_i32_213
  let c1536_i32 : BitVec 32 := 1536#32
  ![v285.toNat, 1536]
def k0_dev13 (d0 : Dev nD) : Nat :=
  let c0_i32_217 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_206 : BitVec 32 := 1#32
  let v274 : BitVec 32 := Scalar.addi v2 c1_i32_206
  let c4_i32_207 : BitVec 32 := 4#32
  let c0_i32_208 : BitVec 32 := 0#32
  let v275 : BitVec 1 := Scalar.cmpi .eq c4_i32_207 c0_i32_208
  let c1_i32_209 : BitVec 32 := 1#32
  let v276 : BitVec 32 := Scalar.select v275 c1_i32_209 c4_i32_207
  let v277 : BitVec 32 := Scalar.remsi v274 v276
  let c0_i32_211 : BitVec 32 := 0#32
  let v279 : BitVec 1 := Scalar.cmpi .slt v277 c0_i32_211
  let c0_i32_212 : BitVec 32 := 0#32
  let v280 : BitVec 1 := Scalar.cmpi .slt v276 c0_i32_212
  let v281 : BitVec 1 := Scalar.xori v279 v280
  let c0_i32_210 : BitVec 32 := 0#32
  let v278 : BitVec 1 := Scalar.cmpi .ne v277 c0_i32_210
  let v282 : BitVec 1 := Scalar.andi v281 v278
  let v283 : BitVec 32 := Scalar.addi v277 v276
  let v284 : BitVec 32 := Scalar.select v282 v283 v277
  let c1_i32_216 : BitVec 32 := 1#32
  let v286 : BitVec 32 := Scalar.muli v284 c1_i32_216
  let v287 : BitVec 32 := Scalar.addi c0_i32_217 v286
  v287.toNat
def k0_dev14 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_220 : BitVec 32 := 2#32
  let v294 : BitVec 32 := Scalar.addi v2 c2_i32_220
  let c4_i32_221 : BitVec 32 := 4#32
  let c0_i32_222 : BitVec 32 := 0#32
  let v295 : BitVec 1 := Scalar.cmpi .eq c4_i32_221 c0_i32_222
  let c1_i32_223 : BitVec 32 := 1#32
  let v296 : BitVec 32 := Scalar.select v295 c1_i32_223 c4_i32_221
  let v297 : BitVec 32 := Scalar.remsi v294 v296
  let c0_i32_225 : BitVec 32 := 0#32
  let v299 : BitVec 1 := Scalar.cmpi .slt v297 c0_i32_225
  let c0_i32_226 : BitVec 32 := 0#32
  let v300 : BitVec 1 := Scalar.cmpi .slt v296 c0_i32_226
  let v301 : BitVec 1 := Scalar.xori v299 v300
  let c0_i32_224 : BitVec 32 := 0#32
  let v298 : BitVec 1 := Scalar.cmpi .ne v297 c0_i32_224
  let v302 : BitVec 1 := Scalar.andi v301 v298
  let v303 : BitVec 32 := Scalar.addi v297 v296
  let v304 : BitVec 32 := Scalar.select v302 v303 v297
  let c1_i32_230 : BitVec 32 := 1#32
  let v306 : BitVec 32 := Scalar.muli v304 c1_i32_230
  let v307 : BitVec 32 := Scalar.addi c0_i32_231 v306
  v307.toNat
def k0_dev15 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_235 : BitVec 32 := 3#32
  let v314 : BitVec 32 := Scalar.addi v2 c3_i32_235
  let c4_i32_236 : BitVec 32 := 4#32
  let c0_i32_237 : BitVec 32 := 0#32
  let v315 : BitVec 1 := Scalar.cmpi .eq c4_i32_236 c0_i32_237
  let c1_i32_238 : BitVec 32 := 1#32
  let v316 : BitVec 32 := Scalar.select v315 c1_i32_238 c4_i32_236
  let v317 : BitVec 32 := Scalar.remsi v314 v316
  let c0_i32_240 : BitVec 32 := 0#32
  let v319 : BitVec 1 := Scalar.cmpi .slt v317 c0_i32_240
  let c0_i32_241 : BitVec 32 := 0#32
  let v320 : BitVec 1 := Scalar.cmpi .slt v316 c0_i32_241
  let v321 : BitVec 1 := Scalar.xori v319 v320
  let c0_i32_239 : BitVec 32 := 0#32
  let v318 : BitVec 1 := Scalar.cmpi .ne v317 c0_i32_239
  let v322 : BitVec 1 := Scalar.andi v321 v318
  let v323 : BitVec 32 := Scalar.addi v317 v316
  let v324 : BitVec 32 := Scalar.select v322 v323 v317
  let c1_i32_245 : BitVec 32 := 1#32
  let v326 : BitVec 32 := Scalar.muli v324 c1_i32_245
  let v327 : BitVec 32 := Scalar.addi c0_i32_246 v326
  v327.toNat
def k0_off7 (d0 : Dev nD) (c0_i32_293 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_292 : BitVec 32 := 1#32
  let v400 : BitVec 32 := Scalar.addi v2 c1_i32_292
  let v401 : BitVec 32 := Scalar.addi v400 c0_i32_293
  let c4_i32_294 : BitVec 32 := 4#32
  let c0_i32_295 : BitVec 32 := 0#32
  let v402 : BitVec 1 := Scalar.cmpi .eq c4_i32_294 c0_i32_295
  let c1_i32_296 : BitVec 32 := 1#32
  let v403 : BitVec 32 := Scalar.select v402 c1_i32_296 c4_i32_294
  let v404 : BitVec 32 := Scalar.remsi v401 v403
  let c0_i32_298 : BitVec 32 := 0#32
  let v406 : BitVec 1 := Scalar.cmpi .slt v404 c0_i32_298
  let c0_i32_299 : BitVec 32 := 0#32
  let v407 : BitVec 1 := Scalar.cmpi .slt v403 c0_i32_299
  let v408 : BitVec 1 := Scalar.xori v406 v407
  let c0_i32_297 : BitVec 32 := 0#32
  let v405 : BitVec 1 := Scalar.cmpi .ne v404 c0_i32_297
  let v409 : BitVec 1 := Scalar.andi v408 v405
  let v410 : BitVec 32 := Scalar.addi v404 v403
  let v411 : BitVec 32 := Scalar.select v409 v410 v404
  let c64_i32_300 : BitVec 32 := 64#32
  let v412 : BitVec 32 := Scalar.muli v411 c64_i32_300
  let c0_i32_306 : BitVec 32 := 0#32
  ![v412.toNat, 0]
def k0_off8 (d0 : Dev nD) (c0_i32_361 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_360 : BitVec 32 := 1#32
  let v475 : BitVec 32 := Scalar.addi v2 c1_i32_360
  let v476 : BitVec 32 := Scalar.addi v475 c0_i32_361
  let c4_i32_362 : BitVec 32 := 4#32
  let c0_i32_363 : BitVec 32 := 0#32
  let v477 : BitVec 1 := Scalar.cmpi .eq c4_i32_362 c0_i32_363
  let c1_i32_364 : BitVec 32 := 1#32
  let v478 : BitVec 32 := Scalar.select v477 c1_i32_364 c4_i32_362
  let v479 : BitVec 32 := Scalar.remsi v476 v478
  let c0_i32_366 : BitVec 32 := 0#32
  let v481 : BitVec 1 := Scalar.cmpi .slt v479 c0_i32_366
  let c0_i32_367 : BitVec 32 := 0#32
  let v482 : BitVec 1 := Scalar.cmpi .slt v478 c0_i32_367
  let v483 : BitVec 1 := Scalar.xori v481 v482
  let c0_i32_365 : BitVec 32 := 0#32
  let v480 : BitVec 1 := Scalar.cmpi .ne v479 c0_i32_365
  let v484 : BitVec 1 := Scalar.andi v483 v480
  let v485 : BitVec 32 := Scalar.addi v479 v478
  let v486 : BitVec 32 := Scalar.select v484 v485 v479
  let c64_i32_368 : BitVec 32 := 64#32
  let v487 : BitVec 32 := Scalar.muli v486 c64_i32_368
  let c512_i32_374 : BitVec 32 := 512#32
  ![v487.toNat, 512]
def k0_off9 (d0 : Dev nD) (c0_i32_430 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_429 : BitVec 32 := 1#32
  let v552 : BitVec 32 := Scalar.addi v2 c1_i32_429
  let v553 : BitVec 32 := Scalar.addi v552 c0_i32_430
  let c4_i32_431 : BitVec 32 := 4#32
  let c0_i32_432 : BitVec 32 := 0#32
  let v554 : BitVec 1 := Scalar.cmpi .eq c4_i32_431 c0_i32_432
  let c1_i32_433 : BitVec 32 := 1#32
  let v555 : BitVec 32 := Scalar.select v554 c1_i32_433 c4_i32_431
  let v556 : BitVec 32 := Scalar.remsi v553 v555
  let c0_i32_435 : BitVec 32 := 0#32
  let v558 : BitVec 1 := Scalar.cmpi .slt v556 c0_i32_435
  let c0_i32_436 : BitVec 32 := 0#32
  let v559 : BitVec 1 := Scalar.cmpi .slt v555 c0_i32_436
  let v560 : BitVec 1 := Scalar.xori v558 v559
  let c0_i32_434 : BitVec 32 := 0#32
  let v557 : BitVec 1 := Scalar.cmpi .ne v556 c0_i32_434
  let v561 : BitVec 1 := Scalar.andi v560 v557
  let v562 : BitVec 32 := Scalar.addi v556 v555
  let v563 : BitVec 32 := Scalar.select v561 v562 v556
  let c64_i32_437 : BitVec 32 := 64#32
  let v564 : BitVec 32 := Scalar.muli v563 c64_i32_437
  let c1024_i32_443 : BitVec 32 := 1024#32
  ![v564.toNat, 1024]
def k0_off10 (d0 : Dev nD) (c0_i32_494 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_493 : BitVec 32 := 1#32
  let v624 : BitVec 32 := Scalar.addi v2 c1_i32_493
  let v625 : BitVec 32 := Scalar.addi v624 c0_i32_494
  let c4_i32_495 : BitVec 32 := 4#32
  let c0_i32_496 : BitVec 32 := 0#32
  let v626 : BitVec 1 := Scalar.cmpi .eq c4_i32_495 c0_i32_496
  let c1_i32_497 : BitVec 32 := 1#32
  let v627 : BitVec 32 := Scalar.select v626 c1_i32_497 c4_i32_495
  let v628 : BitVec 32 := Scalar.remsi v625 v627
  let c0_i32_499 : BitVec 32 := 0#32
  let v630 : BitVec 1 := Scalar.cmpi .slt v628 c0_i32_499
  let c0_i32_500 : BitVec 32 := 0#32
  let v631 : BitVec 1 := Scalar.cmpi .slt v627 c0_i32_500
  let v632 : BitVec 1 := Scalar.xori v630 v631
  let c0_i32_498 : BitVec 32 := 0#32
  let v629 : BitVec 1 := Scalar.cmpi .ne v628 c0_i32_498
  let v633 : BitVec 1 := Scalar.andi v632 v629
  let v634 : BitVec 32 := Scalar.addi v628 v627
  let v635 : BitVec 32 := Scalar.select v633 v634 v628
  let c64_i32_501 : BitVec 32 := 64#32
  let v636 : BitVec 32 := Scalar.muli v635 c64_i32_501
  let c1536_i32_507 : BitVec 32 := 1536#32
  ![v636.toNat, 1536]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_562 : BitVec 32 := 512#32
  let v702 : BitVec 32 := Scalar.muli v2 c512_i32_562
  let c0_i32_567 : BitVec 32 := 0#32
  ![v702.toNat, 0]
def k0_off12 (d0 : Dev nD) (c1_i32_250 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v334 : BitVec 32 := Scalar.addi v2 c1_i32_250
  let c4_i32_251 : BitVec 32 := 4#32
  let c0_i32_252 : BitVec 32 := 0#32
  let v335 : BitVec 1 := Scalar.cmpi .eq c4_i32_251 c0_i32_252
  let c1_i32_253 : BitVec 32 := 1#32
  let v336 : BitVec 32 := Scalar.select v335 c1_i32_253 c4_i32_251
  let v337 : BitVec 32 := Scalar.remsi v334 v336
  let c0_i32_255 : BitVec 32 := 0#32
  let v339 : BitVec 1 := Scalar.cmpi .slt v337 c0_i32_255
  let c0_i32_256 : BitVec 32 := 0#32
  let v340 : BitVec 1 := Scalar.cmpi .slt v336 c0_i32_256
  let v341 : BitVec 1 := Scalar.xori v339 v340
  let c0_i32_254 : BitVec 32 := 0#32
  let v338 : BitVec 1 := Scalar.cmpi .ne v337 c0_i32_254
  let v342 : BitVec 1 := Scalar.andi v341 v338
  let v343 : BitVec 32 := Scalar.addi v337 v336
  let v344 : BitVec 32 := Scalar.select v342 v343 v337
  let c512_i32_568 : BitVec 32 := 512#32
  let v708 : BitVec 32 := Scalar.muli v344 c512_i32_568
  let c0_i32_573 : BitVec 32 := 0#32
  ![v708.toNat, 0]
def k0_off13 (d0 : Dev nD) (c1_i32_271 : BitVec 32) : Fin 2 → Nat :=
  let c0_588 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v367 : BitVec 32 := Scalar.addi v2 c1_i32_271
  let c4_i32_272 : BitVec 32 := 4#32
  let c0_i32_273 : BitVec 32 := 0#32
  let v368 : BitVec 1 := Scalar.cmpi .eq c4_i32_272 c0_i32_273
  let c1_i32_274 : BitVec 32 := 1#32
  let v369 : BitVec 32 := Scalar.select v368 c1_i32_274 c4_i32_272
  let v370 : BitVec 32 := Scalar.remsi v367 v369
  let c0_i32_276 : BitVec 32 := 0#32
  let v372 : BitVec 1 := Scalar.cmpi .slt v370 c0_i32_276
  let c0_i32_277 : BitVec 32 := 0#32
  let v373 : BitVec 1 := Scalar.cmpi .slt v369 c0_i32_277
  let v374 : BitVec 1 := Scalar.xori v372 v373
  let c0_i32_275 : BitVec 32 := 0#32
  let v371 : BitVec 1 := Scalar.cmpi .ne v370 c0_i32_275
  let v375 : BitVec 1 := Scalar.andi v374 v371
  let v376 : BitVec 32 := Scalar.addi v370 v369
  let v377 : BitVec 32 := Scalar.select v375 v376 v370
  let c512_i32_587 : BitVec 32 := 512#32
  let v724 : BitVec 32 := Scalar.muli v377 c512_i32_587
  let v725 : Index := Scalar.indexCast v724
  ![0, v725.toNat]
def k0_off14 (d0 : Dev nD) (c1_i32_271 : BitVec 32) : Fin 2 → Nat :=
  let c0_i32_603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v367 : BitVec 32 := Scalar.addi v2 c1_i32_271
  let c4_i32_272 : BitVec 32 := 4#32
  let c0_i32_273 : BitVec 32 := 0#32
  let v368 : BitVec 1 := Scalar.cmpi .eq c4_i32_272 c0_i32_273
  let c1_i32_274 : BitVec 32 := 1#32
  let v369 : BitVec 32 := Scalar.select v368 c1_i32_274 c4_i32_272
  let v370 : BitVec 32 := Scalar.remsi v367 v369
  let c0_i32_276 : BitVec 32 := 0#32
  let v372 : BitVec 1 := Scalar.cmpi .slt v370 c0_i32_276
  let c0_i32_277 : BitVec 32 := 0#32
  let v373 : BitVec 1 := Scalar.cmpi .slt v369 c0_i32_277
  let v374 : BitVec 1 := Scalar.xori v372 v373
  let c0_i32_275 : BitVec 32 := 0#32
  let v371 : BitVec 1 := Scalar.cmpi .ne v370 c0_i32_275
  let v375 : BitVec 1 := Scalar.andi v374 v371
  let v376 : BitVec 32 := Scalar.addi v370 v369
  let v377 : BitVec 32 := Scalar.select v375 v376 v370
  let c512_i32_595 : BitVec 32 := 512#32
  let v735 : BitVec 32 := Scalar.muli v377 c512_i32_595
  ![0, v735.toNat]
def k0_dev16 (d0 : Dev nD) : Nat :=
  let c0_i32_600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_271 : BitVec 32 := 1#32
  let v367 : BitVec 32 := Scalar.addi v2 c1_i32_271
  let c4_i32_272 : BitVec 32 := 4#32
  let c0_i32_273 : BitVec 32 := 0#32
  let v368 : BitVec 1 := Scalar.cmpi .eq c4_i32_272 c0_i32_273
  let c1_i32_274 : BitVec 32 := 1#32
  let v369 : BitVec 32 := Scalar.select v368 c1_i32_274 c4_i32_272
  let v370 : BitVec 32 := Scalar.remsi v367 v369
  let c0_i32_276 : BitVec 32 := 0#32
  let v372 : BitVec 1 := Scalar.cmpi .slt v370 c0_i32_276
  let c0_i32_277 : BitVec 32 := 0#32
  let v373 : BitVec 1 := Scalar.cmpi .slt v369 c0_i32_277
  let v374 : BitVec 1 := Scalar.xori v372 v373
  let c0_i32_275 : BitVec 32 := 0#32
  let v371 : BitVec 1 := Scalar.cmpi .ne v370 c0_i32_275
  let v375 : BitVec 1 := Scalar.andi v374 v371
  let v376 : BitVec 32 := Scalar.addi v370 v369
  let v377 : BitVec 32 := Scalar.select v375 v376 v370
  let c1_i32_599 : BitVec 32 := 1#32
  let v736 : BitVec 32 := Scalar.muli v377 c1_i32_599
  let v737 : BitVec 32 := Scalar.addi c0_i32_600 v736
  v737.toNat
def k0_off15 (d0 : Dev nD) : Fin 2 → Nat :=
  let c0_i32_624 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_619 : BitVec 32 := 512#32
  let v760 : BitVec 32 := Scalar.muli v2 c512_i32_619
  ![0, v760.toNat]
def k0_dev17 (d0 : Dev nD) : Nat :=
  let c0_i32_630 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_278 : BitVec 32 := 2#32
  let v378 : BitVec 32 := Scalar.addi v2 c2_i32_278
  let c4_i32_279 : BitVec 32 := 4#32
  let c0_i32_280 : BitVec 32 := 0#32
  let v379 : BitVec 1 := Scalar.cmpi .eq c4_i32_279 c0_i32_280
  let c1_i32_281 : BitVec 32 := 1#32
  let v380 : BitVec 32 := Scalar.select v379 c1_i32_281 c4_i32_279
  let v381 : BitVec 32 := Scalar.remsi v378 v380
  let c0_i32_283 : BitVec 32 := 0#32
  let v383 : BitVec 1 := Scalar.cmpi .slt v381 c0_i32_283
  let c0_i32_284 : BitVec 32 := 0#32
  let v384 : BitVec 1 := Scalar.cmpi .slt v380 c0_i32_284
  let v385 : BitVec 1 := Scalar.xori v383 v384
  let c0_i32_282 : BitVec 32 := 0#32
  let v382 : BitVec 1 := Scalar.cmpi .ne v381 c0_i32_282
  let v386 : BitVec 1 := Scalar.andi v385 v382
  let v387 : BitVec 32 := Scalar.addi v381 v380
  let v388 : BitVec 32 := Scalar.select v386 v387 v381
  let c1_i32_629 : BitVec 32 := 1#32
  let v767 : BitVec 32 := Scalar.muli v388 c1_i32_629
  let v768 : BitVec 32 := Scalar.addi c0_i32_630 v767
  v768.toNat
def k0_dev18 (d0 : Dev nD) : Nat :=
  let c0_i32_654 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_285 : BitVec 32 := 3#32
  let v389 : BitVec 32 := Scalar.addi v2 c3_i32_285
  let c4_i32_286 : BitVec 32 := 4#32
  let c0_i32_287 : BitVec 32 := 0#32
  let v390 : BitVec 1 := Scalar.cmpi .eq c4_i32_286 c0_i32_287
  let c1_i32_288 : BitVec 32 := 1#32
  let v391 : BitVec 32 := Scalar.select v390 c1_i32_288 c4_i32_286
  let v392 : BitVec 32 := Scalar.remsi v389 v391
  let c0_i32_290 : BitVec 32 := 0#32
  let v394 : BitVec 1 := Scalar.cmpi .slt v392 c0_i32_290
  let c0_i32_291 : BitVec 32 := 0#32
  let v395 : BitVec 1 := Scalar.cmpi .slt v391 c0_i32_291
  let v396 : BitVec 1 := Scalar.xori v394 v395
  let c0_i32_289 : BitVec 32 := 0#32
  let v393 : BitVec 1 := Scalar.cmpi .ne v392 c0_i32_289
  let v397 : BitVec 1 := Scalar.andi v396 v393
  let v398 : BitVec 32 := Scalar.addi v392 v391
  let v399 : BitVec 32 := Scalar.select v397 v398 v392
  let c1_i32_653 : BitVec 32 := 1#32
  let v792 : BitVec 32 := Scalar.muli v399 c1_i32_653
  let v793 : BitVec 32 := Scalar.addi c0_i32_654 v792
  v793.toNat
def k0_off16 (d0 : Dev nD) : Fin 2 → Nat :=
  let c0_672 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_671 : BitVec 32 := 512#32
  let v811 : BitVec 32 := Scalar.muli v2 c512_i32_671
  let v812 : Index := Scalar.indexCast v811
  ![0, v812.toNat]
def k0_off17 (d0 : Dev nD) : Fin 2 → Nat :=
  let c0_i32_731 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_726 : BitVec 32 := 512#32
  let v869 : BitVec 32 := Scalar.muli v2 c512_i32_726
  ![0, v869.toNat]
def k0_dev19 (d0 : Dev nD) : Nat :=
  let c0_i32_730 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_718 : BitVec 32 := 3#32
  let v857 : BitVec 32 := Scalar.addi v2 c3_i32_718
  let c4_i32_719 : BitVec 32 := 4#32
  let c0_i32_720 : BitVec 32 := 0#32
  let v858 : BitVec 1 := Scalar.cmpi .eq c4_i32_719 c0_i32_720
  let c1_i32_721 : BitVec 32 := 1#32
  let v859 : BitVec 32 := Scalar.select v858 c1_i32_721 c4_i32_719
  let v860 : BitVec 32 := Scalar.remsi v857 v859
  let c0_i32_723 : BitVec 32 := 0#32
  let v862 : BitVec 1 := Scalar.cmpi .slt v860 c0_i32_723
  let c0_i32_724 : BitVec 32 := 0#32
  let v863 : BitVec 1 := Scalar.cmpi .slt v859 c0_i32_724
  let v864 : BitVec 1 := Scalar.xori v862 v863
  let c0_i32_722 : BitVec 32 := 0#32
  let v861 : BitVec 1 := Scalar.cmpi .ne v860 c0_i32_722
  let v865 : BitVec 1 := Scalar.andi v864 v861
  let v866 : BitVec 32 := Scalar.addi v860 v859
  let v867 : BitVec 32 := Scalar.select v865 v866 v860
  let c1_i32_729 : BitVec 32 := 1#32
  let v870 : BitVec 32 := Scalar.muli v867 c1_i32_729
  let v871 : BitVec 32 := Scalar.addi c0_i32_730 v870
  v871.toNat
def k0_dev20 (d0 : Dev nD) : Nat :=
  let c0_i32_745 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_733 : BitVec 32 := 1#32
  let v878 : BitVec 32 := Scalar.addi v2 c1_i32_733
  let c4_i32_734 : BitVec 32 := 4#32
  let c0_i32_735 : BitVec 32 := 0#32
  let v879 : BitVec 1 := Scalar.cmpi .eq c4_i32_734 c0_i32_735
  let c1_i32_736 : BitVec 32 := 1#32
  let v880 : BitVec 32 := Scalar.select v879 c1_i32_736 c4_i32_734
  let v881 : BitVec 32 := Scalar.remsi v878 v880
  let c0_i32_738 : BitVec 32 := 0#32
  let v883 : BitVec 1 := Scalar.cmpi .slt v881 c0_i32_738
  let c0_i32_739 : BitVec 32 := 0#32
  let v884 : BitVec 1 := Scalar.cmpi .slt v880 c0_i32_739
  let v885 : BitVec 1 := Scalar.xori v883 v884
  let c0_i32_737 : BitVec 32 := 0#32
  let v882 : BitVec 1 := Scalar.cmpi .ne v881 c0_i32_737
  let v886 : BitVec 1 := Scalar.andi v885 v882
  let v887 : BitVec 32 := Scalar.addi v881 v880
  let v888 : BitVec 32 := Scalar.select v886 v887 v881
  let c1_i32_744 : BitVec 32 := 1#32
  let v891 : BitVec 32 := Scalar.muli v888 c1_i32_744
  let v892 : BitVec 32 := Scalar.addi c0_i32_745 v891
  v892.toNat
def k0_dev21 (d0 : Dev nD) : Nat :=
  let c0_i32_760 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_748 : BitVec 32 := 2#32
  let v899 : BitVec 32 := Scalar.addi v2 c2_i32_748
  let c4_i32_749 : BitVec 32 := 4#32
  let c0_i32_750 : BitVec 32 := 0#32
  let v900 : BitVec 1 := Scalar.cmpi .eq c4_i32_749 c0_i32_750
  let c1_i32_751 : BitVec 32 := 1#32
  let v901 : BitVec 32 := Scalar.select v900 c1_i32_751 c4_i32_749
  let v902 : BitVec 32 := Scalar.remsi v899 v901
  let c0_i32_753 : BitVec 32 := 0#32
  let v904 : BitVec 1 := Scalar.cmpi .slt v902 c0_i32_753
  let c0_i32_754 : BitVec 32 := 0#32
  let v905 : BitVec 1 := Scalar.cmpi .slt v901 c0_i32_754
  let v906 : BitVec 1 := Scalar.xori v904 v905
  let c0_i32_752 : BitVec 32 := 0#32
  let v903 : BitVec 1 := Scalar.cmpi .ne v902 c0_i32_752
  let v907 : BitVec 1 := Scalar.andi v906 v903
  let v908 : BitVec 32 := Scalar.addi v902 v901
  let v909 : BitVec 32 := Scalar.select v907 v908 v902
  let c1_i32_759 : BitVec 32 := 1#32
  let v912 : BitVec 32 := Scalar.muli v909 c1_i32_759
  let v913 : BitVec 32 := Scalar.addi c0_i32_760 v912
  v913.toNat
def k0_dev22 (d0 : Dev nD) : Nat :=
  let c0_i32_920 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_271 : BitVec 32 := 1#32
  let v367 : BitVec 32 := Scalar.addi v2 c1_i32_271
  let c4_i32_272 : BitVec 32 := 4#32
  let c0_i32_273 : BitVec 32 := 0#32
  let v368 : BitVec 1 := Scalar.cmpi .eq c4_i32_272 c0_i32_273
  let c1_i32_274 : BitVec 32 := 1#32
  let v369 : BitVec 32 := Scalar.select v368 c1_i32_274 c4_i32_272
  let v370 : BitVec 32 := Scalar.remsi v367 v369
  let c0_i32_276 : BitVec 32 := 0#32
  let v372 : BitVec 1 := Scalar.cmpi .slt v370 c0_i32_276
  let c0_i32_277 : BitVec 32 := 0#32
  let v373 : BitVec 1 := Scalar.cmpi .slt v369 c0_i32_277
  let v374 : BitVec 1 := Scalar.xori v372 v373
  let c0_i32_275 : BitVec 32 := 0#32
  let v371 : BitVec 1 := Scalar.cmpi .ne v370 c0_i32_275
  let v375 : BitVec 1 := Scalar.andi v374 v371
  let v376 : BitVec 32 := Scalar.addi v370 v369
  let v377 : BitVec 32 := Scalar.select v375 v376 v370
  let c1_i32_919 : BitVec 32 := 1#32
  let v1071 : BitVec 32 := Scalar.muli v377 c1_i32_919
  let v1072 : BitVec 32 := Scalar.addi c0_i32_920 v1071
  v1072.toNat
def k0_dev23 (d0 : Dev nD) : Nat :=
  let c0_i32_950 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_278 : BitVec 32 := 2#32
  let v378 : BitVec 32 := Scalar.addi v2 c2_i32_278
  let c4_i32_279 : BitVec 32 := 4#32
  let c0_i32_280 : BitVec 32 := 0#32
  let v379 : BitVec 1 := Scalar.cmpi .eq c4_i32_279 c0_i32_280
  let c1_i32_281 : BitVec 32 := 1#32
  let v380 : BitVec 32 := Scalar.select v379 c1_i32_281 c4_i32_279
  let v381 : BitVec 32 := Scalar.remsi v378 v380
  let c0_i32_283 : BitVec 32 := 0#32
  let v383 : BitVec 1 := Scalar.cmpi .slt v381 c0_i32_283
  let c0_i32_284 : BitVec 32 := 0#32
  let v384 : BitVec 1 := Scalar.cmpi .slt v380 c0_i32_284
  let v385 : BitVec 1 := Scalar.xori v383 v384
  let c0_i32_282 : BitVec 32 := 0#32
  let v382 : BitVec 1 := Scalar.cmpi .ne v381 c0_i32_282
  let v386 : BitVec 1 := Scalar.andi v385 v382
  let v387 : BitVec 32 := Scalar.addi v381 v380
  let v388 : BitVec 32 := Scalar.select v386 v387 v381
  let c1_i32_949 : BitVec 32 := 1#32
  let v1102 : BitVec 32 := Scalar.muli v388 c1_i32_949
  let v1103 : BitVec 32 := Scalar.addi c0_i32_950 v1102
  v1103.toNat
def k0_dev24 (d0 : Dev nD) : Nat :=
  let c0_i32_974 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_285 : BitVec 32 := 3#32
  let v389 : BitVec 32 := Scalar.addi v2 c3_i32_285
  let c4_i32_286 : BitVec 32 := 4#32
  let c0_i32_287 : BitVec 32 := 0#32
  let v390 : BitVec 1 := Scalar.cmpi .eq c4_i32_286 c0_i32_287
  let c1_i32_288 : BitVec 32 := 1#32
  let v391 : BitVec 32 := Scalar.select v390 c1_i32_288 c4_i32_286
  let v392 : BitVec 32 := Scalar.remsi v389 v391
  let c0_i32_290 : BitVec 32 := 0#32
  let v394 : BitVec 1 := Scalar.cmpi .slt v392 c0_i32_290
  let c0_i32_291 : BitVec 32 := 0#32
  let v395 : BitVec 1 := Scalar.cmpi .slt v391 c0_i32_291
  let v396 : BitVec 1 := Scalar.xori v394 v395
  let c0_i32_289 : BitVec 32 := 0#32
  let v393 : BitVec 1 := Scalar.cmpi .ne v392 c0_i32_289
  let v397 : BitVec 1 := Scalar.andi v396 v393
  let v398 : BitVec 32 := Scalar.addi v392 v391
  let v399 : BitVec 32 := Scalar.select v397 v398 v392
  let c1_i32_973 : BitVec 32 := 1#32
  let v1127 : BitVec 32 := Scalar.muli v399 c1_i32_973
  let v1128 : BitVec 32 := Scalar.addi c0_i32_974 v1127
  v1128.toNat
def k0_dev25 (d0 : Dev nD) : Nat :=
  let c0_i32_1051 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1039 : BitVec 32 := 3#32
  let v1192 : BitVec 32 := Scalar.addi v2 c3_i32_1039
  let c4_i32_1040 : BitVec 32 := 4#32
  let c0_i32_1041 : BitVec 32 := 0#32
  let v1193 : BitVec 1 := Scalar.cmpi .eq c4_i32_1040 c0_i32_1041
  let c1_i32_1042 : BitVec 32 := 1#32
  let v1194 : BitVec 32 := Scalar.select v1193 c1_i32_1042 c4_i32_1040
  let v1195 : BitVec 32 := Scalar.remsi v1192 v1194
  let c0_i32_1044 : BitVec 32 := 0#32
  let v1197 : BitVec 1 := Scalar.cmpi .slt v1195 c0_i32_1044
  let c0_i32_1045 : BitVec 32 := 0#32
  let v1198 : BitVec 1 := Scalar.cmpi .slt v1194 c0_i32_1045
  let v1199 : BitVec 1 := Scalar.xori v1197 v1198
  let c0_i32_1043 : BitVec 32 := 0#32
  let v1196 : BitVec 1 := Scalar.cmpi .ne v1195 c0_i32_1043
  let v1200 : BitVec 1 := Scalar.andi v1199 v1196
  let v1201 : BitVec 32 := Scalar.addi v1195 v1194
  let v1202 : BitVec 32 := Scalar.select v1200 v1201 v1195
  let c1_i32_1050 : BitVec 32 := 1#32
  let v1205 : BitVec 32 := Scalar.muli v1202 c1_i32_1050
  let v1206 : BitVec 32 := Scalar.addi c0_i32_1051 v1205
  v1206.toNat
def k0_dev26 (d0 : Dev nD) : Nat :=
  let c0_i32_1066 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1054 : BitVec 32 := 1#32
  let v1213 : BitVec 32 := Scalar.addi v2 c1_i32_1054
  let c4_i32_1055 : BitVec 32 := 4#32
  let c0_i32_1056 : BitVec 32 := 0#32
  let v1214 : BitVec 1 := Scalar.cmpi .eq c4_i32_1055 c0_i32_1056
  let c1_i32_1057 : BitVec 32 := 1#32
  let v1215 : BitVec 32 := Scalar.select v1214 c1_i32_1057 c4_i32_1055
  let v1216 : BitVec 32 := Scalar.remsi v1213 v1215
  let c0_i32_1059 : BitVec 32 := 0#32
  let v1218 : BitVec 1 := Scalar.cmpi .slt v1216 c0_i32_1059
  let c0_i32_1060 : BitVec 32 := 0#32
  let v1219 : BitVec 1 := Scalar.cmpi .slt v1215 c0_i32_1060
  let v1220 : BitVec 1 := Scalar.xori v1218 v1219
  let c0_i32_1058 : BitVec 32 := 0#32
  let v1217 : BitVec 1 := Scalar.cmpi .ne v1216 c0_i32_1058
  let v1221 : BitVec 1 := Scalar.andi v1220 v1217
  let v1222 : BitVec 32 := Scalar.addi v1216 v1215
  let v1223 : BitVec 32 := Scalar.select v1221 v1222 v1216
  let c1_i32_1065 : BitVec 32 := 1#32
  let v1226 : BitVec 32 := Scalar.muli v1223 c1_i32_1065
  let v1227 : BitVec 32 := Scalar.addi c0_i32_1066 v1226
  v1227.toNat
def k0_dev27 (d0 : Dev nD) : Nat :=
  let c0_i32_1081 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1069 : BitVec 32 := 2#32
  let v1234 : BitVec 32 := Scalar.addi v2 c2_i32_1069
  let c4_i32_1070 : BitVec 32 := 4#32
  let c0_i32_1071 : BitVec 32 := 0#32
  let v1235 : BitVec 1 := Scalar.cmpi .eq c4_i32_1070 c0_i32_1071
  let c1_i32_1072 : BitVec 32 := 1#32
  let v1236 : BitVec 32 := Scalar.select v1235 c1_i32_1072 c4_i32_1070
  let v1237 : BitVec 32 := Scalar.remsi v1234 v1236
  let c0_i32_1074 : BitVec 32 := 0#32
  let v1239 : BitVec 1 := Scalar.cmpi .slt v1237 c0_i32_1074
  let c0_i32_1075 : BitVec 32 := 0#32
  let v1240 : BitVec 1 := Scalar.cmpi .slt v1236 c0_i32_1075
  let v1241 : BitVec 1 := Scalar.xori v1239 v1240
  let c0_i32_1073 : BitVec 32 := 0#32
  let v1238 : BitVec 1 := Scalar.cmpi .ne v1237 c0_i32_1073
  let v1242 : BitVec 1 := Scalar.andi v1241 v1238
  let v1243 : BitVec 32 := Scalar.addi v1237 v1236
  let v1244 : BitVec 32 := Scalar.select v1242 v1243 v1237
  let c1_i32_1080 : BitVec 32 := 1#32
  let v1247 : BitVec 32 := Scalar.muli v1244 c1_i32_1080
  let v1248 : BitVec 32 := Scalar.addi c0_i32_1081 v1247
  v1248.toNat
def k0_off18 (d0 : Dev nD) (c1_i32_1224 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1388 : BitVec 32 := Scalar.addi v2 c1_i32_1224
  let c4_i32_1225 : BitVec 32 := 4#32
  let c0_i32_1226 : BitVec 32 := 0#32
  let v1389 : BitVec 1 := Scalar.cmpi .eq c4_i32_1225 c0_i32_1226
  let c1_i32_1227 : BitVec 32 := 1#32
  let v1390 : BitVec 32 := Scalar.select v1389 c1_i32_1227 c4_i32_1225
  let v1391 : BitVec 32 := Scalar.remsi v1388 v1390
  let c0_i32_1229 : BitVec 32 := 0#32
  let v1393 : BitVec 1 := Scalar.cmpi .slt v1391 c0_i32_1229
  let c0_i32_1230 : BitVec 32 := 0#32
  let v1394 : BitVec 1 := Scalar.cmpi .slt v1390 c0_i32_1230
  let v1395 : BitVec 1 := Scalar.xori v1393 v1394
  let c0_i32_1228 : BitVec 32 := 0#32
  let v1392 : BitVec 1 := Scalar.cmpi .ne v1391 c0_i32_1228
  let v1396 : BitVec 1 := Scalar.andi v1395 v1392
  let v1397 : BitVec 32 := Scalar.addi v1391 v1390
  let v1398 : BitVec 32 := Scalar.select v1396 v1397 v1391
  let c64_i32_1231 : BitVec 32 := 64#32
  let v1399 : BitVec 32 := Scalar.muli v1398 c64_i32_1231
  let c0_i32_1239 : BitVec 32 := 0#32
  ![v1399.toNat, 0]
def k0_dev28 (d0 : Dev nD) : Nat :=
  let c0_i32_1236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1224 : BitVec 32 := 1#32
  let v1388 : BitVec 32 := Scalar.addi v2 c1_i32_1224
  let c4_i32_1225 : BitVec 32 := 4#32
  let c0_i32_1226 : BitVec 32 := 0#32
  let v1389 : BitVec 1 := Scalar.cmpi .eq c4_i32_1225 c0_i32_1226
  let c1_i32_1227 : BitVec 32 := 1#32
  let v1390 : BitVec 32 := Scalar.select v1389 c1_i32_1227 c4_i32_1225
  let v1391 : BitVec 32 := Scalar.remsi v1388 v1390
  let c0_i32_1229 : BitVec 32 := 0#32
  let v1393 : BitVec 1 := Scalar.cmpi .slt v1391 c0_i32_1229
  let c0_i32_1230 : BitVec 32 := 0#32
  let v1394 : BitVec 1 := Scalar.cmpi .slt v1390 c0_i32_1230
  let v1395 : BitVec 1 := Scalar.xori v1393 v1394
  let c0_i32_1228 : BitVec 32 := 0#32
  let v1392 : BitVec 1 := Scalar.cmpi .ne v1391 c0_i32_1228
  let v1396 : BitVec 1 := Scalar.andi v1395 v1392
  let v1397 : BitVec 32 := Scalar.addi v1391 v1390
  let v1398 : BitVec 32 := Scalar.select v1396 v1397 v1391
  let c1_i32_1235 : BitVec 32 := 1#32
  let v1400 : BitVec 32 := Scalar.muli v1398 c1_i32_1235
  let v1401 : BitVec 32 := Scalar.addi c0_i32_1236 v1400
  v1401.toNat
def k0_dev29 (d0 : Dev nD) : Nat :=
  let c0_i32_1252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1240 : BitVec 32 := 2#32
  let v1409 : BitVec 32 := Scalar.addi v2 c2_i32_1240
  let c4_i32_1241 : BitVec 32 := 4#32
  let c0_i32_1242 : BitVec 32 := 0#32
  let v1410 : BitVec 1 := Scalar.cmpi .eq c4_i32_1241 c0_i32_1242
  let c1_i32_1243 : BitVec 32 := 1#32
  let v1411 : BitVec 32 := Scalar.select v1410 c1_i32_1243 c4_i32_1241
  let v1412 : BitVec 32 := Scalar.remsi v1409 v1411
  let c0_i32_1245 : BitVec 32 := 0#32
  let v1414 : BitVec 1 := Scalar.cmpi .slt v1412 c0_i32_1245
  let c0_i32_1246 : BitVec 32 := 0#32
  let v1415 : BitVec 1 := Scalar.cmpi .slt v1411 c0_i32_1246
  let v1416 : BitVec 1 := Scalar.xori v1414 v1415
  let c0_i32_1244 : BitVec 32 := 0#32
  let v1413 : BitVec 1 := Scalar.cmpi .ne v1412 c0_i32_1244
  let v1417 : BitVec 1 := Scalar.andi v1416 v1413
  let v1418 : BitVec 32 := Scalar.addi v1412 v1411
  let v1419 : BitVec 32 := Scalar.select v1417 v1418 v1412
  let c1_i32_1251 : BitVec 32 := 1#32
  let v1421 : BitVec 32 := Scalar.muli v1419 c1_i32_1251
  let v1422 : BitVec 32 := Scalar.addi c0_i32_1252 v1421
  v1422.toNat
def k0_dev30 (d0 : Dev nD) : Nat :=
  let c0_i32_1268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1256 : BitVec 32 := 3#32
  let v1430 : BitVec 32 := Scalar.addi v2 c3_i32_1256
  let c4_i32_1257 : BitVec 32 := 4#32
  let c0_i32_1258 : BitVec 32 := 0#32
  let v1431 : BitVec 1 := Scalar.cmpi .eq c4_i32_1257 c0_i32_1258
  let c1_i32_1259 : BitVec 32 := 1#32
  let v1432 : BitVec 32 := Scalar.select v1431 c1_i32_1259 c4_i32_1257
  let v1433 : BitVec 32 := Scalar.remsi v1430 v1432
  let c0_i32_1261 : BitVec 32 := 0#32
  let v1435 : BitVec 1 := Scalar.cmpi .slt v1433 c0_i32_1261
  let c0_i32_1262 : BitVec 32 := 0#32
  let v1436 : BitVec 1 := Scalar.cmpi .slt v1432 c0_i32_1262
  let v1437 : BitVec 1 := Scalar.xori v1435 v1436
  let c0_i32_1260 : BitVec 32 := 0#32
  let v1434 : BitVec 1 := Scalar.cmpi .ne v1433 c0_i32_1260
  let v1438 : BitVec 1 := Scalar.andi v1437 v1434
  let v1439 : BitVec 32 := Scalar.addi v1433 v1432
  let v1440 : BitVec 32 := Scalar.select v1438 v1439 v1433
  let c1_i32_1267 : BitVec 32 := 1#32
  let v1442 : BitVec 32 := Scalar.muli v1440 c1_i32_1267
  let v1443 : BitVec 32 := Scalar.addi c0_i32_1268 v1442
  v1443.toNat
def k0_off19 (d0 : Dev nD) (c1_i32_1293 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1469 : BitVec 32 := Scalar.addi v2 c1_i32_1293
  let c4_i32_1294 : BitVec 32 := 4#32
  let c0_i32_1295 : BitVec 32 := 0#32
  let v1470 : BitVec 1 := Scalar.cmpi .eq c4_i32_1294 c0_i32_1295
  let c1_i32_1296 : BitVec 32 := 1#32
  let v1471 : BitVec 32 := Scalar.select v1470 c1_i32_1296 c4_i32_1294
  let v1472 : BitVec 32 := Scalar.remsi v1469 v1471
  let c0_i32_1298 : BitVec 32 := 0#32
  let v1474 : BitVec 1 := Scalar.cmpi .slt v1472 c0_i32_1298
  let c0_i32_1299 : BitVec 32 := 0#32
  let v1475 : BitVec 1 := Scalar.cmpi .slt v1471 c0_i32_1299
  let v1476 : BitVec 1 := Scalar.xori v1474 v1475
  let c0_i32_1297 : BitVec 32 := 0#32
  let v1473 : BitVec 1 := Scalar.cmpi .ne v1472 c0_i32_1297
  let v1477 : BitVec 1 := Scalar.andi v1476 v1473
  let v1478 : BitVec 32 := Scalar.addi v1472 v1471
  let v1479 : BitVec 32 := Scalar.select v1477 v1478 v1472
  let c64_i32_1300 : BitVec 32 := 64#32
  let v1480 : BitVec 32 := Scalar.muli v1479 c64_i32_1300
  let c512_i32_1308 : BitVec 32 := 512#32
  ![v1480.toNat, 512]
def k0_dev31 (d0 : Dev nD) : Nat :=
  let c0_i32_1305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1293 : BitVec 32 := 1#32
  let v1469 : BitVec 32 := Scalar.addi v2 c1_i32_1293
  let c4_i32_1294 : BitVec 32 := 4#32
  let c0_i32_1295 : BitVec 32 := 0#32
  let v1470 : BitVec 1 := Scalar.cmpi .eq c4_i32_1294 c0_i32_1295
  let c1_i32_1296 : BitVec 32 := 1#32
  let v1471 : BitVec 32 := Scalar.select v1470 c1_i32_1296 c4_i32_1294
  let v1472 : BitVec 32 := Scalar.remsi v1469 v1471
  let c0_i32_1298 : BitVec 32 := 0#32
  let v1474 : BitVec 1 := Scalar.cmpi .slt v1472 c0_i32_1298
  let c0_i32_1299 : BitVec 32 := 0#32
  let v1475 : BitVec 1 := Scalar.cmpi .slt v1471 c0_i32_1299
  let v1476 : BitVec 1 := Scalar.xori v1474 v1475
  let c0_i32_1297 : BitVec 32 := 0#32
  let v1473 : BitVec 1 := Scalar.cmpi .ne v1472 c0_i32_1297
  let v1477 : BitVec 1 := Scalar.andi v1476 v1473
  let v1478 : BitVec 32 := Scalar.addi v1472 v1471
  let v1479 : BitVec 32 := Scalar.select v1477 v1478 v1472
  let c1_i32_1304 : BitVec 32 := 1#32
  let v1481 : BitVec 32 := Scalar.muli v1479 c1_i32_1304
  let v1482 : BitVec 32 := Scalar.addi c0_i32_1305 v1481
  v1482.toNat
def k0_dev32 (d0 : Dev nD) : Nat :=
  let c0_i32_1321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1309 : BitVec 32 := 2#32
  let v1490 : BitVec 32 := Scalar.addi v2 c2_i32_1309
  let c4_i32_1310 : BitVec 32 := 4#32
  let c0_i32_1311 : BitVec 32 := 0#32
  let v1491 : BitVec 1 := Scalar.cmpi .eq c4_i32_1310 c0_i32_1311
  let c1_i32_1312 : BitVec 32 := 1#32
  let v1492 : BitVec 32 := Scalar.select v1491 c1_i32_1312 c4_i32_1310
  let v1493 : BitVec 32 := Scalar.remsi v1490 v1492
  let c0_i32_1314 : BitVec 32 := 0#32
  let v1495 : BitVec 1 := Scalar.cmpi .slt v1493 c0_i32_1314
  let c0_i32_1315 : BitVec 32 := 0#32
  let v1496 : BitVec 1 := Scalar.cmpi .slt v1492 c0_i32_1315
  let v1497 : BitVec 1 := Scalar.xori v1495 v1496
  let c0_i32_1313 : BitVec 32 := 0#32
  let v1494 : BitVec 1 := Scalar.cmpi .ne v1493 c0_i32_1313
  let v1498 : BitVec 1 := Scalar.andi v1497 v1494
  let v1499 : BitVec 32 := Scalar.addi v1493 v1492
  let v1500 : BitVec 32 := Scalar.select v1498 v1499 v1493
  let c1_i32_1320 : BitVec 32 := 1#32
  let v1502 : BitVec 32 := Scalar.muli v1500 c1_i32_1320
  let v1503 : BitVec 32 := Scalar.addi c0_i32_1321 v1502
  v1503.toNat
def k0_dev33 (d0 : Dev nD) : Nat :=
  let c0_i32_1337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1325 : BitVec 32 := 3#32
  let v1511 : BitVec 32 := Scalar.addi v2 c3_i32_1325
  let c4_i32_1326 : BitVec 32 := 4#32
  let c0_i32_1327 : BitVec 32 := 0#32
  let v1512 : BitVec 1 := Scalar.cmpi .eq c4_i32_1326 c0_i32_1327
  let c1_i32_1328 : BitVec 32 := 1#32
  let v1513 : BitVec 32 := Scalar.select v1512 c1_i32_1328 c4_i32_1326
  let v1514 : BitVec 32 := Scalar.remsi v1511 v1513
  let c0_i32_1330 : BitVec 32 := 0#32
  let v1516 : BitVec 1 := Scalar.cmpi .slt v1514 c0_i32_1330
  let c0_i32_1331 : BitVec 32 := 0#32
  let v1517 : BitVec 1 := Scalar.cmpi .slt v1513 c0_i32_1331
  let v1518 : BitVec 1 := Scalar.xori v1516 v1517
  let c0_i32_1329 : BitVec 32 := 0#32
  let v1515 : BitVec 1 := Scalar.cmpi .ne v1514 c0_i32_1329
  let v1519 : BitVec 1 := Scalar.andi v1518 v1515
  let v1520 : BitVec 32 := Scalar.addi v1514 v1513
  let v1521 : BitVec 32 := Scalar.select v1519 v1520 v1514
  let c1_i32_1336 : BitVec 32 := 1#32
  let v1523 : BitVec 32 := Scalar.muli v1521 c1_i32_1336
  let v1524 : BitVec 32 := Scalar.addi c0_i32_1337 v1523
  v1524.toNat
def k0_off20 (d0 : Dev nD) (c1_i32_1356 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1545 : BitVec 32 := Scalar.addi v2 c1_i32_1356
  let c4_i32_1357 : BitVec 32 := 4#32
  let c0_i32_1358 : BitVec 32 := 0#32
  let v1546 : BitVec 1 := Scalar.cmpi .eq c4_i32_1357 c0_i32_1358
  let c1_i32_1359 : BitVec 32 := 1#32
  let v1547 : BitVec 32 := Scalar.select v1546 c1_i32_1359 c4_i32_1357
  let v1548 : BitVec 32 := Scalar.remsi v1545 v1547
  let c0_i32_1361 : BitVec 32 := 0#32
  let v1550 : BitVec 1 := Scalar.cmpi .slt v1548 c0_i32_1361
  let c0_i32_1362 : BitVec 32 := 0#32
  let v1551 : BitVec 1 := Scalar.cmpi .slt v1547 c0_i32_1362
  let v1552 : BitVec 1 := Scalar.xori v1550 v1551
  let c0_i32_1360 : BitVec 32 := 0#32
  let v1549 : BitVec 1 := Scalar.cmpi .ne v1548 c0_i32_1360
  let v1553 : BitVec 1 := Scalar.andi v1552 v1549
  let v1554 : BitVec 32 := Scalar.addi v1548 v1547
  let v1555 : BitVec 32 := Scalar.select v1553 v1554 v1548
  let c64_i32_1363 : BitVec 32 := 64#32
  let v1556 : BitVec 32 := Scalar.muli v1555 c64_i32_1363
  let c1024_i32_1371 : BitVec 32 := 1024#32
  ![v1556.toNat, 1024]
def k0_dev34 (d0 : Dev nD) : Nat :=
  let c0_i32_1368 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1356 : BitVec 32 := 1#32
  let v1545 : BitVec 32 := Scalar.addi v2 c1_i32_1356
  let c4_i32_1357 : BitVec 32 := 4#32
  let c0_i32_1358 : BitVec 32 := 0#32
  let v1546 : BitVec 1 := Scalar.cmpi .eq c4_i32_1357 c0_i32_1358
  let c1_i32_1359 : BitVec 32 := 1#32
  let v1547 : BitVec 32 := Scalar.select v1546 c1_i32_1359 c4_i32_1357
  let v1548 : BitVec 32 := Scalar.remsi v1545 v1547
  let c0_i32_1361 : BitVec 32 := 0#32
  let v1550 : BitVec 1 := Scalar.cmpi .slt v1548 c0_i32_1361
  let c0_i32_1362 : BitVec 32 := 0#32
  let v1551 : BitVec 1 := Scalar.cmpi .slt v1547 c0_i32_1362
  let v1552 : BitVec 1 := Scalar.xori v1550 v1551
  let c0_i32_1360 : BitVec 32 := 0#32
  let v1549 : BitVec 1 := Scalar.cmpi .ne v1548 c0_i32_1360
  let v1553 : BitVec 1 := Scalar.andi v1552 v1549
  let v1554 : BitVec 32 := Scalar.addi v1548 v1547
  let v1555 : BitVec 32 := Scalar.select v1553 v1554 v1548
  let c1_i32_1367 : BitVec 32 := 1#32
  let v1557 : BitVec 32 := Scalar.muli v1555 c1_i32_1367
  let v1558 : BitVec 32 := Scalar.addi c0_i32_1368 v1557
  v1558.toNat
def k0_dev35 (d0 : Dev nD) : Nat :=
  let c0_i32_1384 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1372 : BitVec 32 := 2#32
  let v1566 : BitVec 32 := Scalar.addi v2 c2_i32_1372
  let c4_i32_1373 : BitVec 32 := 4#32
  let c0_i32_1374 : BitVec 32 := 0#32
  let v1567 : BitVec 1 := Scalar.cmpi .eq c4_i32_1373 c0_i32_1374
  let c1_i32_1375 : BitVec 32 := 1#32
  let v1568 : BitVec 32 := Scalar.select v1567 c1_i32_1375 c4_i32_1373
  let v1569 : BitVec 32 := Scalar.remsi v1566 v1568
  let c0_i32_1377 : BitVec 32 := 0#32
  let v1571 : BitVec 1 := Scalar.cmpi .slt v1569 c0_i32_1377
  let c0_i32_1378 : BitVec 32 := 0#32
  let v1572 : BitVec 1 := Scalar.cmpi .slt v1568 c0_i32_1378
  let v1573 : BitVec 1 := Scalar.xori v1571 v1572
  let c0_i32_1376 : BitVec 32 := 0#32
  let v1570 : BitVec 1 := Scalar.cmpi .ne v1569 c0_i32_1376
  let v1574 : BitVec 1 := Scalar.andi v1573 v1570
  let v1575 : BitVec 32 := Scalar.addi v1569 v1568
  let v1576 : BitVec 32 := Scalar.select v1574 v1575 v1569
  let c1_i32_1383 : BitVec 32 := 1#32
  let v1578 : BitVec 32 := Scalar.muli v1576 c1_i32_1383
  let v1579 : BitVec 32 := Scalar.addi c0_i32_1384 v1578
  v1579.toNat
def k0_dev36 (d0 : Dev nD) : Nat :=
  let c0_i32_1400 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1388 : BitVec 32 := 3#32
  let v1587 : BitVec 32 := Scalar.addi v2 c3_i32_1388
  let c4_i32_1389 : BitVec 32 := 4#32
  let c0_i32_1390 : BitVec 32 := 0#32
  let v1588 : BitVec 1 := Scalar.cmpi .eq c4_i32_1389 c0_i32_1390
  let c1_i32_1391 : BitVec 32 := 1#32
  let v1589 : BitVec 32 := Scalar.select v1588 c1_i32_1391 c4_i32_1389
  let v1590 : BitVec 32 := Scalar.remsi v1587 v1589
  let c0_i32_1393 : BitVec 32 := 0#32
  let v1592 : BitVec 1 := Scalar.cmpi .slt v1590 c0_i32_1393
  let c0_i32_1394 : BitVec 32 := 0#32
  let v1593 : BitVec 1 := Scalar.cmpi .slt v1589 c0_i32_1394
  let v1594 : BitVec 1 := Scalar.xori v1592 v1593
  let c0_i32_1392 : BitVec 32 := 0#32
  let v1591 : BitVec 1 := Scalar.cmpi .ne v1590 c0_i32_1392
  let v1595 : BitVec 1 := Scalar.andi v1594 v1591
  let v1596 : BitVec 32 := Scalar.addi v1590 v1589
  let v1597 : BitVec 32 := Scalar.select v1595 v1596 v1590
  let c1_i32_1399 : BitVec 32 := 1#32
  let v1599 : BitVec 32 := Scalar.muli v1597 c1_i32_1399
  let v1600 : BitVec 32 := Scalar.addi c0_i32_1400 v1599
  v1600.toNat
def k0_off21 (d0 : Dev nD) (c1_i32_1419 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1621 : BitVec 32 := Scalar.addi v2 c1_i32_1419
  let c4_i32_1420 : BitVec 32 := 4#32
  let c0_i32_1421 : BitVec 32 := 0#32
  let v1622 : BitVec 1 := Scalar.cmpi .eq c4_i32_1420 c0_i32_1421
  let c1_i32_1422 : BitVec 32 := 1#32
  let v1623 : BitVec 32 := Scalar.select v1622 c1_i32_1422 c4_i32_1420
  let v1624 : BitVec 32 := Scalar.remsi v1621 v1623
  let c0_i32_1424 : BitVec 32 := 0#32
  let v1626 : BitVec 1 := Scalar.cmpi .slt v1624 c0_i32_1424
  let c0_i32_1425 : BitVec 32 := 0#32
  let v1627 : BitVec 1 := Scalar.cmpi .slt v1623 c0_i32_1425
  let v1628 : BitVec 1 := Scalar.xori v1626 v1627
  let c0_i32_1423 : BitVec 32 := 0#32
  let v1625 : BitVec 1 := Scalar.cmpi .ne v1624 c0_i32_1423
  let v1629 : BitVec 1 := Scalar.andi v1628 v1625
  let v1630 : BitVec 32 := Scalar.addi v1624 v1623
  let v1631 : BitVec 32 := Scalar.select v1629 v1630 v1624
  let c64_i32_1426 : BitVec 32 := 64#32
  let v1632 : BitVec 32 := Scalar.muli v1631 c64_i32_1426
  let c1536_i32_1434 : BitVec 32 := 1536#32
  ![v1632.toNat, 1536]
def k0_dev37 (d0 : Dev nD) : Nat :=
  let c0_i32_1431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1419 : BitVec 32 := 1#32
  let v1621 : BitVec 32 := Scalar.addi v2 c1_i32_1419
  let c4_i32_1420 : BitVec 32 := 4#32
  let c0_i32_1421 : BitVec 32 := 0#32
  let v1622 : BitVec 1 := Scalar.cmpi .eq c4_i32_1420 c0_i32_1421
  let c1_i32_1422 : BitVec 32 := 1#32
  let v1623 : BitVec 32 := Scalar.select v1622 c1_i32_1422 c4_i32_1420
  let v1624 : BitVec 32 := Scalar.remsi v1621 v1623
  let c0_i32_1424 : BitVec 32 := 0#32
  let v1626 : BitVec 1 := Scalar.cmpi .slt v1624 c0_i32_1424
  let c0_i32_1425 : BitVec 32 := 0#32
  let v1627 : BitVec 1 := Scalar.cmpi .slt v1623 c0_i32_1425
  let v1628 : BitVec 1 := Scalar.xori v1626 v1627
  let c0_i32_1423 : BitVec 32 := 0#32
  let v1625 : BitVec 1 := Scalar.cmpi .ne v1624 c0_i32_1423
  let v1629 : BitVec 1 := Scalar.andi v1628 v1625
  let v1630 : BitVec 32 := Scalar.addi v1624 v1623
  let v1631 : BitVec 32 := Scalar.select v1629 v1630 v1624
  let c1_i32_1430 : BitVec 32 := 1#32
  let v1633 : BitVec 32 := Scalar.muli v1631 c1_i32_1430
  let v1634 : BitVec 32 := Scalar.addi c0_i32_1431 v1633
  v1634.toNat
def k0_dev38 (d0 : Dev nD) : Nat :=
  let c0_i32_1447 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1435 : BitVec 32 := 2#32
  let v1642 : BitVec 32 := Scalar.addi v2 c2_i32_1435
  let c4_i32_1436 : BitVec 32 := 4#32
  let c0_i32_1437 : BitVec 32 := 0#32
  let v1643 : BitVec 1 := Scalar.cmpi .eq c4_i32_1436 c0_i32_1437
  let c1_i32_1438 : BitVec 32 := 1#32
  let v1644 : BitVec 32 := Scalar.select v1643 c1_i32_1438 c4_i32_1436
  let v1645 : BitVec 32 := Scalar.remsi v1642 v1644
  let c0_i32_1440 : BitVec 32 := 0#32
  let v1647 : BitVec 1 := Scalar.cmpi .slt v1645 c0_i32_1440
  let c0_i32_1441 : BitVec 32 := 0#32
  let v1648 : BitVec 1 := Scalar.cmpi .slt v1644 c0_i32_1441
  let v1649 : BitVec 1 := Scalar.xori v1647 v1648
  let c0_i32_1439 : BitVec 32 := 0#32
  let v1646 : BitVec 1 := Scalar.cmpi .ne v1645 c0_i32_1439
  let v1650 : BitVec 1 := Scalar.andi v1649 v1646
  let v1651 : BitVec 32 := Scalar.addi v1645 v1644
  let v1652 : BitVec 32 := Scalar.select v1650 v1651 v1645
  let c1_i32_1446 : BitVec 32 := 1#32
  let v1654 : BitVec 32 := Scalar.muli v1652 c1_i32_1446
  let v1655 : BitVec 32 := Scalar.addi c0_i32_1447 v1654
  v1655.toNat
def k0_dev39 (d0 : Dev nD) : Nat :=
  let c0_i32_1463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1451 : BitVec 32 := 3#32
  let v1663 : BitVec 32 := Scalar.addi v2 c3_i32_1451
  let c4_i32_1452 : BitVec 32 := 4#32
  let c0_i32_1453 : BitVec 32 := 0#32
  let v1664 : BitVec 1 := Scalar.cmpi .eq c4_i32_1452 c0_i32_1453
  let c1_i32_1454 : BitVec 32 := 1#32
  let v1665 : BitVec 32 := Scalar.select v1664 c1_i32_1454 c4_i32_1452
  let v1666 : BitVec 32 := Scalar.remsi v1663 v1665
  let c0_i32_1456 : BitVec 32 := 0#32
  let v1668 : BitVec 1 := Scalar.cmpi .slt v1666 c0_i32_1456
  let c0_i32_1457 : BitVec 32 := 0#32
  let v1669 : BitVec 1 := Scalar.cmpi .slt v1665 c0_i32_1457
  let v1670 : BitVec 1 := Scalar.xori v1668 v1669
  let c0_i32_1455 : BitVec 32 := 0#32
  let v1667 : BitVec 1 := Scalar.cmpi .ne v1666 c0_i32_1455
  let v1671 : BitVec 1 := Scalar.andi v1670 v1667
  let v1672 : BitVec 32 := Scalar.addi v1666 v1665
  let v1673 : BitVec 32 := Scalar.select v1671 v1672 v1666
  let c1_i32_1462 : BitVec 32 := 1#32
  let v1675 : BitVec 32 := Scalar.muli v1673 c1_i32_1462
  let v1676 : BitVec 32 := Scalar.addi c0_i32_1463 v1675
  v1676.toNat
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x2048 : Shape := ⟨2, ![256, 2048]⟩
abbrev S2048x16384 : Shape := ⟨2, ![2048, 16384]⟩
abbrev S16384x2048 : Shape := ⟨2, ![16384, 2048]⟩
abbrev S256x16384 : Shape := ⟨2, ![256, 16384]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x16384, .f32⟩
  | .hbm, ⟨2, _⟩ => ⟨S2048x16384, .f32⟩
  | .hbm, ⟨3, _⟩ => ⟨S2048x16384, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S256x16384, .f32⟩
  | .hbm, ⟨8, _⟩ => ⟨S_, .f32⟩
  | .hbm, ⟨9, _⟩ => ⟨S256x16384, .f32⟩
  | .hbm, ⟨10, _⟩ => ⟨S256x16384, .f32⟩
  | .hbm, ⟨11, _⟩ => ⟨S256x2048, .f32⟩
  | .hbm, ⟨12, _⟩ => ⟨S256x16384, .f32⟩
  | .hbm, ⟨13, _⟩ => ⟨S_, .f32⟩
  | .hbm, ⟨14, _⟩ => ⟨S256x16384, .f32⟩
  | .hbm, ⟨15, _⟩ => ⟨S256x16384, .f32⟩
  | .hbm, ⟨16, _⟩ => ⟨S256x2048, .f32⟩
  | .hbm, ⟨17, _⟩ => ⟨S256x16384, .f32⟩
  | .hbm, ⟨18, _⟩ => ⟨S_, .f32⟩
  | .hbm, ⟨19, _⟩ => ⟨S256x16384, .f32⟩
  | .hbm, ⟨20, _⟩ => ⟨S256x16384, .f32⟩
  | .hbm, ⟨21, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Ideal.Values.lean ====
/-
  The contents the kernel's buffers hold: the gathered activations after each layer, the weight chunks staged, the
  hidden layer's running sums, the products, the partial sums received, and the output. Every function here is stated
  by coordinates on the whole buffer, for any float instance, from the devices' inputs.
-/
module

public import proofs.«01_k».proof.Proof.Gen.KernelIdeal.Skeleton
public import Idealize.ShloMosaic.Lib.ValueIdxCore

@[expose] public section

noncomputable section

namespace Cert.KernelIdeal.Mlp

open Cert.KernelIdeal Cert.KernelIdeal.Gen
open Idealize.ShloMosaic Idealize.ShloMosaic.ValueIdx

variable {F : FTy → Type} [FloatOps F]

/-- The device `1 + q` places after `c` around the four. -/
abbrev nb (c : Fin 4) (q : Fin 3) : Fin 4 := ⟨(c.val + 1 + q.val) % 4, Nat.mod_lt _ (by decide)⟩

/-- The place from which `nb c q` sees `c`. -/
abbrev rev (q : Fin 3) : Fin 3 := ⟨2 - q.val, by omega⟩

theorem nb_nb (c : Fin 4) (q : Fin 3) : nb (nb c q) (rev q) = c := by revert c q; decide
theorem rev_rev (q : Fin 3) : rev (rev q) = q := by revert q; decide
theorem nb_rev (c : Fin 4) (q : Fin 3) : nb (nb c (rev q)) q = c := by revert c q; decide

/-- The group of 512 a coordinate below 2048 lies in. -/
abbrev grp (n : ℕ) (h : n < 2048) : Fin 4 := ⟨n / 512, by omega⟩

/-- The inputs: each device's rows of the activations and its columns / rows of the layers' weights. -/
structure Inp (F : FTy → Type) where
  /-- The rows of the activations. -/
  x : Fin 4 → FVec F S64x2048 .f32
  /-- The columns of each layer's first weight. -/
  win : Fin 3 → Fin 4 → FVec F S2048x4096 .f32
  /-- The rows of each layer's second weight. -/
  wout : Fin 3 → Fin 4 → FVec F S4096x2048 .f32

variable (I : Inp F)

/-- The activations of all devices, one above the other. -/
def x0 : FVec F S256x2048 .f32 := fun i =>
  I.x ⟨(i 0).val / 64, by have := idx2_lt0 i; omega⟩ (ix2 ⟨(i 0).val % 64, by omega⟩ (i 1))

/-- Columns `512 g …` of a matrix. -/
def colBlk (X : FVec F S256x2048 .f32) (g : Fin 4) : FVec F S256x512 .f32 := fun i =>
  X (ix2 (i 0) ⟨512 * g.val + (i 1).val, by have := idx2_lt1 i; omega⟩)

/-- Rows `64 c …` of a matrix. -/
def rowBlk (X : FVec F S256x2048 .f32) (c : Fin 4) : FVec F S64x2048 .f32 := fun i =>
  X (ix2 ⟨64 * c.val + (i 0).val, by have := idx2_lt0 i; omega⟩ (i 1))

/-- A stage slot holding rows `512 g …` of a device's first weight, whichever the slot. -/
def winStg (k : Fin 3) (c g : Fin 4) : FVec F S2x512x4096 .f32 := fun i =>
  I.win k c (ix2 ⟨512 * g.val + (i 1).val, by have : (i 1).val < 512 := (i 1).isLt; omega⟩ (i 2))

/-- A stage slot holding columns `512 g …` of a device's second weight, whichever the slot. -/
def woutStg (k : Fin 3) (c g : Fin 4) : FVec F S2x4096x512 .f32 := fun i =>
  I.wout k c (ix2 (i 1) ⟨512 * g.val + (i 2).val, by have : (i 2).val < 512 := (i 2).isLt; omega⟩)

/-- Rows `512 g …` of a device's first weight. -/
def winBlk (k : Fin 3) (c g : Fin 4) : FVec F S1x512x4096 .f32 := fun i =>
  I.win k c (ix2 ⟨512 * g.val + (i 1).val, by have : (i 1).val < 512 := (i 1).isLt; omega⟩ (i 2))

/-- Columns `512 g …` of a device's second weight. -/
def woutBlk (k : Fin 3) (c g : Fin 4) : FVec F S1x4096x512 .f32 := fun i =>
  I.wout k c (ix2 (i 1) ⟨512 * g.val + (i 2).val, by have : (i 2).val < 512 := (i 2).isLt; omega⟩)

/-- The order in which a layer takes the groups of the contracted axis: as gathered, or its own group first. -/
def ord (k : Fin 3) (c : Fin 4) : Fin 4 → Fin 4
  | 0 => match k with | 0 => 0 | _ => c
  | 1 => match k with | 0 => 1 | _ => nb c 0
  | 2 => match k with | 0 => 2 | _ => nb c 2
  | 3 => match k with | 0 => 3 | _ => nb c 1

/-- The hidden layer's running sum after the groups `ord k c 0 … ord k c n`. -/
def hid (X : FVec F S256x2048 .f32) (k : Fin 3) (c : Fin 4) : Fin 4 → FVec F S256x4096 .f32
  | 0 => k0_pay2 (colBlk X (ord k c 0)) (winBlk I k c (ord k c 0))
  | 1 => k0_pay5 (colBlk X (ord k c 1)) (winBlk I k c (ord k c 1)) (hid X k c 0)
  | 2 => k0_pay5 (colBlk X (ord k c 2)) (winBlk I k c (ord k c 2)) (hid X k c 1)
  | 3 => k0_pay5 (colBlk X (ord k c 3)) (winBlk I k c (ord k c 3)) (hid X k c 2)

/-- The hidden layer. -/
def act (X : FVec F S256x2048 .f32) (k : Fin 3) (c : Fin 4) : FVec F S256x4096 .f32 := k0_pay7 (hid I X k c 3)

/-- A device's share of group `g` of the layer's output. -/
def prt (X : FVec F S256x2048 .f32) (k : Fin 3) (c g : Fin 4) : FVec F S256x512 .f32 :=
  k0_pay10 (act I X k c) (woutBlk I k c g)

/-- A device's share of the layer's output. -/
def prtAll (X : FVec F S256x2048 .f32) (k : Fin 3) (c : Fin 4) : FVec F S256x2048 .f32 := fun i =>
  prt I X k c (grp (i 1).val (idx2_lt1 i)) (ix2 (i 0) ⟨(i 1).val % 512, by omega⟩)

/-- What a device has received of its own group from the devices after it, slot by slot. -/
def accC (X : FVec F S256x2048 .f32) (k : Fin 3) (c : Fin 4) : FVec F S3x256x512 .f32 := fun i =>
  prt I X k (nb c (i 0)) c (ix2 (i 1) (i 2))

/-- One slot of it. -/
def accCBlk (X : FVec F S256x2048 .f32) (k : Fin 3) (c : Fin 4) (j : Fin 3) : FVec F S1x256x512 .f32 := fun i =>
  prt I X k (nb c j) c (ix2 (i 1) (i 2))

/-- The sum a device forms of its own group. -/
def redBlk (X : FVec F S256x2048 .f32) (k : Fin 3) (c : Fin 4) : FVec F S256x512 .f32 :=
  k0_pay13 (prt I X k c c) (accCBlk I X k c 0) (accCBlk I X k c 1) (accCBlk I X k c 2)

/-- The next layer's activations, all groups gathered. -/
def nxtX (X : FVec F S256x2048 .f32) (k : Fin 3) : FVec F S256x2048 .f32 := fun i =>
  redBlk I X k (grp (i 1).val (idx2_lt1 i)) (ix2 (i 0) ⟨(i 1).val % 512, by omega⟩)

/-- The activations entering each layer. -/
def xs : Fin 3 → FVec F S256x2048 .f32
  | 0 => x0 I
  | 1 => nxtX I (x0 I) 0
  | 2 => nxtX I (nxtX I (x0 I) 0) 1

/-- The shares of each layer's output. -/
abbrev pt (k : Fin 3) (c : Fin 4) : FVec F S256x2048 .f32 := prtAll I (xs I k) k c

/-- What a device has received of its own rows of the last layer, slot by slot. -/
def accR (c : Fin 4) : FVec F S3x64x2048 .f32 := fun i =>
  pt I 2 (nb c (i 0)) (ix2 ⟨64 * c.val + (i 1).val, by have : (i 1).val < 64 := (i 1).isLt; omega⟩ (i 2))

/-- One slot of it. -/
def accRBlk (c : Fin 4) (j : Fin 3) : FVec F S1x64x2048 .f32 := fun i =>
  pt I 2 (nb c j) (ix2 ⟨64 * c.val + (i 1).val, by have : (i 1).val < 64 := (i 1).isLt; omega⟩ (i 2))

/-- The rows of the result a device writes. -/
def outB (c : Fin 4) : FVec F S64x2048 .f32 :=
  k0_pay35 (k0_pay34 (rowBlk (pt I 2 c) c) (accRBlk I c 0) (accRBlk I c 1)) (accRBlk I c 2)

/-! Columns and rows taken of the pieces assembled. -/

/-- Group `g` of the assembled shares is the share of group `g`. -/
theorem colBlk_prtAll (X : FVec F S256x2048 .f32) (k : Fin 3) (c g : Fin 4) :
    colBlk (prtAll I X k c) g = prt I X k c g := by
  funext i
  have h1 := idx2_lt1 i
  unfold colBlk prtAll
  have hg : grp (512 * g.val + (i 1).val) (by omega) = g := Fin.ext (by show (512 * g.val + (i 1).val) / 512 = g.val; omega)
  have hm : (⟨(512 * g.val + (i 1).val) % 512, by omega⟩ : Fin 512) = i 1 := Fin.ext (by show (512 * g.val + (i 1).val) % 512 = (i 1).val; omega)
  show prt I X k c (grp (512 * g.val + (i 1).val) _) (ix2 (i 0) ⟨(512 * g.val + (i 1).val) % 512, _⟩) = _
  rw [hg, hm]
  exact congrArg (prt I X k c g) (eq_ix2 i).symm

/-- Group `g` of the next activations is the sum device `g` forms. -/
theorem colBlk_nxtX (X : FVec F S256x2048 .f32) (k : Fin 3) (g : Fin 4) :
    colBlk (nxtX I X k) g = redBlk I X k g := by
  funext i
  have h1 := idx2_lt1 i
  unfold colBlk nxtX
  have hg : grp (512 * g.val + (i 1).val) (by omega) = g := Fin.ext (by show (512 * g.val + (i 1).val) / 512 = g.val; omega)
  have hm : (⟨(512 * g.val + (i 1).val) % 512, by omega⟩ : Fin 512) = i 1 := Fin.ext (by show (512 * g.val + (i 1).val) % 512 = (i 1).val; omega)
  show redBlk I X k (grp (512 * g.val + (i 1).val) _) (ix2 (i 0) ⟨(512 * g.val + (i 1).val) % 512, _⟩) = _
  rw [hg, hm]
  exact congrArg (redBlk I X k g) (eq_ix2 i).symm

end Cert.KernelIdeal.Mlp

end
-- ==== Proof.Ideal.Table.lean ====
/-
  The printed body's device and offset words, by the place of the device: every one is a neighbour of the device or a
  multiple of a block's size.
-/
module

public import proofs.«01_k».proof.Proof.Ideal.Values

@[expose] public section

namespace Cert.KernelIdeal.Mlp

open Cert.KernelIdeal Cert.KernelIdeal.Gen
open Idealize.ShloMosaic

theorem dev1_eq (c : Dev nD) : (⟨k0_dev1 c, k0_dev1_lt c⟩ : Dev nD) = nb c 0 := by revert c; decide
theorem dev2_eq (c : Dev nD) : (⟨k0_dev2 c, k0_dev2_lt c⟩ : Dev nD) = nb c 1 := by revert c; decide
theorem dev3_eq (c : Dev nD) : (⟨k0_dev3 c, k0_dev3_lt c⟩ : Dev nD) = nb c 2 := by revert c; decide
theorem dev4_eq (c : Dev nD) : (⟨k0_dev4 c, k0_dev4_lt c⟩ : Dev nD) = nb c 0 := by revert c; decide
theorem dev5_eq (c : Dev nD) : (⟨k0_dev5 c, k0_dev5_lt c⟩ : Dev nD) = nb c 1 := by revert c; decide
theorem dev6_eq (c : Dev nD) : (⟨k0_dev6 c, k0_dev6_lt c⟩ : Dev nD) = nb c 2 := by revert c; decide
theorem dev7_eq (c : Dev nD) : (⟨k0_dev7 c, k0_dev7_lt c⟩ : Dev nD) = nb c 0 := by revert c; decide
theorem dev8_eq (c : Dev nD) : (⟨k0_dev8 c, k0_dev8_lt c⟩ : Dev nD) = nb c 1 := by revert c; decide
theorem dev9_eq (c : Dev nD) : (⟨k0_dev9 c, k0_dev9_lt c⟩ : Dev nD) = nb c 2 := by revert c; decide
theorem dev10_eq (c : Dev nD) : (⟨k0_dev10 c, k0_dev10_lt c⟩ : Dev nD) = nb c 0 := by revert c; decide
theorem dev11_eq (c : Dev nD) : (⟨k0_dev11 c, k0_dev11_lt c⟩ : Dev nD) = nb c 1 := by revert c; decide
theorem dev12_eq (c : Dev nD) : (⟨k0_dev12 c, k0_dev12_lt c⟩ : Dev nD) = nb c 2 := by revert c; decide
theorem dev13_eq (c : Dev nD) : (⟨k0_dev13 c, k0_dev13_lt c⟩ : Dev nD) = nb c 0 := by revert c; decide
theorem dev14_eq (c : Dev nD) : (⟨k0_dev14 c, k0_dev14_lt c⟩ : Dev nD) = nb c 1 := by revert c; decide
theorem dev15_eq (c : Dev nD) : (⟨k0_dev15 c, k0_dev15_lt c⟩ : Dev nD) = nb c 2 := by revert c; decide
theorem dev16_eq (c : Dev nD) : (⟨k0_dev16 c, k0_dev16_lt c⟩ : Dev nD) = nb c 0 := by revert c; decide
theorem dev17_eq (c : Dev nD) : (⟨k0_dev17 c, k0_dev17_lt c⟩ : Dev nD) = nb c 1 := by revert c; decide
theorem dev18_eq (c : Dev nD) : (⟨k0_dev18 c, k0_dev18_lt c⟩ : Dev nD) = nb c 2 := by revert c; decide
theorem dev19_eq (c : Dev nD) : (⟨k0_dev19 c, k0_dev19_lt c⟩ : Dev nD) = nb c 2 := by revert c; decide
theorem dev20_eq (c : Dev nD) : (⟨k0_dev20 c, k0_dev20_lt c⟩ : Dev nD) = nb c 0 := by revert c; decide
theorem dev21_eq (c : Dev nD) : (⟨k0_dev21 c, k0_dev21_lt c⟩ : Dev nD) = nb c 1 := by revert c; decide
theorem dev22_eq (c : Dev nD) : (⟨k0_dev22 c, k0_dev22_lt c⟩ : Dev nD) = nb c 0 := by revert c; decide
theorem dev23_eq (c : Dev nD) : (⟨k0_dev23 c, k0_dev23_lt c⟩ : Dev nD) = nb c 1 := by revert c; decide
theorem dev24_eq (c : Dev nD) : (⟨k0_dev24 c, k0_dev24_lt c⟩ : Dev nD) = nb c 2 := by revert c; decide
theorem dev25_eq (c : Dev nD) : (⟨k0_dev25 c, k0_dev25_lt c⟩ : Dev nD) = nb c 2 := by revert c; decide
theorem dev26_eq (c : Dev nD) : (⟨k0_dev26 c, k0_dev26_lt c⟩ : Dev nD) = nb c 0 := by revert c; decide
theorem dev27_eq (c : Dev nD) : (⟨k0_dev27 c, k0_dev27_lt c⟩ : Dev nD) = nb c 1 := by revert c; decide
theorem dev28_eq (c : Dev nD) : (⟨k0_dev28 c, k0_dev28_lt c⟩ : Dev nD) = nb c 0 := by revert c; decide
theorem dev29_eq (c : Dev nD) : (⟨k0_dev29 c, k0_dev29_lt c⟩ : Dev nD) = nb c 1 := by revert c; decide
theorem dev30_eq (c : Dev nD) : (⟨k0_dev30 c, k0_dev30_lt c⟩ : Dev nD) = nb c 2 := by revert c; decide
theorem dev31_eq (c : Dev nD) : (⟨k0_dev31 c, k0_dev31_lt c⟩ : Dev nD) = nb c 0 := by revert c; decide
theorem dev32_eq (c : Dev nD) : (⟨k0_dev32 c, k0_dev32_lt c⟩ : Dev nD) = nb c 1 := by revert c; decide
theorem dev33_eq (c : Dev nD) : (⟨k0_dev33 c, k0_dev33_lt c⟩ : Dev nD) = nb c 2 := by revert c; decide
theorem dev34_eq (c : Dev nD) : (⟨k0_dev34 c, k0_dev34_lt c⟩ : Dev nD) = nb c 0 := by revert c; decide
theorem dev35_eq (c : Dev nD) : (⟨k0_dev35 c, k0_dev35_lt c⟩ : Dev nD) = nb c 1 := by revert c; decide
theorem dev36_eq (c : Dev nD) : (⟨k0_dev36 c, k0_dev36_lt c⟩ : Dev nD) = nb c 2 := by revert c; decide
theorem dev37_eq (c : Dev nD) : (⟨k0_dev37 c, k0_dev37_lt c⟩ : Dev nD) = nb c 0 := by revert c; decide
theorem dev38_eq (c : Dev nD) : (⟨k0_dev38 c, k0_dev38_lt c⟩ : Dev nD) = nb c 1 := by revert c; decide
theorem dev39_eq (c : Dev nD) : (⟨k0_dev39 c, k0_dev39_lt c⟩ : Dev nD) = nb c 2 := by revert c; decide
theorem off1_1_eq (c : Dev nD) : k0_off1 c 1#32 = ![0, 512 * (nb c 0).val] := by revert c; decide
theorem off1_2_eq (c : Dev nD) : k0_off1 c 2#32 = ![0, 512 * (nb c 1).val] := by revert c; decide
theorem off1_3_eq (c : Dev nD) : k0_off1 c 3#32 = ![0, 512 * (nb c 2).val] := by revert c; decide
theorem off2_eq (c : Dev nD) : k0_off2 c = ![64 * c.val, 0] := by revert c; decide
theorem off3_eq (c : Dev nD) : k0_off3 c = ![64 * c.val, 0] := by revert c; decide
theorem off4_eq (c : Dev nD) : k0_off4 c = ![64 * c.val, 512] := by revert c; decide
theorem off5_eq (c : Dev nD) : k0_off5 c = ![64 * c.val, 1024] := by revert c; decide
theorem off6_eq (c : Dev nD) : k0_off6 c = ![64 * c.val, 1536] := by revert c; decide
theorem off11_eq (c : Dev nD) : k0_off11 c = ![512 * c.val, 0] := by revert c; decide
theorem off12_1_eq (c : Dev nD) : k0_off12 c 1#32 = ![512 * (nb c 0).val, 0] := by revert c; decide
theorem off12_2_eq (c : Dev nD) : k0_off12 c 2#32 = ![512 * (nb c 1).val, 0] := by revert c; decide
theorem off12_3_eq (c : Dev nD) : k0_off12 c 3#32 = ![512 * (nb c 2).val, 0] := by revert c; decide
theorem off13_1_eq (c : Dev nD) : k0_off13 c 1#32 = ![0, 512 * (nb c 0).val] := by revert c; decide
theorem off13_2_eq (c : Dev nD) : k0_off13 c 2#32 = ![0, 512 * (nb c 1).val] := by revert c; decide
theorem off13_3_eq (c : Dev nD) : k0_off13 c 3#32 = ![0, 512 * (nb c 2).val] := by revert c; decide
theorem off14_1_eq (c : Dev nD) : k0_off14 c 1#32 = ![0, 512 * (nb c 0).val] := by revert c; decide
theorem off14_2_eq (c : Dev nD) : k0_off14 c 2#32 = ![0, 512 * (nb c 1).val] := by revert c; decide
theorem off14_3_eq (c : Dev nD) : k0_off14 c 3#32 = ![0, 512 * (nb c 2).val] := by revert c; decide
theorem off15_eq (c : Dev nD) : k0_off15 c = ![0, 512 * c.val] := by revert c; decide
theorem off16_eq (c : Dev nD) : k0_off16 c = ![0, 512 * c.val] := by revert c; decide
theorem off17_eq (c : Dev nD) : k0_off17 c = ![0, 512 * c.val] := by revert c; decide
theorem off18_1_eq (c : Dev nD) : k0_off18 c 1#32 = ![64 * (nb c 0).val, 0] := by revert c; decide
theorem off18_2_eq (c : Dev nD) : k0_off18 c 2#32 = ![64 * (nb c 1).val, 0] := by revert c; decide
theorem off18_3_eq (c : Dev nD) : k0_off18 c 3#32 = ![64 * (nb c 2).val, 0] := by revert c; decide
theorem off19_1_eq (c : Dev nD) : k0_off19 c 1#32 = ![64 * (nb c 0).val, 512] := by revert c; decide
theorem off19_2_eq (c : Dev nD) : k0_off19 c 2#32 = ![64 * (nb c 1).val, 512] := by revert c; decide
theorem off19_3_eq (c : Dev nD) : k0_off19 c 3#32 = ![64 * (nb c 2).val, 512] := by revert c; decide
theorem off20_1_eq (c : Dev nD) : k0_off20 c 1#32 = ![64 * (nb c 0).val, 1024] := by revert c; decide
theorem off20_2_eq (c : Dev nD) : k0_off20 c 2#32 = ![64 * (nb c 1).val, 1024] := by revert c; decide
theorem off20_3_eq (c : Dev nD) : k0_off20 c 3#32 = ![64 * (nb c 2).val, 1024] := by revert c; decide
theorem off21_1_eq (c : Dev nD) : k0_off21 c 1#32 = ![64 * (nb c 0).val, 1536] := by revert c; decide
theorem off21_2_eq (c : Dev nD) : k0_off21 c 2#32 = ![64 * (nb c 1).val, 1536] := by revert c; decide
theorem off21_3_eq (c : Dev nD) : k0_off21 c 3#32 = ![64 * (nb c 2).val, 1536] := by revert c; decide

end Cert.KernelIdeal.Mlp
-- ==== Proof.Ideal.Protocol.lean ====
/-
  The protocol of the kernel's semaphores. Every device has a barrier cell, a receive cell and a send cell for each of
  the three other devices on each channel. A channel is one use of the links: the gather of the activations by column
  group, the exchange of partial sums after layers 0 and 1, the broadcast of the reduced group after them, and the
  exchange of rows of the last layer by column group. The schedule gives each cell one round and says what the landing
  hands over, with its contents.
-/
module

public import proofs.«01_k».proof.Proof.Ideal.Table
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × (UB × Counters)

local notation "𝕄" => MT nD τ sig Unit (Elt F) ℕ UU ℕ

/-- The assertions of the proof. -/
abbrev Asn (F : FTy → Type) : Type := sProp (MT nD τ sig Unit (Elt F) ℕ UU ℕ)

abbrev EP : Emb (UR sig nD τ) (MT nD τ sig Unit (Elt F) ℕ UU ℕ) := embL
/-- The rounds' component. -/
def ER : Emb UB (MT nD τ sig Unit (Elt F) ℕ UU ℕ) := (Emb.inl : Emb UB (UB × Counters)).trans embR
instance ER_landsIn : (ER (F := F)).LandsIn (upEmb : UEmb _ 𝕄) := by unfold ER; infer_instance
/-- The local transfers' component. -/
abbrev EC : UEmb Counters (MT nD τ sig Unit (Elt F) ℕ UU ℕ) := countersEmb (U := UU)

/-! ## The channels and the cells -/

/-- The uses of the links. -/
inductive Chan
  | ag (g : Fin 4) | pp (k : Fin 2) | bb (k : Fin 2) | row (g : Fin 4)
  deriving DecidableEq

/-- The channels, counted. -/
def chanEquiv : ((Fin 4 ⊕ Fin 2) ⊕ (Fin 2 ⊕ Fin 4)) ≃ Chan where
  toFun | .inl (.inl g) => .ag g | .inl (.inr k) => .pp k | .inr (.inl k) => .bb k | .inr (.inr g) => .row g
  invFun | .ag g => .inl (.inl g) | .pp k => .inl (.inr k) | .bb k => .inr (.inl k) | .row g => .inr (.inr g)
  left_inv := by rintro ((g | k) | (k | g)) <;> rfl
  right_inv := by rintro (g | k | k | g) <;> rfl

instance : Fintype Chan := Fintype.ofEquiv _ chanEquiv

/-- The cells of a device: the barrier, and on each channel the receive cell for what the device `nb c j` sends and the
    send cell for what goes to the device `nb c q`. -/
inductive Role
  | bar | rx (j : Fin 3) (x : Chan) | tx (q : Fin 3) (x : Chan)
  deriving DecidableEq

/-- The roles, counted. -/
def roleEquiv : (Unit ⊕ (Fin 3 × Chan ⊕ Fin 3 × Chan)) ≃ Role where
  toFun | .inl _ => .bar | .inr (.inl p) => .rx p.1 p.2 | .inr (.inr p) => .tx p.1 p.2
  invFun | .bar => .inl () | .rx j x => .inr (.inl (j, x)) | .tx q x => .inr (.inr (q, x))
  left_inv := by rintro (_ | (_ | _)) <;> rfl
  right_inv := by rintro (_ | _ | _) <;> rfl

instance : Fintype Role := Fintype.ofEquiv _ roleEquiv

abbrev barS : Sem sig := (SemArray.scalar (sig.barrier 0 rfl) : Sems sig S_).sem

/-- The number of a channel's receive semaphore in the pool. -/
def rxNum (j : Fin 3) : Chan → Fin 78
  | .ag g => ⟨2 + 4 * j.val + g.val, by omega⟩
  | .pp k => ⟨14 + 3 * k.val + j.val, by omega⟩
  | .bb k => ⟨20 + 3 * k.val + j.val, by omega⟩
  | .row g => ⟨26 + 4 * j.val + g.val, by omega⟩

/-- The number of a channel's send semaphore in the pool. -/
def txNum (q : Fin 3) : Chan → Fin 78
  | .ag g => ⟨38 + 3 * g.val + q.val, by omega⟩
  | .pp k => ⟨50 + 6 * k.val + q.val, by omega⟩
  | .bb k => ⟨53 + 6 * k.val + (q.val + 1) % 3, by omega⟩
  | .row g => ⟨62 + 3 * g.val + q.val, by omega⟩

/-- The semaphore of a role. -/
def csem : Role → SemLoc sig
  | .bar => .reg barS
  | .rx j x => .dma (rxNum j x : Fin 78)
  | .tx q x => .dma (txNum q x : Fin 78)

theorem rxNum_inj : Function.Injective (fun p : Fin 3 × Chan => rxNum p.1 p.2) := by decide
theorem txNum_inj : Function.Injective (fun p : Fin 3 × Chan => txNum p.1 p.2) := by decide
theorem rx_lt_tx : ∀ j x q y, (rxNum j x).val < (txNum q y).val := by decide

theorem csem_injective : Function.Injective csem := by
  intro a b h
  cases a <;> cases b <;> simp only [csem, SemLoc.dma.injEq, reduceCtorEq] at h
  · rfl
  · have := rxNum_inj (a₁ := (_, _)) (a₂ := (_, _)) h; simp only [Prod.mk.injEq] at this; rw [this.1, this.2]
  · exact absurd (congrArg Fin.val h) (Nat.ne_of_lt (rx_lt_tx _ _ _ _))
  · exact absurd (congrArg Fin.val h).symm (Nat.ne_of_lt (rx_lt_tx _ _ _ _))
  · have := txNum_inj (a₁ := (_, _)) (a₂ := (_, _)) h; simp only [Prod.mk.injEq] at this; rw [this.1, this.2]

/-- A device's cell. -/
abbrev cell (c : Dev nD) (r : Role) : GSem nD τ sig := ((c : Thread nD τ), csem r)

/-- The role of a semaphore. -/
def roleOf : SemLoc sig → Option Role := Function.partialInv csem
theorem roleOf_csem (r : Role) : roleOf (csem r) = some r := Function.partialInv_left csem_injective r

/-! ## Amounts -/

/-- What a landing on a channel credits. -/
def amt : Chan → ℕ
  | .ag _ => ((Memref.whole cc0_scratch0 : Memref sig .tc .vmem S256x2048 .f32).slice (Rect.unit (s := S256x2048) ![0, 0] S64x512.size (by decide)) (fun _ => rfl)).view.dmaCredit
  | .pp _ => (((Memref.whole cc0_scratch3 : Memref sig .tc .vmem S3x256x512 .f32).slice (Rect.unit (s := S3x256x512) ![0, 0, 0] S1x256x512.size (by decide)) (fun _ => rfl)).squeeze S256x512 squeezes_S1x256x512_S256x512).view.dmaCredit
  | .bb _ => ((Memref.whole cc0_scratch0 : Memref sig .tc .vmem S256x2048 .f32).slice (Rect.unit (s := S256x2048) ![0, 0] S256x512.size (by decide)) (fun _ => rfl)).view.dmaCredit
  | .row _ => (((Memref.whole cc0_scratch4 : Memref sig .tc .vmem S3x64x2048 .f32).slice (Rect.unit (s := S3x64x2048) ![0, 0, 0] S1x64x512.size (by decide)) (fun _ => rfl)).squeeze S64x512 squeezes_S1x64x512_S64x512).view.dmaCredit

theorem amt_pos (x : Chan) : 0 < amt x := by
  cases x <;> exact View.dmaCredit_pos _ (by decide)

/-- What a payment to a role's cell amounts to. -/
def amtR : Role → ℕ
  | .bar => 1
  | .rx _ x => amt x
  | .tx _ x => amt x

/-! ## The parts of the buffers -/

/-- The indices `k` sends to `a`. -/
def fib {ι κ : Type} [Fintype ι] [DecidableEq κ] (k : ι → κ) (a : κ) : Finset ι := Finset.univ.filter (fun i => k i = a)

theorem mem_fib {ι κ : Type} [Fintype ι] [DecidableEq κ] (k : ι → κ) (a : κ) (i : ι) : i ∈ fib k a ↔ k i = a := by
  simp [fib]

/-- The block of 64 rows an index of a gathered matrix lies in. -/
def rowOf (i : S256x2048.Idx) : Fin 4 := ⟨(i 0).val / 64, by have := idx2_lt0 i; omega⟩
/-- The group of 512 columns it lies in. -/
def colOf (i : S256x2048.Idx) : Fin 4 := grp (i 1).val (idx2_lt1 i)
/-- The group of 512 columns an index of a device's own rows lies in. -/
def colOfX (i : S64x2048.Idx) : Fin 4 := grp (i 1).val (idx2_lt1 i)
/-- The slot of an index. -/
def slotOf {n a b : ℕ} (i : (⟨3, ![n, a, b]⟩ : Shape).Idx) : Fin n := i 0
/-- The group of 512 columns an index of the received rows lies in. -/
def colOfR (i : S3x64x2048.Idx) : Fin 4 := grp (i 2).val (i 2).isLt

abbrev rowS (r : Fin 4) : Finset S256x2048.Idx := fib rowOf r
abbrev colS (g : Fin 4) : Finset S256x2048.Idx := fib colOf g
abbrev blk (r g : Fin 4) : Finset S256x2048.Idx := fib (fun i => (rowOf i, colOf i)) (r, g)
abbrev colX (g : Fin 4) : Finset S64x2048.Idx := fib colOfX g
abbrev slotC (j : Fin 3) : Finset S3x256x512.Idx := fib slotOf j
abbrev slotR (j : Fin 3) : Finset S3x64x2048.Idx := fib slotOf j
abbrev slotRG (j : Fin 3) (g : Fin 4) : Finset S3x64x2048.Idx := fib (fun i => (slotOf i, colOfR i)) (j, g)
abbrev slotI (s : Fin 2) : Finset S2x512x4096.Idx := fib slotOf s
abbrev slotO (s : Fin 2) : Finset S2x4096x512.Idx := fib slotOf s

/-- Elements `S` of the buffer `b` of device `c`, at share `q`, holding `f`. -/
abbrev At (c : Dev nD) (b : Ref sig .tc) (S : Finset b.ty.Idx) (q : PosShare TreeShare) (f : b.ty.Contents (Elt F)) : sProp 𝕄 :=
  ((c : Thread nD τ).loc b) ↦[S]{q} f

/-- The same, whatever they hold. -/
abbrev AtE (c : Dev nD) (b : Ref sig .tc) (S : Finset b.ty.Idx) : sProp 𝕄 := iprop(∃ f, At c b S fullShare f)

/-- The whole of a buffer. -/
abbrev Al (c : Dev nD) (b : Ref sig .tc) (f : b.ty.Contents (Elt F)) : sProp 𝕄 := At c b Finset.univ fullShare f

/-- The share lent with the transfer to `nb c q`; -/
def sh : Fin 3 → PosShare TreeShare
  | 0 => fullShare.right.left
  | 1 => fullShare.right.right.left
  | 2 => fullShare.right.right.right
/-- and the share kept. -/
abbrev sh0 : PosShare TreeShare := fullShare.left

/-! ## What the landings hand over -/

variable (I : Inp F)

/-- What the signal of `nb c d` hands `c`: its buffers' parts that `c` writes first. -/
def barPay (c : Dev nD) (d : Fin 3) : sProp 𝕄 :=
  iprop(AtE (nb c d) cc0_scratch0 (rowS c) ∗ AtE (nb c d) cc0_scratch3 (slotC (rev d)) ∗ AtE (nb c d) cc0_scratch4 (slotR (rev d)))

/-- What a landing on `c`'s receive cell for `nb c j` hands `c`. -/
def rxPay (c : Dev nD) (j : Fin 3) : Chan → sProp 𝕄
  | .ag g => At c cc0_scratch0 (blk (nb c j) g) fullShare (xs I 0)
  | .pp k => iprop(At c cc0_scratch3 (slotC j) fullShare (accC I (xs I k.castSucc) k.castSucc c)
      ∗ At (nb c j) cc0_scratch2 (colS c) fullShare (pt I k.castSucc (nb c j)) ∗ AtE (nb c j) cc0_scratch0 (colS c)
      ∗ (if k = 1 then At c cc0_scratch0 (colS c) (sh j) (xs I 1) else iprop(emp)))
  | .bb k => iprop(At c cc0_scratch0 (colS (nb c j)) fullShare (xs I k.succ) ∗ AtE c cc0_scratch2 (colS (nb c j))
      ∗ (if k = 0 then iprop(At (nb c j) cc0_scratch0 (colS (nb c j)) (sh (rev j)) (xs I 1) ∗ AtE (nb c j) cc0_scratch3 (slotC (rev j))) else iprop(emp)))
  | .row g => At c cc0_scratch4 (slotRG j g) fullShare (accR I c)

/-- What a landing on `c`'s send cell for `nb c q` hands back. -/
def txPay (c : Dev nD) (q : Fin 3) : Chan → sProp 𝕄
  | .ag g => At c cc0_stg0_0 (colX g) (sh q) (I.x c)
  | .pp _ => iprop(emp)
  | .bb k => if k = 0 then iprop(emp) else At c cc0_scratch0 (colS c) (sh q) (xs I 2)
  | .row g => At c cc0_scratch2 (blk (nb c q) g) fullShare (pt I 2 c)

/-- What paying duty `d` of a role's cell hands over. -/
def pay (c : Dev nD) (d : Fin 3) : Role → sProp 𝕄
  | .bar => barPay c d
  | .rx j x => rxPay I c j x
  | .tx q x => txPay I c q x

instance pay_storable (c : Dev nD) (d : Fin 3) (r : Role) : BI.Storable (upEmb : UEmb _ 𝕄) (pay I c d r) := by
  cases r with
  | bar => unfold pay barPay; infer_instance
  | rx j x => cases x <;> unfold pay rxPay <;> (try dsimp only) <;> (try split) <;> infer_instance
  | tx q x => cases x <;> unfold pay txPay <;> (try dsimp only) <;> (try split) <;> infer_instance

/-! ## The schedule -/

/-- The duties of a role's cell: one per other device at the barrier, else one. -/
def dutR : Role → Finset (Fin 3)
  | .bar => Finset.univ
  | _ => {0}

/-- One round: a cell's duties, each of its role's amount, handing over its role's payload. -/
def Rd : Rounds.Schedule (GSem nD τ sig) (Fin 3) 𝕄 where
  duties g r := if r = 0 ∧ g.1.2 = .tc then (match roleOf g.2 with | some ρ => dutR ρ | none => ∅) else ∅
  unitless _ := False
  amount g _ _ := match roleOf g.2 with | some ρ => amtR ρ | none => 1
  payload g _ d := match roleOf g.2 with | some ρ => pay I g.1.1 d ρ | none => iprop(emp)
  amount_pos g _ _ _ := by
    cases roleOf g.2 with
    | none => exact Nat.one_pos
    | some ρ => cases ρ <;> first | exact Nat.one_pos | exact amt_pos _

instance Rd_payload_storable (g : GSem nD τ sig) (r : ℕ) (d : Fin 3) : BI.Storable (upEmb : UEmb _ 𝕄) ((Rd I).payload g r d) := by
  show BI.Storable upEmb (match roleOf g.2 with | some ρ => pay I g.1.1 d ρ | none => iprop(emp))
  cases roleOf g.2 <;> infer_instance

theorem duties_cell (c : Dev nD) (r : Role) : (Rd I).duties (cell c r) 0 = dutR r := by
  dsimp only [Rd]; rw [if_pos ⟨rfl, rfl⟩, roleOf_csem]
theorem duties_later (g : GSem nD τ sig) : ∀ r, 1 ≤ r → (Rd I).duties g r = ∅ :=
  fun r hr => by dsimp only [Rd]; rw [if_neg fun h => by omega]
theorem amount_cell (c : Dev nD) (r : Role) (d : Fin 3) : (Rd I).amount (cell c r) 0 d = amtR r := by
  dsimp only [Rd]; rw [roleOf_csem]
theorem payload_cell (c : Dev nD) (r : Role) (d : Fin 3) : (Rd I).payload (cell c r) 0 d = pay I c d r := by
  dsimp only [Rd]; rw [roleOf_csem]

/-- A cell's round expects its amount once per duty. -/
theorem expect_cell (c : Dev nD) (r : Role) : (Rd I).expect (cell c r) 0 = (dutR r).card * amtR r := by
  unfold Schedule.expect Schedule.amountOf
  rw [duties_cell, Finset.sum_congr rfl fun d _ => amount_cell I c r d, Finset.sum_const, smul_eq_mul]

/-- The rest of a barrier cell's round, no duty taken: the three payloads. -/
theorem rest_bar (c : Dev nD) : bigSep ((Rd I).duties (cell c .bar) 0 \ ∅) (fun d => (Rd I).payload (cell c .bar) 0 d)
    = iprop(barPay c 0 ∗ barPay c 1 ∗ barPay (F := F) c 2) := by
  rw [Finset.sdiff_empty, duties_cell, show dutR .bar = Finset.univ from rfl, bigSep_univ_eq_bigSepL [0, 1, 2] (by decide) (by decide),
    bigSepL_cons_cons, bigSepL_cons_cons, bigSepL_singleton, payload_cell, payload_cell, payload_cell]
  rfl
theorem rest_rx (c : Dev nD) (j : Fin 3) (x : Chan) :
    bigSep ((Rd I).duties (cell c (.rx j x)) 0 \ ∅) (fun d => (Rd I).payload (cell c (.rx j x)) 0 d) = rxPay I c j x := by
  rw [Finset.sdiff_empty, duties_cell, show dutR (.rx j x) = {0} from rfl, bigSep_singleton, payload_cell]; rfl
theorem rest_tx (c : Dev nD) (q : Fin 3) (x : Chan) :
    bigSep ((Rd I).duties (cell c (.tx q x)) 0 \ ∅) (fun d => (Rd I).payload (cell c (.tx q x)) 0 d) = txPay I c q x := by
  rw [Finset.sdiff_empty, duties_cell, show dutR (.tx q x) = {0} from rfl, bigSep_singleton, payload_cell]; rfl

/-! ## Levels and what is owed -/

/-- The level of a role's waits: the order in which a device waits. -/
def lvR : Role → ℕ
  | .bar => 1
  | .rx _ (.ag _) => 2
  | .rx _ (.pp k) => 3 + 2 * k.val
  | .rx _ (.bb k) => 4 + 2 * k.val
  | .rx _ (.row _) => 7
  | .tx _ _ => 0

def L (g : GSem nD τ sig) : Finset Unit := if g.1.2 = .tc then {()} else ∅
def lv (g : GSem nD τ sig) (_ : Unit) : ℕ := match roleOf g.2 with | some ρ => lvR ρ | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (r : Role) : lv (cell c r) () = lvR r := by dsimp only [lv]; rw [roleOf_csem]

/-- A payment to another device: which, and on which channel (none: its barrier). -/
abbrev Pay : Type := Fin 3 × Option Chan

/-- The role a payment credits at the other device. -/
def payRole (p : Pay) : Role := match p.2 with | none => .bar | some x => .rx (rev p.1) x
/-- The cell a payment of device `c` credits. -/
def payCell (c : Dev nD) (p : Pay) : GSem nD τ sig := cell (nb c p.1) (payRole p)

/-- A device's payments in program order. -/
def payL : List Pay :=
  [(0, none), (1, none), (2, none)]
  ++ [(0, some (.ag 0)), (1, some (.ag 0)), (2, some (.ag 0)), (0, some (.ag 1)), (1, some (.ag 1)), (2, some (.ag 1)),
      (0, some (.ag 2)), (1, some (.ag 2)), (2, some (.ag 2)), (0, some (.ag 3)), (1, some (.ag 3)), (2, some (.ag 3))]
  ++ [(0, some (.pp 0)), (1, some (.pp 0)), (2, some (.pp 0))] ++ [(2, some (.bb 0)), (0, some (.bb 0)), (1, some (.bb 0))]
  ++ [(0, some (.pp 1)), (1, some (.pp 1)), (2, some (.pp 1))] ++ [(2, some (.bb 1)), (0, some (.bb 1)), (1, some (.bb 1))]
  ++ [(0, some (.row 0)), (1, some (.row 0)), (2, some (.row 0)), (0, some (.row 1)), (1, some (.row 1)), (2, some (.row 1)),
      (0, some (.row 2)), (1, some (.row 2)), (2, some (.row 2)), (0, some (.row 3)), (1, some (.row 3)), (2, some (.row 3))]

/-- What is owed by a list of payments still to make. -/
def Ol (c : Dev nD) : List Pay → CellTallies nD τ sig Unit
  | [] => 0
  | p :: l => Ol c l + tallyAt (payCell c p) () (amtR (payRole p))

/-- What device `c` owes after its first `n` payments. -/
abbrev Od (c : Dev nD) (n : ℕ) : CellTallies nD τ sig Unit := Ol c (payL.drop n)

theorem Ol_pos {c : Dev nD} {l : List Pay} {g : GSem nD τ sig} {u : Unit} (h : 0 < Ol c l g u) : ∃ p ∈ l, g = payCell c p := by
  induction l with
  | nil => exact absurd h (Nat.lt_irrefl 0)
  | cons p l ih =>
    unfold Ol at h
    rw [Pi.add_apply, Finsupp.add_apply, tallyAt_apply] at h
    by_cases hg : g = payCell c p ∧ u = ()
    · exact ⟨p, List.mem_cons_self, hg.1⟩
    · rw [if_neg hg, Nat.add_zero] at h
      obtain ⟨p', hp', e⟩ := ih h
      exact ⟨p', List.mem_cons_of_mem _ hp', e⟩

/-- A device may wait on its cell `sm` while the payments left are to cells of higher levels. -/
theorem mayWait_of (c : Dev nD) (sm : SemLoc sig) (n : ℕ)
    (h : ∀ p ∈ payL.drop n, lv ((c : Thread nD τ), sm) () < lvR (payRole p)) :
    (levAts L lv : sProp 𝕄) ⊢ MayWait (c : Thread nD τ) sm () (Od c n) :=
  MayOwe.of_cut (L := L) (lev := lv) (lv ((c : Thread nD τ), sm) ())
    (fun p hp => by rw [Finset.mem_singleton.mp hp, L_tc]; exact Finset.mem_singleton_self _)
    (fun g u hg => by obtain ⟨p, hp, rfl⟩ := Ol_pos hg; exact Finset.mem_singleton_self _)
    (fun p hp => by rw [Finset.mem_singleton.mp hp])
    (fun g u hg => by obtain ⟨p, hp, rfl⟩ := Ol_pos hg; rw [show lv (payCell c p) u = lvR (payRole p) from lv_cell _ _]; exact h p hp)

/-! ## The names of the cells' invariants, and the ghost state a device holds -/

/-- Every device's cells: their invariants under the names `K`, and that round 0 of each is reached. -/
def records (K : Dev nD × Role → ℕ) : sProp 𝕄 :=
  iprop((bigSep Finset.univ fun cr : Dev nD × Role => cellInv ER (Rd I) (K cr) (cell cr.1 cr.2))
    ∗ bigSep Finset.univ fun cr : Dev nD × Role => reached ER (cell cr.1 cr.2) 0)

instance records_persistent (K : Dev nD × Role → ℕ) : BI.Persistent (records I K) := by unfold records; infer_instance

theorem inv_all (K : Dev nD × Role → ℕ) (cr : Dev nD × Role) :
    (bigSep Finset.univ fun cr : Dev nD × Role => (cellInv ER (Rd I) (K cr) (cell cr.1 cr.2) : sProp 𝕄)) ⊢ cellInv ER (Rd I) (K cr) (cell cr.1 cr.2) :=
  bigSep_elim (Finset.mem_univ cr)
theorem reached_all (cr : Dev nD × Role) :
    (bigSep Finset.univ fun cr : Dev nD × Role => (reached ER (cell cr.1 cr.2) 0 : sProp 𝕄)) ⊢ reached ER (cell cr.1 cr.2) 0 :=
  bigSep_elim (Finset.mem_univ cr)

theorem inv_at (K : Dev nD × Role → ℕ) (c : Dev nD) (r : Role) : records I K ⊢ cellInv ER (Rd I) (K (c, r)) (cell c r) := by
  unfold records
  iintro ⟨H, -⟩
  iapply (inv_all I K (c, r)) $$ H

theorem reached_at (K : Dev nD × Role → ℕ) (c : Dev nD) (r : Role) : records I K ⊢ reached ER (cell c r) 0 := by
  unfold records
  iintro ⟨-, H⟩
  iapply (reached_all (c, r)) $$ H

/-- What a device needs to send to `nb c q` on a channel: the tokens of the duties it pays, its position at its send cell. -/
def Tx (c : Dev nD) (q : Fin 3) (x : Chan) : sProp 𝕄 :=
  iprop(dutyTok ER (cell c (.tx q x)) 0 0 ∗ dutyTok ER (cell (nb c q) (.rx (rev q) x)) 0 0 ∗ atPos ER (cell c (.tx q x)) 0 ∅ 0)
/-- What it needs to wait for that send. -/
def Fl (c : Dev nD) (q : Fin 3) (x : Chan) : sProp 𝕄 :=
  iprop(cred (tallyAt (cell c (.tx q x)) () (amt x)) ∗ atPos ER (cell c (.tx q x)) 0 ∅ 0)
/-- What it needs to wait for what `nb c j` sends on a channel. -/
def Rx (c : Dev nD) (j : Fin 3) (x : Chan) : sProp 𝕄 :=
  iprop(cred (tallyAt (cell c (.rx j x)) () (amt x)) ∗ atPos ER (cell c (.rx j x)) 0 ∅ 0)
/-- What it needs for the barrier: the token of its duty at each of the others, its position and its credit. -/
def Bx (c : Dev nD) : sProp 𝕄 :=
  iprop((bigSep Finset.univ fun q : Fin 3 => dutyTok ER (cell (nb c q) .bar) 0 (rev q))
    ∗ cred (tallyAt (cell c .bar) () 3) ∗ atPos ER (cell c .bar) 0 ∅ 0)
/-- A cell at zero. -/
abbrev Z (c : Dev nD) (r : Role) : sProp 𝕄 := semVal (cell c r) 0

/-- A device owing what is left after `n` payments. -/
def Ow (c : Dev nD) (n : ℕ) : sProp 𝕄 := iprop(∃ W, owes (c : Thread nD τ) (Od c n) W)

end Cert.KernelIdeal.Mlp

end
-- ==== Proof.Ideal.Regions.lean ====
/-
  The parts of the buffers: the rectangles the kernel names are fibers of the coordinates' functions, a part splits along
  a further coordinate, and what a load of one reads.
-/
module

public import proofs.«01_k».proof.Proof.Ideal.Protocol

@[expose] public section

noncomputable section

namespace Cert.KernelIdeal.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The rectangles' sets -/

theorem rowS_rect {off : Fin 2 → ℕ} (r : Fin 4) (h : off = ![64 * r.val, 0]) (inb) :
    (Rect.unit (s := S256x2048) off S64x2048.size inb).set = rowS r := by
  subst h; ext i
  have h0 := idx2_lt0 i; have h1 := idx2_lt1 i
  rw [Rect.mem_set_unit, mem_fib, Fin.forall_fin_two, Fin.ext_iff]
  show ((64 * r.val ≤ (i 0).val ∧ (i 0).val < 64 * r.val + 64) ∧ (0 ≤ (i 1).val ∧ (i 1).val < 0 + 2048)) ↔ (i 0).val / 64 = r.val
  omega

theorem colS_rect {off : Fin 2 → ℕ} (g : Fin 4) (h : off = ![0, 512 * g.val]) (inb) :
    (Rect.unit (s := S256x2048) off S256x512.size inb).set = colS g := by
  subst h; ext i
  have h0 := idx2_lt0 i; have h1 := idx2_lt1 i
  rw [Rect.mem_set_unit, mem_fib, Fin.forall_fin_two, Fin.ext_iff]
  show ((0 ≤ (i 0).val ∧ (i 0).val < 0 + 256) ∧ (512 * g.val ≤ (i 1).val ∧ (i 1).val < 512 * g.val + 512)) ↔ (i 1).val / 512 = g.val
  omega

theorem blk_rect {off : Fin 2 → ℕ} (r g : Fin 4) (h : off = ![64 * r.val, 512 * g.val]) (inb) :
    (Rect.unit (s := S256x2048) off S64x512.size inb).set = blk r g := by
  subst h; ext i
  have h0 := idx2_lt0 i; have h1 := idx2_lt1 i
  rw [Rect.mem_set_unit, mem_fib, Fin.forall_fin_two, Prod.mk.injEq, Fin.ext_iff, Fin.ext_iff]
  show ((64 * r.val ≤ (i 0).val ∧ (i 0).val < 64 * r.val + 64) ∧ (512 * g.val ≤ (i 1).val ∧ (i 1).val < 512 * g.val + 512))
    ↔ (i 0).val / 64 = r.val ∧ (i 1).val / 512 = g.val
  omega

theorem colX_rect {off : Fin 2 → ℕ} (g : Fin 4) (h : off = ![0, 512 * g.val]) (inb) :
    (Rect.unit (s := S64x2048) off S64x512.size inb).set = colX g := by
  subst h; ext i
  have h0 := idx2_lt0 i; have h1 := idx2_lt1 i
  rw [Rect.mem_set_unit, mem_fib, Fin.forall_fin_two, Fin.ext_iff]
  show ((0 ≤ (i 0).val ∧ (i 0).val < 0 + 64) ∧ (512 * g.val ≤ (i 1).val ∧ (i 1).val < 512 * g.val + 512)) ↔ (i 1).val / 512 = g.val
  omega

/-- One slot of a three-dimensional buffer. -/
theorem slot_rect {n a b : ℕ} {off : Fin 3 → ℕ} (j : Fin n) (h : off = ![j.val, 0, 0]) (inb) :
    (Rect.unit (s := ⟨3, ![n, a, b]⟩) off ![1, a, b] inb).set = fib slotOf j := by
  subst h; ext i
  have h1 : (i 1).val < a := (i 1).isLt; have h2 : (i 2).val < b := (i 2).isLt
  rw [Rect.mem_set_unit, mem_fib, Fin.forall_fin_succ, Fin.forall_fin_two, Fin.ext_iff]
  show ((j.val ≤ (i 0).val ∧ (i 0).val < j.val + 1) ∧ (0 ≤ (i 1).val ∧ (i 1).val < 0 + a) ∧ (0 ≤ (i 2).val ∧ (i 2).val < 0 + b)) ↔ (i 0).val = j.val
  omega

theorem slotRG_rect {off : Fin 3 → ℕ} (j : Fin 3) (g : Fin 4) (h : off = ![j.val, 0, 512 * g.val]) (inb) :
    (Rect.unit (s := S3x64x2048) off S1x64x512.size inb).set = slotRG j g := by
  subst h; ext i
  have h1 : (i 1).val < 64 := (i 1).isLt; have h2 : (i 2).val < 2048 := (i 2).isLt
  rw [Rect.mem_set_unit, mem_fib, Fin.forall_fin_succ, Fin.forall_fin_two, Prod.mk.injEq, Fin.ext_iff, Fin.ext_iff]
  show ((j.val ≤ (i 0).val ∧ (i 0).val < j.val + 1) ∧ (0 ≤ (i 1).val ∧ (i 1).val < 0 + 64) ∧ (512 * g.val ≤ (i 2).val ∧ (i 2).val < 512 * g.val + 512))
    ↔ (i 0).val = j.val ∧ (i 2).val / 512 = g.val
  omega

/-! ## Splitting -/

/-- A sum over the four devices or groups, one of them first. -/
theorem quad (c : Fin 4) (Φ : Fin 4 → sProp 𝕄) : bigSep Finset.univ Φ = iprop(Φ c ∗ Φ (nb c 0) ∗ Φ (nb c 1) ∗ Φ (nb c 2)) := by
  rw [bigSep_univ_eq_bigSepL [c, nb c 0, nb c 1, nb c 2] (by revert c; decide) (by revert c; decide),
    bigSepL_cons_cons, bigSepL_cons_cons, bigSepL_cons_cons, bigSepL_singleton]
  rfl
theorem quad0 (Φ : Fin 4 → sProp 𝕄) : bigSep Finset.univ Φ = iprop(Φ 0 ∗ Φ 1 ∗ Φ 2 ∗ Φ 3) := quad 0 Φ
theorem tri (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl
theorem duo (Φ : Fin 2 → sProp 𝕄) : bigSep Finset.univ Φ = iprop(Φ 0 ∗ Φ 1) := by
  rw [bigSep_univ_eq_bigSepL [0, 1] (by decide) (by decide), bigSepL_cons_cons, bigSepL_singleton]
  rfl

theorem fib_disj {ι κ : Type} [Fintype ι] [DecidableEq κ] (k : ι → κ) (a b : κ) (h : a ≠ b) : Disjoint (fib k a) (fib k b) := by
  rw [Finset.disjoint_left]; intro i hi hj; exact h (((mem_fib k a i).mp hi).symm.trans ((mem_fib k b i).mp hj))

section
variable {κ : Type} [Fintype κ] [DecidableEq κ] {κ' : Type} [DecidableEq κ']

theorem univ_fib {ι : Type} [Fintype ι] [DecidableEq ι] (k : ι → κ) : (Finset.univ : Finset ι) = Finset.univ.biUnion (fib k) := by
  ext i; simp [mem_fib]
theorem fib_fst {ι : Type} [Fintype ι] [DecidableEq ι] (k : ι → κ') (k' : ι → κ) (a : κ') :
    fib k a = Finset.univ.biUnion (fun b => fib (fun i => (k i, k' i)) (a, b)) := by
  ext i; simp [mem_fib]
theorem fib_snd {ι : Type} [Fintype ι] [DecidableEq ι] (k : ι → κ) (k' : ι → κ') (a : κ') :
    fib k' a = Finset.univ.biUnion (fun b => fib (fun i => (k i, k' i)) (b, a)) := by
  ext i; simp [mem_fib]

variable (c : Dev nD) (b : Ref sig .tc)

/-- A whole buffer is its parts by a coordinate's function. -/
theorem At_all (k : b.ty.Idx → κ) (q : PosShare TreeShare) (f : b.ty.Contents (Elt F)) :
    (At c b Finset.univ q f : sProp 𝕄) = bigSep Finset.univ fun a => At c b (fib k a) q f := by
  exact (congrArg (fun S => (At c b S q f : sProp 𝕄)) (univ_fib k)).trans (pointsTo_biUnion _ _ (fun a _ b _ h => fib_disj k a b h))
/-- A part is its parts by a second coordinate's function; -/
theorem At_fst (k : b.ty.Idx → κ') (k' : b.ty.Idx → κ) (a : κ') (q : PosShare TreeShare) (f : b.ty.Contents (Elt F)) :
    (At c b (fib k a) q f : sProp 𝕄) = bigSep Finset.univ fun a' => At c b (fib (fun i => (k i, k' i)) (a, a')) q f := by
  exact (congrArg (fun S => (At c b S q f : sProp 𝕄)) (fib_fst k k' a)).trans <| pointsTo_biUnion _ _ (fun x _ y _ h => fib_disj _ _ _ (by simpa using h))
/-- or by a first one. -/
theorem At_snd (k : b.ty.Idx → κ) (k' : b.ty.Idx → κ') (a : κ') (q : PosShare TreeShare) (f : b.ty.Contents (Elt F)) :
    (At c b (fib k' a) q f : sProp 𝕄) = bigSep Finset.univ fun a' => At c b (fib (fun i => (k i, k' i)) (a', a)) q f := by
  exact (congrArg (fun S => (At c b S q f : sProp 𝕄)) (fib_snd k k' a)).trans <| pointsTo_biUnion _ _ (fun x _ y _ h => fib_disj _ _ _ (by simpa using h))
/-- Parts holding anything, joined. -/
theorem AtE_join (k : b.ty.Idx → κ) [Inhabited κ] (f₀ : b.ty.Contents (Elt F)) :
    (bigSep Finset.univ fun a => AtE (F := F) c b (fib k a)) ⊢ AtE c b Finset.univ := by
  haveI : Nonempty (b.ty.Contents (Elt F)) := ⟨f₀⟩
  iintro H
  ihave H := (bigSep_exists_pi (Y := fun _ => b.ty.Contents (Elt F)) Finset.univ (fun a f => (At c b (fib k a) fullShare f : sProp 𝕄))) $$ H
  icases H with ⟨%fs, H⟩
  ihave H := (pointsTo_biUnion_join Finset.univ (fib k) fs f₀ (fun a _ b _ h => fib_disj k a b h)) $$ H
  icases H with ⟨%g, -, H⟩
  iexists g
  ihave H := (show ((c : Thread nD τ).loc b ↦[Finset.univ.biUnion (fib k)]{fullShare} g : sProp 𝕄) ⊢ At c b Finset.univ fullShare g by
    rw [← univ_fib k]) $$ H
  iexact H
end

/-! ## What is read -/

theorem read_col {off : Fin 2 → ℕ} (X : FVec F S256x2048 .f32) (g : Fin 4) (h : off = ![0, 512 * g.val]) (inb) :
    (fun i => X ((Rect.unit (s := S256x2048) off S256x512.size inb).emb i)) = colBlk X g := by
  subst h; funext i
  refine congrArg X ((eq_ix2 _).trans (congrArg₂ ix2 (Fin.ext ?_) (Fin.ext ?_)))
  · show 0 + 1 * (i 0).val = (i 0).val; omega
  · show 512 * g.val + 1 * (i 1).val = 512 * g.val + (i 1).val; omega

theorem read_row {off : Fin 2 → ℕ} (X : FVec F S256x2048 .f32) (r : Fin 4) (h : off = ![64 * r.val, 0]) (inb) :
    (fun i => X ((Rect.unit (s := S256x2048) off S64x2048.size inb).emb i)) = rowBlk X r := by
  subst h; funext i
  refine congrArg X ((eq_ix2 _).trans (congrArg₂ ix2 (Fin.ext ?_) (Fin.ext ?_)))
  · show 64 * r.val + 1 * (i 0).val = 64 * r.val + (i 0).val; omega
  · show 0 + 1 * (i 1).val = (i 1).val; omega

end Cert.KernelIdeal.Mlp

end
-- ==== Proof.Ideal.Steps.lean ====
/-
  The kernel's operations, one rule each, at a symbolic device: loads and stores of the buffers' parts, the transfers of
  the weights into their stages, the sends and the waits of each channel, and the barrier.
-/
module

public import proofs.«01_k».proof.Proof.Ideal.Regions

@[expose] public section

noncomputable section

namespace Cert.KernelIdeal.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p`, which ends in `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (I : Inp F) (K : Dev nD × Role → ℕ)

/-- What every step may use. -/
def Ctx : sProp 𝕄 := iprop(records I K ∗ levAts L lv)
instance Ctx_persistent : BI.Persistent (Ctx I K) := by unfold Ctx; infer_instance

/-! ## Loads and stores -/

section
variable {α : Type} (c : Dev nD) {Q : α → Asn F}

theorem ld {s : Shape} {e : EltTy} {m : Memref sig .tc .vmem s e} {r : LoadRect s} {hl : m.view.LoadsAt r}
    {k : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))} {v : r.shape.Idx → Elt F e}
    (hS : m.view.setOn r.set ⊆ S) (hv : m.view.readAt (Elt F) r f = v) :
    (m.view.loc (c : Thread nD τ) ↦[S]{q} f) ⊢ iprop(((m.view.loc (c : Thread nD τ) ↦[S]{q} f) -∗ WP c (k v) Q) -∗ WP c (.op (.load m r hl) k) Q) := by
  subst hv
  exact wp_load 𝒱₀ (c : Thread nD τ) none Set.univ hS

/-- Contents written through a view that then reads `w` are `T`'s where `T` reads `w`. -/
theorem written {sp : Space} {s : Shape} {e : EltTy} {v : View sig .tc sp s e} {w : s.Idx → Elt F e}
    {S : Finset (Idx (v.loc (c : Thread nD τ)))} {f T : Buf (Elt F) (v.loc (c : Thread nD τ))}
    (hS : v.set = S) (hT : v.read (Elt F) T = w) :
    (v.loc (c : Thread nD τ) ↦[S]{fullShare} (v.write (Elt F) f w Finset.univ) : sProp 𝕄) ⊢ (v.loc (c : Thread nD τ) ↦[S]{fullShare} T) := by
  rw [pointsTo_congr (g := T)]
  intro i hi
  subst hS hT
  obtain ⟨x, -, rfl⟩ := Finset.mem_map.mp hi
  rw [View.write_emb_of_mem _ _ (Finset.mem_univ x), View.read_apply, cast_cast, cast_eq]

theorem st {s : Shape} {e : EltTy} {m : Memref sig .tc .vmem s e} {r : Rect s} {w : r.shape.Idx → Elt F e} {h1 h2}
    {k : PUnit → Prog (TpuEff nD τ sig (Elt F) Λ₀ .tc) α}
    {S : Finset (Idx ((m.access r).loc (c : Thread nD τ)))} {f T : Buf (Elt F) ((m.access r).loc (c : Thread nD τ))}
    (hS : (m.access r).set = S) (hT : (m.access r).read (Elt F) T = w) :
    ((m.access r).loc (c : Thread nD τ) ↦[S]{fullShare} f)
      ⊢ iprop((((m.access r).loc (c : Thread nD τ) ↦[S]{fullShare} T) -∗ WP c (k ⟨⟩) Q) -∗ WP c (.op (.store m r w Finset.univ h1 h2) k) Q) := by
  iintro H Hk
  iapply (wp_store 𝒱₀ (c : Thread nD τ) none Set.univ (m := m) (r := r) (Mk := Finset.univ) (by rw [View.setOn_univ, hS])) $$ H
  iintro H
  iapply Hk
  iapply (written c hS hT) $$ H

theorem whole_sub (b : Ref sig .tc) (M : Finset b.ty.Idx) : (Memref.whole b).view.setOn M ⊆ M := fun i hi => by
  obtain ⟨x, hx, rfl⟩ := Finset.mem_map.mp hi
  exact hx

/-- A load whose value is not used. -/
theorem ldE {s : Shape} {e : EltTy} {m : Memref sig .tc .vmem s e} {r : LoadRect s} {hl : m.view.LoadsAt r}
    {k : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))}
    (hS : m.view.setOn r.set ⊆ S) :
    (m.view.loc (c : Thread nD τ) ↦[S]{q} f) ⊢ iprop(((m.view.loc (c : Thread nD τ) ↦[S]{q} f) -∗ ∀ v, WP c (k v) Q) -∗ WP c (.op (.load m r hl) k) Q) := by
  iintro H Hk
  iapply (ld c hS rfl) $$ H
  iintro H
  iapply Hk $$ H

section
variable {k : (S256x512.Idx → Elt F .f32) → Prog (TpuEff nD τ sig (Elt F) Λ₀ .tc) α}

/-- A load of a column group of the activations; -/
theorem ld_xf {off : Fin 2 → ℕ} (g : Fin 4) (h : off = ![0, 512 * g.val]) {inb hl} {q : PosShare TreeShare} {X : FVec F S256x2048 .f32} :
    At c cc0_scratch0 (colS g) q X ⊢ iprop((At c cc0_scratch0 (colS g) q X -∗ WP c (k (colBlk X g)) Q)
  -∗ WP c (.op (.load (Memref.whole cc0_scratch0) (Rect.unit (s := S256x2048) off S256x512.size inb).toLoadRect hl) k) Q) := by
  refine ld (m := Memref.whole cc0_scratch0) (r := (Rect.unit (s := S256x2048) off S256x512.size inb).toLoadRect) (S := colS g) (f := X) (v := colBlk X g) c ?_ ?_
  · exact (whole_sub cc0_scratch0 _).trans (colS_rect g h inb).subset
  · exact read_col X g h inb
/-- of the shares. -/
theorem ld_pt {off : Fin 2 → ℕ} (g : Fin 4) (h : off = ![0, 512 * g.val]) {inb hl} {q : PosShare TreeShare} {X : FVec F S256x2048 .f32} :
    At c cc0_scratch2 (colS g) q X ⊢ iprop((At c cc0_scratch2 (colS g) q X -∗ WP c (k (colBlk X g)) Q)
  -∗ WP c (.op (.load (Memref.whole cc0_scratch2) (Rect.unit (s := S256x2048) off S256x512.size inb).toLoadRect hl) k) Q) := by
  refine ld (m := Memref.whole cc0_scratch2) (r := (Rect.unit (s := S256x2048) off S256x512.size inb).toLoadRect) (S := colS g) (f := X) (v := colBlk X g) c ?_ ?_
  · exact (whole_sub cc0_scratch2 _).trans (colS_rect g h inb).subset
  · exact read_col X g h inb
/-- The loads before the stores of a column group, their values not used. -/
theorem ldE_xf {off : Fin 2 → ℕ} (g : Fin 4) (h : off = ![0, 512 * g.val]) {inb hl} {q : PosShare TreeShare} {X : FVec F S256x2048 .f32} :
    At c cc0_scratch0 (colS g) q X ⊢ iprop((At c cc0_scratch0 (colS g) q X -∗ ∀ v, WP c (k v) Q)
  -∗ WP c (.op (.load (Memref.whole cc0_scratch0) (Rect.unit (s := S256x2048) off S256x512.size inb).toLoadRect hl) k) Q) :=
  ldE c (m := Memref.whole cc0_scratch0) (r := (Rect.unit (s := S256x2048) off S256x512.size inb).toLoadRect) (S := colS g) (f := X)
    ((whole_sub cc0_scratch0 _).trans (colS_rect g h inb).subset)
theorem ldE_pt {off : Fin 2 → ℕ} (g : Fin 4) (h : off = ![0, 512 * g.val]) {inb hl} {q : PosShare TreeShare} {X : FVec F S256x2048 .f32} :
    At c cc0_scratch2 (colS g) q X ⊢ iprop((At c cc0_scratch2 (colS g) q X -∗ ∀ v, WP c (k v) Q)
  -∗ WP c (.op (.load (Memref.whole cc0_scratch2) (Rect.unit (s := S256x2048) off S256x512.size inb).toLoadRect hl) k) Q) :=
  ldE c (m := Memref.whole cc0_scratch2) (r := (Rect.unit (s := S256x2048) off S256x512.size inb).toLoadRect) (S := colS g) (f := X)
    ((whole_sub cc0_scratch2 _).trans (colS_rect g h inb).subset)
/-- A load of a slot of the received shares. -/
theorem ld_acc {off : Fin 3 → ℕ} {k : (S1x256x512.Idx → Elt F .f32) → Prog (TpuEff nD τ sig (Elt F) Λ₀ .tc) α}
    (j : Fin 3) (h : off = ![j.val, 0, 0]) {inb hl} {q : PosShare TreeShare} {X : FVec F S256x2048 .f32} {n : Fin 3} :
    At c cc0_scratch3 (slotC j) q (accC I X n c) ⊢ iprop((At c cc0_scratch3 (slotC j) q (accC I X n c) -∗ WP c (k (accCBlk I X n c j)) Q)
  -∗ WP c (.op (.load (Memref.whole cc0_scratch3) (Rect.unit (s := S3x256x512) off S1x256x512.size inb).toLoadRect hl) k) Q) := by
  refine ld (m := Memref.whole cc0_scratch3) (r := (Rect.unit (s := S3x256x512) off S1x256x512.size inb).toLoadRect) (S := slotC j) (f := accC I X n c)
    (v := accCBlk I X n c j) c ?_ ?_
  · exact (whole_sub cc0_scratch3 _).trans (slot_rect j h inb).subset
  · subst h; funext i
    have h0 : (i 0).val < 1 := (i 0).isLt
    show prt I X n (nb c ((Rect.unit (s := S3x256x512) ![j.val, 0, 0] S1x256x512.size inb).emb i 0)) c
      (ix2 ((Rect.unit (s := S3x256x512) ![j.val, 0, 0] S1x256x512.size inb).emb i 1) ((Rect.unit (s := S3x256x512) ![j.val, 0, 0] S1x256x512.size inb).emb i 2)) = prt I X n (nb c j) c (ix2 (i 1) (i 2))
    have e0 : (Rect.unit (s := S3x256x512) ![j.val, 0, 0] S1x256x512.size inb).emb i 0 = j := Fin.ext (by show j.val + 1 * (i 0).val = j.val; omega)
    have e1 : (Rect.unit (s := S3x256x512) ![j.val, 0, 0] S1x256x512.size inb).emb i 1 = i 1 := Fin.ext (by show 0 + 1 * (i 1).val = (i 1).val; omega)
    have e2 : (Rect.unit (s := S3x256x512) ![j.val, 0, 0] S1x256x512.size inb).emb i 2 = i 2 := Fin.ext (by show 0 + 1 * (i 2).val = (i 2).val; omega)
    rw [e0, e1, e2]
/-- A load of a slot of the received rows. -/
theorem ld_accR {off : Fin 3 → ℕ} {k : (S1x64x2048.Idx → Elt F .f32) → Prog (TpuEff nD τ sig (Elt F) Λ₀ .tc) α}
    (j : Fin 3) (h : off = ![j.val, 0, 0]) {inb hl} {q : PosShare TreeShare} :
    At c cc0_scratch4 (slotR j) q (accR I c) ⊢ iprop((At c cc0_scratch4 (slotR j) q (accR I c) -∗ WP c (k (accRBlk I c j)) Q)
  -∗ WP c (.op (.load (Memref.whole cc0_scratch4) (Rect.unit (s := S3x64x2048) off S1x64x2048.size inb).toLoadRect hl) k) Q) := by
  refine ld (m := Memref.whole cc0_scratch4) (r := (Rect.unit (s := S3x64x2048) off S1x64x2048.size inb).toLoadRect) (S := slotR j) (f := accR I c)
    (v := accRBlk I c j) c ?_ ?_
  · exact (whole_sub cc0_scratch4 _).trans (slot_rect j h inb).subset
  · subst h; funext i
    have h0 : (i 0).val < 1 := (i 0).isLt
    have e0 : (Rect.unit (s := S3x64x2048) ![j.val, 0, 0] S1x64x2048.size inb).emb i 0 = j := Fin.ext (by show j.val + 1 * (i 0).val = j.val; omega)
    have e1 : (Rect.unit (s := S3x64x2048) ![j.val, 0, 0] S1x64x2048.size inb).emb i 1 = i 1 := Fin.ext (by show 0 + 1 * (i 1).val = (i 1).val; omega)
    have e2 : (Rect.unit (s := S3x64x2048) ![j.val, 0, 0] S1x64x2048.size inb).emb i 2 = i 2 := Fin.ext (by show 0 + 1 * (i 2).val = (i 2).val; omega)
    show accR I c ((Rect.unit (s := S3x64x2048) ![j.val, 0, 0] S1x64x2048.size inb).emb i) = _
    rw [eq_ix3 ((Rect.unit (s := S3x64x2048) ![j.val, 0, 0] S1x64x2048.size inb).emb i), e0, e1, e2]; rfl
/-- A load of a stage slot holding a chunk of a first weight; -/
theorem ld_sI {off : Fin 3 → ℕ} {k : (S1x512x4096.Idx → Elt F .f32) → Prog (TpuEff nD τ sig (Elt F) Λ₀ .tc) α}
    (j : Fin 2) (h : off = ![j.val, 0, 0]) {inb hl} {q : PosShare TreeShare} {n : Fin 3} {g : Fin 4} :
    At c cc0_scratch5 (slotI j) q (winStg I n c g) ⊢ iprop((At c cc0_scratch5 (slotI j) q (winStg I n c g) -∗ WP c (k (winBlk I n c g)) Q)
  -∗ WP c (.op (.load (Memref.whole cc0_scratch5) (Rect.unit (s := S2x512x4096) off S1x512x4096.size inb).toLoadRect hl) k) Q) := by
  refine ld (m := Memref.whole cc0_scratch5) (r := (Rect.unit (s := S2x512x4096) off S1x512x4096.size inb).toLoadRect) (S := slotI j) (f := winStg I n c g)
    (v := winBlk I n c g) c ?_ ?_
  · exact (whole_sub cc0_scratch5 _).trans (slot_rect j h inb).subset
  · subst h; funext i
    refine congrArg (I.win n c) (congrArg₂ ix2 (Fin.ext ?_) (Fin.ext ?_))
    · show 512 * g.val + (0 + 1 * (i 1).val) = 512 * g.val + (i 1).val; omega
    · show 0 + 1 * (i 2).val = (i 2).val; omega
/-- of a second weight. -/
theorem ld_sO {off : Fin 3 → ℕ} {k : (S1x4096x512.Idx → Elt F .f32) → Prog (TpuEff nD τ sig (Elt F) Λ₀ .tc) α}
    (j : Fin 2) (h : off = ![j.val, 0, 0]) {inb hl} {q : PosShare TreeShare} {n : Fin 3} {g : Fin 4} :
    At c cc0_scratch6 (slotO j) q (woutStg I n c g) ⊢ iprop((At c cc0_scratch6 (slotO j) q (woutStg I n c g) -∗ WP c (k (woutBlk I n c g)) Q)
  -∗ WP c (.op (.load (Memref.whole cc0_scratch6) (Rect.unit (s := S2x4096x512) off S1x4096x512.size inb).toLoadRect hl) k) Q) := by
  refine ld (m := Memref.whole cc0_scratch6) (r := (Rect.unit (s := S2x4096x512) off S1x4096x512.size inb).toLoadRect) (S := slotO j) (f := woutStg I n c g)
    (v := woutBlk I n c g) c ?_ ?_
  · exact (whole_sub cc0_scratch6 _).trans (slot_rect j h inb).subset
  · subst h; funext i
    refine congrArg (I.wout n c) (congrArg₂ ix2 (Fin.ext ?_) (Fin.ext ?_))
    · show 0 + 1 * (i 1).val = (i 1).val; omega
    · show 512 * g.val + (0 + 1 * (i 2).val) = 512 * g.val + (i 2).val; omega
/-- The load of a device's own rows of the shares, at the end; -/
theorem ld_ptRow {off : Fin 2 → ℕ} {k : (S64x2048.Idx → Elt F .f32) → Prog (TpuEff nD τ sig (Elt F) Λ₀ .tc) α}
    (r : Fin 4) (h : off = ![64 * r.val, 0]) {inb hl} {q : PosShare TreeShare} {X : FVec F S256x2048 .f32} :
    At c cc0_scratch2 (rowS r) q X ⊢ iprop((At c cc0_scratch2 (rowS r) q X -∗ WP c (k (rowBlk X r)) Q)
  -∗ WP c (.op (.load (Memref.whole cc0_scratch2) (Rect.unit (s := S256x2048) off S64x2048.size inb).toLoadRect hl) k) Q) := by
  refine ld (m := Memref.whole cc0_scratch2) (r := (Rect.unit (s := S256x2048) off S64x2048.size inb).toLoadRect) (S := rowS r) (f := X) (v := rowBlk X r) c ?_ ?_
  · exact (whole_sub cc0_scratch2 _).trans (rowS_rect r h inb).subset
  · exact read_row X r h inb
/-- of its rows of the activations, their value not used. -/
theorem ldE_xfRow {off : Fin 2 → ℕ} {k : (S64x2048.Idx → Elt F .f32) → Prog (TpuEff nD τ sig (Elt F) Λ₀ .tc) α}
    (r : Fin 4) (h : off = ![64 * r.val, 0]) {inb hl} {q : PosShare TreeShare} {X : FVec F S256x2048 .f32} :
    At c cc0_scratch0 (rowS r) q X ⊢ iprop((At c cc0_scratch0 (rowS r) q X -∗ ∀ v, WP c (k v) Q)
  -∗ WP c (.op (.load (Memref.whole cc0_scratch0) (Rect.unit (s := S256x2048) off S64x2048.size inb).toLoadRect hl) k) Q) :=
  ldE c (m := Memref.whole cc0_scratch0) (r := (Rect.unit (s := S256x2048) off S64x2048.size inb).toLoadRect) (S := rowS r) (f := X)
    ((whole_sub cc0_scratch0 _).trans (rowS_rect r h inb).subset)

theorem hz : (![0, 0] : Fin 2 → Nat) = fun _ => 0 := funext fun a => by fin_cases a <;> rfl

/-- The load of a device's rows of the inputs; -/
theorem ld_x {k : (S64x2048.Idx → Elt F .f32) → Prog (TpuEff nD τ sig (Elt F) Λ₀ .tc) α} {inb hl} {q : PosShare TreeShare} {X : FVec F S64x2048 .f32} :
    At c cc0_stg0_0 Finset.univ q X ⊢ iprop((At c cc0_stg0_0 Finset.univ q X -∗ WP c (k X) Q)
  -∗ WP c (.op (.load (Memref.whole cc0_stg0_0) (Rect.unit (s := S64x2048) ![0, 0] S64x2048.size inb).toLoadRect hl) k) Q) :=
  ld c (m := Memref.whole cc0_stg0_0) (r := (Rect.unit (s := S64x2048) ![0, 0] S64x2048.size inb).toLoadRect) (S := Finset.univ) (f := X)
    (Finset.subset_univ _) (Memref.readAt_unit_zero (Elt F) cc0_stg0_0 hz _ X)
/-- of the hidden layer. -/
theorem ld_h {k : (S256x4096.Idx → Elt F .f32) → Prog (TpuEff nD τ sig (Elt F) Λ₀ .tc) α} {inb hl} {q : PosShare TreeShare} {X : FVec F S256x4096 .f32} :
    At c cc0_scratch1 Finset.univ q X ⊢ iprop((At c cc0_scratch1 Finset.univ q X -∗ WP c (k X) Q)
  -∗ WP c (.op (.load (Memref.whole cc0_scratch1) (Rect.unit (s := S256x4096) ![0, 0] S256x4096.size inb).toLoadRect hl) k) Q) :=
  ld c (m := Memref.whole cc0_scratch1) (r := (Rect.unit (s := S256x4096) ![0, 0] S256x4096.size inb).toLoadRect) (S := Finset.univ) (f := X)
    (Finset.subset_univ _) (Memref.readAt_unit_zero (Elt F) cc0_scratch1 hz _ X)
/-- The load of the result, its value not used. -/
theorem ldE_out {k : (S64x2048.Idx → Elt F .f32) → Prog (TpuEff nD τ sig (Elt F) Λ₀ .tc) α} {inb hl} {q : PosShare TreeShare} {X : FVec F S64x2048 .f32} :
    At c cc0_stg1_0 Finset.univ q X ⊢ iprop((At c cc0_stg1_0 Finset.univ q X -∗ ∀ v, WP c (k v) Q)
  -∗ WP c (.op (.load (Memref.whole cc0_stg1_0) (Rect.unit (s := S64x2048) ![0, 0] S64x2048.size inb).toLoadRect hl) k) Q) :=
  ldE c (m := Memref.whole cc0_stg1_0) (r := (Rect.unit (s := S64x2048) ![0, 0] S64x2048.size inb).toLoadRect) (S := Finset.univ) (f := X) (Finset.subset_univ _)
end

section
variable {k : PUnit → Prog (TpuEff nD τ sig (Elt F) Λ₀ .tc) α}

/-- A store of a column group of the activations; -/
theorem st_xf {off : Fin 2 → ℕ} (g : Fin 4) (h : off = ![0, 512 * g.val]) {inb h1 h2} {w : FVec F S256x512 .f32} {X T : FVec F S256x2048 .f32} (hT : colBlk T g = w) :
    At c cc0_scratch0 (colS g) fullShare X ⊢ iprop((At c cc0_scratch0 (colS g) fullShare T -∗ WP c (k ⟨⟩) Q)
  -∗ WP c (.op (.store (Memref.whole cc0_scratch0) (Rect.unit (s := S256x2048) off S256x512.size inb) w Finset.univ h1 h2) k) Q) :=
  st c (m := Memref.whole cc0_scratch0) (r := Rect.unit (s := S256x2048) off S256x512.size inb) (S := colS g) (f := X) (T := T) (w := w)
    ((View.set_slice_whole cc0_scratch0 _).trans (colS_rect g h inb)) ((read_col T g h inb).trans hT)
/-- of the shares. -/
theorem st_pt {off : Fin 2 → ℕ} (g : Fin 4) (h : off = ![0, 512 * g.val]) {inb h1 h2} {w : FVec F S256x512 .f32} {X T : FVec F S256x2048 .f32} (hT : colBlk T g = w) :
    At c cc0_scratch2 (colS g) fullShare X ⊢ iprop((At c cc0_scratch2 (colS g) fullShare T -∗ WP c (k ⟨⟩) Q)
  -∗ WP c (.op (.store (Memref.whole cc0_scratch2) (Rect.unit (s := S256x2048) off S256x512.size inb) w Finset.univ h1 h2) k) Q) :=
  st c (m := Memref.whole cc0_scratch2) (r := Rect.unit (s := S256x2048) off S256x512.size inb) (S := colS g) (f := X) (T := T) (w := w)
    ((View.set_slice_whole cc0_scratch2 _).trans (colS_rect g h inb)) ((read_col T g h inb).trans hT)
/-- The store of a device's own rows of the activations; -/
theorem st_xfRow {off : Fin 2 → ℕ} (r : Fin 4) (h : off = ![64 * r.val, 0]) {inb h1 h2} {w : FVec F S64x2048 .f32} {X T : FVec F S256x2048 .f32} (hT : rowBlk T r = w) :
    At c cc0_scratch0 (rowS r) fullShare X ⊢ iprop((At c cc0_scratch0 (rowS r) fullShare T -∗ WP c (k ⟨⟩) Q)
  -∗ WP c (.op (.store (Memref.whole cc0_scratch0) (Rect.unit (s := S256x2048) off S64x2048.size inb) w Finset.univ h1 h2) k) Q) :=
  st c (m := Memref.whole cc0_scratch0) (r := Rect.unit (s := S256x2048) off S64x2048.size inb) (S := rowS r) (f := X) (T := T) (w := w)
    ((View.set_slice_whole cc0_scratch0 _).trans (rowS_rect r h inb)) ((read_row T r h inb).trans hT)

theorem univ_rect {s : Shape} {off : Fin s.rank → ℕ} (h : off = fun _ => 0) (inb) : (Rect.unit (s := s) off s.size inb).set = Finset.univ := by
  subst h
  ext i
  rw [Rect.mem_set_unit]
  simp only [Finset.mem_univ, iff_true]
  exact fun a => ⟨Nat.zero_le _, by rw [Nat.zero_add]; exact (i a).isLt⟩

/-- of the hidden layer; -/
theorem st_h {inb h1 h2} {w X : FVec F S256x4096 .f32} :
    Al c cc0_scratch1 X ⊢ iprop((Al c cc0_scratch1 w -∗ WP c (k ⟨⟩) Q)
  -∗ WP c (.op (.store (Memref.whole cc0_scratch1) (Rect.unit (s := S256x4096) ![0, 0] S256x4096.size inb) w Finset.univ h1 h2) k) Q) :=
  st c (m := Memref.whole cc0_scratch1) (r := Rect.unit (s := S256x4096) ![0, 0] S256x4096.size inb) (S := Finset.univ) (f := X) (T := w) (w := w)
    ((View.set_slice_whole cc0_scratch1 _).trans (univ_rect hz inb)) (Memref.readAt_unit_zero (Elt F) cc0_scratch1 hz _ w)
/-- of the result. -/
theorem st_out {inb h1 h2} {w X : FVec F S64x2048 .f32} :
    Al c cc0_stg1_0 X ⊢ iprop((Al c cc0_stg1_0 w -∗ WP c (k ⟨⟩) Q)
  -∗ WP c (.op (.store (Memref.whole cc0_stg1_0) (Rect.unit (s := S64x2048) ![0, 0] S64x2048.size inb) w Finset.univ h1 h2) k) Q) :=
  st c (m := Memref.whole cc0_stg1_0) (r := Rect.unit (s := S64x2048) ![0, 0] S64x2048.size inb) (S := Finset.univ) (f := X) (T := w) (w := w)
    ((View.set_slice_whole cc0_stg1_0 _).trans (univ_rect hz inb)) (Memref.readAt_unit_zero (Elt F) cc0_stg1_0 hz _ w)
end

end

end Cert.KernelIdeal.Mlp

end
-- ==== Proof.Ideal.Moves.lean ====
/-
  The kernel's transfers, one rule each, at a symbolic device: the weights' chunks into their stages, the sends and the
  waits of each channel, and the barrier.
-/
module

public import proofs.«01_k».proof.Proof.Ideal.Steps

@[expose] public section

noncomputable section

namespace Cert.KernelIdeal.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Role → ℕ)

/-! ## What a squeezed slot reads -/

theorem cons_ix {a b : ℕ} (x : (⟨2, ![a, b]⟩ : Shape).Idx) (h : (⟨2, ![a, b]⟩ : Shape).numel = (⟨3, ![1, a, b]⟩ : Shape).numel) :
    Shape.reshapeEquiv h x = ix3 ⟨0, Nat.one_pos⟩ (x 0) (x 1) := by
  rw [Shape.reshapeEquiv_cons_one h x]
  funext i; fin_cases i <;> rfl

section
variable {α : Type} (c : Dev nD) {Q : α → Asn F}
  {k : PUnit → Prog (TpuEff nD τ sig (Elt F) Λ₀ .tc) α}

/-! ## The weights' chunks -/

/-- The semaphore of a slot of the first weights' stage; -/
abbrev semI (s : Fin 2) : DmaSem sig := (⟨74 + s.val, by omega⟩ : Fin 78)
/-- of the second weights'. -/
abbrev semO (s : Fin 2) : DmaSem sig := (⟨76 + s.val, by omega⟩ : Fin 78)

abbrev dstI (off : Fin 3 → ℕ) (inb : ∀ a, off a + S1x512x4096.size a ≤ S2x512x4096.size a) : Memref sig .tc .vmem S512x4096 .f32 :=
  ((Memref.whole cc0_scratch5 : Memref sig .tc .vmem S2x512x4096 .f32).slice (Rect.unit (s := S2x512x4096) off S1x512x4096.size inb) (fun _ => rfl)).squeeze S512x4096 squeezes_S1x512x4096_S512x4096
abbrev dstO (off : Fin 3 → ℕ) (inb : ∀ a, off a + S1x4096x512.size a ≤ S2x4096x512.size a) : Memref sig .tc .vmem S4096x512 .f32 :=
  ((Memref.whole cc0_scratch6 : Memref sig .tc .vmem S2x4096x512 .f32).slice (Rect.unit (s := S2x4096x512) off S1x4096x512.size inb) (fun _ => rfl)).squeeze S4096x512 squeezes_S1x4096x512_S4096x512

/-- What a chunk of a first weight credits; -/
def amtI : ℕ := (dstI ![0, 0, 0] inb_S2x512x4096_S1x512x4096_0_0_0).view.dmaCredit
/-- of a second weight. -/
def amtO : ℕ := (dstO ![0, 0, 0] inb_S2x4096x512_S1x4096x512_0_0_0).view.dmaCredit

/-- A chunk of the weight at `ℓ` in flight, which hands over `D` and the chunk at its end: the flight, and the rest of the
    weight. -/
def FlW (c : Dev nD) (ℓ : Loc nD τ sig) (q : PosShare TreeShare) (fs : Buf (Elt F) ℓ) (sm : DmaSem sig) (N : ℕ) (D : sProp 𝕄) : sProp 𝕄 :=
  iprop(∃ S : Finset (Idx ℓ), Transfers.Flight EC (c : Thread nD τ) (.dma sm) () N iprop(D ∗ (ℓ ↦[S]{q} fs)) ∗ (ℓ ↦[Finset.univ \ S]{q} fs))

/-- The issue of a chunk's transfer, in general. -/
theorem issue {sp : Space} {s : Shape} {src : Memref sig .tc sp s .f32} {dst : Memref sig .tc .vmem s .f32} {sm : DmaSem sig}
    {h1 h2 h3} {q : PosShare TreeShare} {N : ℕ}
    {fs : Buf (Elt F) (src.view.loc (c : Thread nD τ))} {S : Finset (Idx (dst.view.loc (c : Thread nD τ)))} {f T : Buf (Elt F) (dst.view.loc (c : Thread nD τ))}
    (hN : dst.view.dmaCredit = N) (hN0 : 0 < N) (hS : dst.view.set = S) (hT : dst.view.read (Elt F) T = src.view.read (Elt F) fs) :
    (dst.view.loc (c : Thread nD τ) ↦[S]{fullShare} f) ⊢ iprop((src.view.loc (c : Thread nD τ) ↦[Finset.univ]{q} fs) -∗ semVal ((c : Thread nD τ), .dma sm) 0
  -∗ (FlW c (src.view.loc (c : Thread nD τ)) q fs sm N (dst.view.loc (c : Thread nD τ) ↦[S]{fullShare} T) -∗ WP c (k ⟨⟩) Q)
  -∗ WP c (.op (.enqueueDma src (.here dst) (.dma sm) h1 h2 h3) k) Q) := by
  iintro Hd Hs Hv Hk
  ihave Hs := (pointsTo_split_subset (Finset.subset_univ src.view.set)).1 $$ Hs
  icases Hs with ⟨Hs, Hr⟩
  iapply (Transfers.wp_dmaLocal EC 𝒱₀ (c : Thread nD τ) none (sm := .dma sm) () N hN hN0 hS.subset) $$ [Hd Hs Hv]
  · isplitl [Hs]; · iexact Hs
    isplitl [Hd]; · iexact Hd
    iexact Hv
  iintro Hf
  iapply Hk
  unfold FlW
  iexists src.view.set
  isplitl [Hf]
  · iapply (Transfers.Flight_mono EC (c : Thread nD τ) (sep_mono_left (written c hS hT))) $$ Hf
  · iexact Hr

/-- The issue of a chunk of a first weight; -/
theorem issI (s : Fin 2) (n : Fin 3) (g : Fin 4) {m : Memref sig .tc .hbm S2048x4096 .f32} {fs : Buf (Elt F) (m.view.loc (c : Thread nD τ))}
    (hm : m.view.read (Elt F) fs = I.win n c) {offd : Fin 3 → ℕ} (hd : offd = ![s.val, 0, 0]) {off : Fin 2 → ℕ} (ho : off = ![512 * g.val, 0])
    {sm : DmaSem sig} (hsm : sm = semI s) {inb inbd h1 h2 h3} {q : PosShare TreeShare} {f : FVec F S2x512x4096 .f32} :
    At c cc0_scratch5 (slotI s) fullShare f ⊢ iprop((m.view.loc (c : Thread nD τ) ↦[Finset.univ]{q} fs) -∗ semVal ((c : Thread nD τ), .dma (semI s)) 0
  -∗ (FlW c (m.view.loc (c : Thread nD τ)) q fs (semI s) amtI (At c cc0_scratch5 (slotI s) fullShare (winStg I n c g)) -∗ WP c (k ⟨⟩) Q)
  -∗ WP c (.op (.enqueueDma (m.slice (Rect.unit (s := S2048x4096) off S512x4096.size inb) (fun _ => rfl)) (.here (dstI offd inbd)) (.dma sm) h1 h2 h3) k) Q) := by
  subst hsm ho
  refine issue c (src := m.slice (Rect.unit (s := S2048x4096) _ S512x4096.size inb) (fun _ => rfl)) (dst := dstI offd inbd) (f := f) (T := winStg I n c g) (S := slotI s) rfl (View.dmaCredit_pos _ (by decide)) ?_ ?_
  · exact (View.set_reshape _ _).trans ((View.set_slice_whole cc0_scratch5 _).trans (slot_rect s hd inbd))
  · subst hd; funext x
    show winStg I n c g ((Rect.unit (s := S2x512x4096) _ S1x512x4096.size inbd).emb (Shape.reshapeEquiv _ x)) = m.view.read (Elt F) fs ((Rect.unit (s := S2048x4096) _ S512x4096.size inb).emb x)
    rw [hm, cons_ix]
    refine congrArg (I.win n c) (((eq_ix2 _).trans (congrArg₂ ix2 (Fin.ext ?_) (Fin.ext ?_))).symm)
    · show 512 * g.val + 1 * (x 0).val = 512 * g.val + (0 + 1 * (x 0).val); omega
    · rfl

/-- of a second weight. -/
theorem issO (s : Fin 2) (n : Fin 3) (g : Fin 4) {m : Memref sig .tc .hbm S4096x2048 .f32} {fs : Buf (Elt F) (m.view.loc (c : Thread nD τ))}
    (hm : m.view.read (Elt F) fs = I.wout n c) {offd : Fin 3 → ℕ} (hd : offd = ![s.val, 0, 0]) {off : Fin 2 → ℕ} (ho : off = ![0, 512 * g.val])
    {sm : DmaSem sig} (hsm : sm = semO s) {inb inbd h1 h2 h3} {q : PosShare TreeShare} {f : FVec F S2x4096x512 .f32} :
    At c cc0_scratch6 (slotO s) fullShare f ⊢ iprop((m.view.loc (c : Thread nD τ) ↦[Finset.univ]{q} fs) -∗ semVal ((c : Thread nD τ), .dma (semO s)) 0
  -∗ (FlW c (m.view.loc (c : Thread nD τ)) q fs (semO s) amtO (At c cc0_scratch6 (slotO s) fullShare (woutStg I n c g)) -∗ WP c (k ⟨⟩) Q)
  -∗ WP c (.op (.enqueueDma (m.slice (Rect.unit (s := S4096x2048) off S4096x512.size inb) (fun _ => rfl)) (.here (dstO offd inbd)) (.dma sm) h1 h2 h3) k) Q) := by
  subst hsm ho
  refine issue c (src := m.slice (Rect.unit (s := S4096x2048) _ S4096x512.size inb) (fun _ => rfl)) (dst := dstO offd inbd) (f := f) (T := woutStg I n c g) (S := slotO s) rfl (View.dmaCredit_pos _ (by decide)) ?_ ?_
  · exact (View.set_reshape _ _).trans ((View.set_slice_whole cc0_scratch6 _).trans (slot_rect s hd inbd))
  · subst hd; funext x
    show woutStg I n c g ((Rect.unit (s := S2x4096x512) _ S1x4096x512.size inbd).emb (Shape.reshapeEquiv _ x)) = m.view.read (Elt F) fs ((Rect.unit (s := S4096x2048) _ S4096x512.size inb).emb x)
    rw [hm, cons_ix]
    refine congrArg (I.wout n c) (((eq_ix2 _).trans (congrArg₂ ix2 (Fin.ext ?_) (Fin.ext ?_))).symm)
    · rfl
    · show 512 * g.val + 1 * (x 1).val = 512 * g.val + (0 + 1 * (x 1).val); omega

theorem num_lt : ∀ r : Role, r = .bar ∨ ∃ n : Fin 78, n.val < 74 ∧ csem r = .dma n
  | .bar => .inl rfl
  | .rx j x => .inr ⟨rxNum j x, by revert j x; decide, rfl⟩
  | .tx q x => .inr ⟨txNum q x, by revert q x; decide, rfl⟩

/-- The stages' semaphores have level zero. -/
theorem lv_stage (sm : DmaSem sig) (h : 74 ≤ sm.val) : lv ((c : Thread nD τ), .dma sm) () = 0 := by
  have : roleOf (.dma sm) = none := by
    unfold roleOf Function.partialInv
    rw [dif_neg]
    rintro ⟨r, hr⟩
    rcases num_lt r with rfl | ⟨n, hn, e⟩
    · exact absurd hr (by unfold csem; exact fun h => by cases h)
    · rw [e] at hr
      have := SemLoc.dma.inj hr
      rw [← this] at h
      exact absurd hn (Nat.not_lt.mpr h)
  dsimp only [lv]
  rw [this]

theorem pay_pos : ∀ p ∈ payL, 0 < lvR (payRole p) := by decide

/-- The wait for a chunk: the stage slot, the semaphore at zero, and the weight whole again. -/
theorem waitW {sp : Space} {s s' : Shape} {e' : EltTy} {ℓ : Loc nD τ sig} {q : PosShare TreeShare} {fs : Buf (Elt F) ℓ} {sm sm' : DmaSem sig} {N : ℕ} {D : sProp 𝕄} {i : ℕ}
    {src : Memref sig .tc sp s' e'} {dst : Memref sig .tc .vmem s .f32} {h1 h2} (hsm : sm' = sm) (h74 : 74 ≤ sm.val) (hN : dst.view.dmaCredit = N) :
    Ctx I K ⊢ iprop(FlW c ℓ q fs sm N D -∗ Ow c i
  -∗ (Ow c i -∗ D -∗ semVal ((c : Thread nD τ), .dma sm) 0 -∗ (ℓ ↦[Finset.univ]{q} fs) -∗ WP c (k ⟨⟩) Q)
  -∗ WP c (.op (.waitDma2 sm' src dst h1 h2) k) Q) := by
  subst hsm
  unfold FlW Ow Ctx
  iintro ⟨#HR, #HL⟩ ⟨%S, Hf, Hr⟩ ⟨%W, HO⟩ Hk
  iapply (Transfers.wp_waitLocalO EC 𝒱₀ (c : Thread nD τ) none () hN) $$ [Hf HO]
  · isplitl [Hf]; · iexact Hf
    isplitl [HO]; · iexact HO
    iapply (mayWait_of c (.dma sm') i (fun p hp => by rw [lv_stage c sm' h74]; exact pay_pos p (List.mem_of_mem_drop hp))) $$ HL
  iintro ⟨⟨HD, Hs⟩, Hv, HO⟩
  iapply Hk $$ [HO] HD Hv
  · iexists _; iexact HO
  · iapply (pointsTo_split_subset (Finset.subset_univ S)).2
    isplitl [Hs]; · iexact Hs
    iexact Hr
end

end Cert.KernelIdeal.Mlp

end
-- ==== Proof.Ideal.Channels.lean ====
/-
  The sends and the waits of each channel, and the barrier, at a symbolic device: what each send takes of the sender's
  buffers and what it lands.
-/
module

public import proofs.«01_k».proof.Proof.Ideal.Moves

@[expose] public section

noncomputable section

namespace Cert.KernelIdeal.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Role → ℕ)

section
variable {α : Type} (c : Dev nD) {Q : α → Asn F}
  {k : PUnit → Prog (TpuEff nD τ sig (Elt F) Λ₀ .tc) α}

theorem Od_cons {i : ℕ} {p : Pay} (hi : payL.drop i = p :: payL.drop (i + 1)) :
    Od c i = Od c (i + 1) + tallyAt (payCell c p) () (amtR (payRole p)) := by
  show Ol c (payL.drop i) = _
  rw [hi]; rfl

/-- A send whose source comes back with its send cell's landing; `Fr` goes with the data. -/
theorem snd (q : Fin 3) (x : Chan) (n : Dev nD) (hn : n = nb c q) (i : ℕ) (hi : payL.drop i = (q, some x) :: payL.drop (i + 1))
    {s : Shape} {src dst : Memref sig .tc .vmem s .f32} {sS sm : DmaSem sig} (hS : sS = txNum q x) (hR : sm = rxNum (rev q) x)
    (hN : dst.view.dmaCredit = amt x) {hsc : dst.view.ref.isScScratch = false} {h1 h2}
    {h3 : DmaTarget.Typed .vmem (.dma sm) (.remote (Dev.tc n : Thread nD τ) dst (.dma sS) hsc)}
    {qs : PosShare TreeShare} {fs : Buf (Elt F) (src.view.loc (c : Thread nD τ))} {fd : Buf (Elt F) (dst.view.loc (nb c q : Thread nD τ))} {Fr : sProp 𝕄}
    (hp₁ : (src.view.loc (c : Thread nD τ) ↦[src.view.set]{qs} fs) ⊢ txPay I c q x)
    (hp₂ : iprop((dst.view.loc (nb c q : Thread nD τ) ↦[dst.view.set]{fullShare} (dst.view.write (Elt F) fd (src.view.read (Elt F) fs) Finset.univ)) ∗ Fr)
      ⊢ rxPay I (nb c q) (rev q) x) :
    Ctx I K ⊢ iprop(Ow c i -∗ Tx c q x -∗ (src.view.loc (c : Thread nD τ) ↦[src.view.set]{qs} fs)
  -∗ (dst.view.loc (nb c q : Thread nD τ) ↦[dst.view.set]{fullShare} fd) -∗ Fr
  -∗ (Ow c (i + 1) -∗ Fl c q x -∗ WP c (k ⟨⟩) Q)
  -∗ WP c (.op (.enqueueDma src (.remote (Dev.tc n : Thread nD τ) dst (.dma sS) hsc) (.dma sm) h1 h2 h3) k) Q) := by
  subst hn hS hR
  unfold Ow Tx Fl Ctx
  iintro ⟨#HR, #HL⟩ ⟨%W, HO⟩ ⟨Ht, Hr, Ha⟩ Hs Hd HF Hk
  iapply (Rounds.wp_send_pointsTo_with 𝒱₀ ER (Rd I) (c : Thread nD τ) none (κ₁ := K (c, .tx q x)) (κ₂ := K (nb c q, .rx (rev q) x))
    (sem := .dma (rxNum (rev q) x)) (r₁ := 0) (r₂ := 0) (d₁ := 0) (d₂ := 0) (fd := fd)
    (by show (0 : Fin 3) ∈ (Rd I).duties (cell c (.tx q x)) 0; rw [duties_cell]; exact Finset.mem_singleton_self _)
    (by show (0 : Fin 3) ∈ (Rd I).duties (cell (nb c q) (.rx (rev q) x)) 0; rw [duties_cell]; exact Finset.mem_singleton_self _)
    () () (amt x) hN (amount_cell I c (.tx q x) 0) (amount_cell I (nb c q) (.rx (rev q) x) 0) (Od c (i + 1)) (Od_cons c hi) (W := W)
    (hp₁.trans (Entails.of_eq (payload_cell I c (.tx q x) 0).symm)) (hp₂.trans (Entails.of_eq (payload_cell I (nb c q) (.rx (rev q) x) 0).symm)))
      $$ [Ht Hr Hs Hd HF HO]
  · isplitr; · iapply (inv_at I K c (.tx q x)) $$ HR
    isplitr; · iapply (inv_at I K (nb c q) (.rx (rev q) x)) $$ HR
    isplitl [Hs]; · iexact Hs
    isplitl [Hd HF]; · isplitl [Hd] <;> iassumption
    isplitl [HO]; · iexact HO
    isplitl [Ht]; · iexact Ht
    isplitr; · iapply (reached_at I K c (.tx q x)) $$ HR
    isplitl [Hr]; · iexact Hr
    iapply (reached_at I K (nb c q) (.rx (rev q) x)) $$ HR
  iintro ⟨Hc, HO⟩
  iapply Hk $$ [HO] [Hc Ha]
  · iexists W; iexact HO
  · isplitl [Hc] <;> iassumption

/-- A send whose source goes with the data. -/
theorem sndL (q : Fin 3) (x : Chan) (n : Dev nD) (hn : n = nb c q) (i : ℕ) (hi : payL.drop i = (q, some x) :: payL.drop (i + 1))
    {s : Shape} {src dst : Memref sig .tc .vmem s .f32} {sS sm : DmaSem sig} (hS : sS = txNum q x) (hR : sm = rxNum (rev q) x)
    (hN : dst.view.dmaCredit = amt x) {hsc : dst.view.ref.isScScratch = false} {h1 h2}
    {h3 : DmaTarget.Typed .vmem (.dma sm) (.remote (Dev.tc n : Thread nD τ) dst (.dma sS) hsc)}
    {qs : PosShare TreeShare} {fs : Buf (Elt F) (src.view.loc (c : Thread nD τ))} {fd : Buf (Elt F) (dst.view.loc (nb c q : Thread nD τ))} {Fr : sProp 𝕄}
    (hp₁ : (emp : sProp 𝕄) ⊢ txPay I c q x)
    (hp₂ : iprop(((dst.view.loc (nb c q : Thread nD τ) ↦[dst.view.set]{fullShare} (dst.view.write (Elt F) fd (src.view.read (Elt F) fs) Finset.univ)) ∗ Fr)
        ∗ (src.view.loc (c : Thread nD τ) ↦[src.view.set]{qs} fs))
      ⊢ rxPay I (nb c q) (rev q) x) :
    Ctx I K ⊢ iprop(Ow c i -∗ Tx c q x -∗ (src.view.loc (c : Thread nD τ) ↦[src.view.set]{qs} fs)
  -∗ (dst.view.loc (nb c q : Thread nD τ) ↦[dst.view.set]{fullShare} fd) -∗ Fr
  -∗ (Ow c (i + 1) -∗ Fl c q x -∗ WP c (k ⟨⟩) Q)
  -∗ WP c (.op (.enqueueDma src (.remote (Dev.tc n : Thread nD τ) dst (.dma sS) hsc) (.dma sm) h1 h2 h3) k) Q) := by
  subst hn hS hR
  unfold Ow Tx Fl Ctx
  iintro ⟨#HR, #HL⟩ ⟨%W, HO⟩ ⟨Ht, Hr, Ha⟩ Hs Hd HF Hk
  iapply (Rounds.wp_send_landing_pointsTo_with 𝒱₀ ER (Rd I) (c : Thread nD τ) none (κ₁ := K (c, .tx q x)) (κ₂ := K (nb c q, .rx (rev q) x))
    (sem := .dma (rxNum (rev q) x)) (r₁ := 0) (r₂ := 0) (d₁ := 0) (d₂ := 0) (fd := fd)
    (by show (0 : Fin 3) ∈ (Rd I).duties (cell c (.tx q x)) 0; rw [duties_cell]; exact Finset.mem_singleton_self _)
    (by show (0 : Fin 3) ∈ (Rd I).duties (cell (nb c q) (.rx (rev q) x)) 0; rw [duties_cell]; exact Finset.mem_singleton_self _)
    () () (amt x) hN (amount_cell I c (.tx q x) 0) (amount_cell I (nb c q) (.rx (rev q) x) 0) (Od c (i + 1)) (Od_cons c hi) (W := W)
    (hp₁.trans (Entails.of_eq (payload_cell I c (.tx q x) 0).symm)) (hp₂.trans (Entails.of_eq (payload_cell I (nb c q) (.rx (rev q) x) 0).symm)))
      $$ [Ht Hr Hs Hd HF HO]
  · isplitr; · iapply (inv_at I K c (.tx q x)) $$ HR
    isplitr; · iapply (inv_at I K (nb c q) (.rx (rev q) x)) $$ HR
    isplitl [Hs]; · iexact Hs
    isplitl [Hd HF]; · isplitl [Hd] <;> iassumption
    isplitl [HO]; · iexact HO
    isplitl [Ht]; · iexact Ht
    isplitr; · iapply (reached_at I K c (.tx q x)) $$ HR
    isplitl [Hr]; · iexact Hr
    iapply (reached_at I K (nb c q) (.rx (rev q) x)) $$ HR
  iintro ⟨Hc, HO⟩
  iapply Hk $$ [HO] [Hc Ha]
  · iexists W; iexact HO
  · isplitl [Hc] <;> iassumption

/-! ## The waits -/

/-- The wait for what `nb c j` sends on a channel: the cell at zero, and what the landing hands over. -/
theorem rcv (j : Fin 3) (x : Chan) (i : ℕ) (hlv : ∀ p ∈ payL.drop i, lvR (.rx j x) < lvR (payRole p)) {sp : Space} {s s' : Shape} {e' : EltTy}
    {src : Memref sig .tc sp s' e'} {dst : Memref sig .tc .vmem s .f32} {sm : DmaSem sig} (hR : sm = rxNum j x) (hN : dst.view.dmaCredit = amt x) {h1 h2} :
    Ctx I K ⊢ iprop(Ow c i -∗ Rx c j x -∗ (Ow c i -∗ Z c (.rx j x) -∗ rxPay I c j x -∗ WP c (k ⟨⟩) Q)
  -∗ WP c (.op (.waitDma2 sm src dst h1 h2) k) Q) := by
  subst hR
  unfold Ow Rx Ctx
  iintro ⟨#HR, #HL⟩ ⟨%W, HO⟩ ⟨Hc, Ha⟩ Hk
  iapply (Rounds.wp_wait_rest_token 𝒱₀ ER (Rd I) (c : Thread nD τ) none (κ := K (c, .rx j x)) (wpE_waitDma2_eq 𝒱₀ (c : Thread nD τ) none Set.univ)
    (Set.mem_univ _) () (O := Od c i) (W := W) (R := 0) (m := 0) (T := ∅)
    (by rw [hN, show ((c : Thread nD τ), SemLoc.dma (rxNum j x)) = cell c (.rx j x) from rfl, expect_cell, Nat.zero_add]; exact (Nat.one_mul _).symm)) $$ [Hc Ha HO]
  · isplitr; · iapply (inv_at I K c (.rx j x)) $$ HR
    isplitl [Hc]; · rw [hN]; iexact Hc
    isplitl [HO]; · iexact HO
    isplitr
    · iapply (mayWait_of c (csem (.rx j x)) i (by rw [show lv ((c : Thread nD τ), csem (.rx j x)) () = lvR (.rx j x) from lv_cell c _]; exact hlv)) $$ HL
    iexact Ha
  iintro ⟨HO, Ha, -, Hp⟩
  ihave Hp := (Entails.of_eq (rest_rx I c j x) : (bigSep ((Rd I).duties ((c : Thread nD τ), .dma (rxNum j x)) 0 \ ∅) fun d => (Rd I).payload ((c : Thread nD τ), .dma (rxNum j x)) 0 d) ⊢ rxPay I c j x) $$ Hp
  imod (Rounds.cell_close ER (Rd I) (Set.mem_univ (K (c, .rx j x))) (fun h => h) (R := 0 + 1) (duties_later I _)) $$ [Ha] with Hz
  · isplitr; · iapply (inv_at I K c (.rx j x)) $$ HR
    iexact Ha
  iapply Hk $$ [HO] Hz Hp
  iexists _; iexact HO

/-- The wait for the own send to `nb c q` on a channel, at the end. -/
theorem sndw (q : Fin 3) (x : Chan) {sp : Space} {s s' : Shape} {e' : EltTy}
    {src : Memref sig .tc sp s' e'} {dst : Memref sig .tc .vmem s .f32} {sm : DmaSem sig} (hR : sm = txNum q x) (hN : dst.view.dmaCredit = amt x) {h1 h2} :
    Ctx I K ⊢ iprop(Ow c 39 -∗ Fl c q x -∗ (Ow c 39 -∗ Z c (.tx q x) -∗ txPay I c q x -∗ WP c (k ⟨⟩) Q)
  -∗ WP c (.op (.waitDma2 sm src dst h1 h2) k) Q) := by
  subst hR
  unfold Ow Fl Ctx
  iintro ⟨#HR, #HL⟩ ⟨%W, HO⟩ ⟨Hc, Ha⟩ Hk
  iapply (Rounds.wp_wait_rest_token 𝒱₀ ER (Rd I) (c : Thread nD τ) none (κ := K (c, .tx q x)) (wpE_waitDma2_eq 𝒱₀ (c : Thread nD τ) none Set.univ)
    (Set.mem_univ _) () (O := Od c 39) (W := W) (R := 0) (m := 0) (T := ∅)
    (by rw [hN, show ((c : Thread nD τ), SemLoc.dma (txNum q x)) = cell c (.tx q x) from rfl, expect_cell, Nat.zero_add]; exact (Nat.one_mul _).symm)) $$ [Hc Ha HO]
  · isplitr; · iapply (inv_at I K c (.tx q x)) $$ HR
    isplitl [Hc]; · rw [hN]; iexact Hc
    isplitl [HO]; · iexact HO
    isplitr
    · iapply (mayWait_of c (csem (.tx q x)) 39 (by rw [show payL.drop 39 = [] from rfl]; exact fun p hp => absurd hp List.not_mem_nil)) $$ HL
    iexact Ha
  iintro ⟨HO, Ha, -, Hp⟩
  ihave Hp := (Entails.of_eq (rest_tx I c q x) : (bigSep ((Rd I).duties ((c : Thread nD τ), .dma (txNum q x)) 0 \ ∅) fun d => (Rd I).payload ((c : Thread nD τ), .dma (txNum q x)) 0 d) ⊢ txPay I c q x) $$ Hp
  imod (Rounds.cell_close ER (Rd I) (Set.mem_univ (K (c, .tx q x))) (fun h => h) (R := 0 + 1) (duties_later I _)) $$ [Ha] with Hz
  · isplitr; · iapply (inv_at I K c (.tx q x)) $$ HR
    iexact Ha
  iapply Hk $$ [HO] Hz Hp
  iexists _; iexact HO

/-! ## The barrier -/

theorem barPay_intro (q : Fin 3) : iprop(AtE c cc0_scratch0 (rowS (nb c q)) ∗ AtE c cc0_scratch3 (slotC q) ∗ AtE c cc0_scratch4 (slotR q))
    ⊢ barPay (F := F) (nb c q) (rev q) := by
  unfold barPay
  rw [nb_nb, rev_rev]

/-- The signal of `nb c q`'s barrier. -/
theorem signal (q : Fin 3) (n : Dev nD) (hn : n = nb c q) (i : ℕ) (hi : payL.drop i = (q, none) :: payL.drop (i + 1)) {sm : Sem sig} (hR : sm = barS) :
    Ctx I K ⊢ iprop(Ow c i -∗ dutyTok ER (cell (nb c q) .bar) 0 (rev q)
  -∗ AtE c cc0_scratch0 (rowS (nb c q)) -∗ AtE c cc0_scratch3 (slotC q) -∗ AtE c cc0_scratch4 (slotR q) -∗ (Ow c (i + 1) -∗ WP c (k ⟨⟩) Q)
  -∗ WP c (.op (.semSignal (Dev.tc n : Thread nD τ) sm 1) k) Q) := by
  subst hn hR
  unfold Ow Ctx
  iintro ⟨#HR, #HL⟩ ⟨%W, HO⟩ Ht Hx Hc Hr Hk
  iapply (Rounds.wp_signal 𝒱₀ ER (Rd I) (c : Thread nD τ) none (dst := (nb c q : Thread nD τ)) (sem := barS) (r := 0) (κ := K (nb c q, .bar)) (d := rev q)
    (by rw [show ((nb c q : Thread nD τ), SemLoc.reg barS) = cell (nb c q) .bar from rfl, duties_cell]; exact Finset.mem_univ _)
    (amount_cell I (nb c q) .bar _) () (Od c (i + 1)) (Od_cons c hi) (W := W)) $$ [HO Ht Hx Hc Hr]
  · isplitr; · iapply (inv_at I K (nb c q) .bar) $$ HR
    isplitl [HO]; · iexact HO
    isplitl [Ht]; · iexact Ht
    isplitl [Hx Hc Hr]
    · iapply ((barPay_intro c q).trans (Entails.of_eq (payload_cell I (nb c q) .bar (rev q)).symm) : _ ⊢ (Rd I).payload ((nb c q : Thread nD τ), .reg barS) 0 (rev q))
      isplitl [Hx]; · iexact Hx
      isplitl [Hc] <;> iassumption
    iapply (reached_at I K (nb c q) .bar) $$ HR
  iintro HO
  iapply Hk
  iexists W; iexact HO

/-- The wait at the own barrier for all three. -/
theorem barw {sm : Sem sig} (hR : sm = barS) :
    Ctx I K ⊢ iprop(Ow c 3 -∗ cred (tallyAt (cell c .bar) () 3) -∗ atPos ER (cell c .bar) 0 ∅ 0
  -∗ (Ow c 3 -∗ Z c .bar -∗ barPay c 0 -∗ barPay c 1 -∗ barPay c 2 -∗ WP c (k ⟨⟩) Q)
  -∗ WP c (.op (.semWait sm 3) k) Q) := by
  subst hR
  unfold Ow Ctx
  iintro ⟨#HR, #HL⟩ ⟨%W, HO⟩ Hc Ha Hk
  iapply (Rounds.wp_wait_rest_token 𝒱₀ ER (Rd I) (c : Thread nD τ) none (κ := K (c, .bar)) (wpE_semWait_eq 𝒱₀ (c : Thread nD τ) none Set.univ)
    (Set.mem_univ _) () (O := Od c 3) (W := W) (R := 0) (m := 0) (T := ∅)
    (by rw [show ((c : Thread nD τ), SemLoc.reg barS) = cell c .bar from rfl, expect_cell]; rfl)) $$ [Hc Ha HO]
  · isplitr; · iapply (inv_at I K c .bar) $$ HR
    isplitl [Hc]; · iexact Hc
    isplitl [HO]; · iexact HO
    isplitr
    · iapply (mayWait_of c (csem .bar) 3 (by rw [show lv ((c : Thread nD τ), csem .bar) () = lvR .bar from lv_cell c _]; decide)) $$ HL
    iexact Ha
  iintro ⟨HO, Ha, -, Hp⟩
  ihave Hp := (Entails.of_eq (rest_bar I c) : (bigSep ((Rd I).duties ((c : Thread nD τ), .reg barS) 0 \ ∅) fun d => (Rd I).payload ((c : Thread nD τ), .reg barS) 0 d) ⊢ _) $$ Hp
  icases Hp with ⟨H0, H1, H2⟩
  imod (Rounds.cell_close ER (Rd I) (Set.mem_univ (K (c, .bar))) (fun h => h) (R := 0 + 1) (duties_later I _)) $$ [Ha] with Hz
  · isplitr; · iapply (inv_at I K c .bar) $$ HR
    iexact Ha
  iapply Hk $$ [HO] Hz H0 H1 H2
  iexists _; iexact HO

end

/-- The gathered activations of the first layer, read at a device's rows. -/
theorem x0_row (c : Fin 4) (a : ℕ) (h : a < 64) (h' : 64 * c.val + a < 256) (b : Fin 2048) :
    x0 I (ix2 ⟨64 * c.val + a, h'⟩ b) = I.x c (ix2 ⟨a, h⟩ b) := by
  unfold x0
  have e : (⟨(64 * c.val + a) / 64, by omega⟩ : Fin 4) = c := Fin.ext (by show (64 * c.val + a) / 64 = c.val; omega)
  have e' : (⟨(64 * c.val + a) % 64, by omega⟩ : Fin 64) = ⟨a, h⟩ := Fin.ext (by show (64 * c.val + a) % 64 = a; omega)
  show I.x (⟨(64 * c.val + a) / 64, _⟩ : Fin 4) (ix2 ⟨(64 * c.val + a) % 64, _⟩ b) = _
  rw [e, e']

theorem rowBlk_x0 (c : Fin 4) : rowBlk (x0 I) c = I.x c := by
  funext i
  have h0 := idx2_lt0 i
  exact (x0_row I c (i 0).val h0 (by omega) (i 1)).trans (congrArg (I.x c) (eq_ix2 i).symm)

section
variable {α : Type} (c : Dev nD) {Q : α → Asn F}
  {k : PUnit → Prog (TpuEff nD τ sig (Elt F) Λ₀ .tc) α}

/-- `snd`, the parts named by their sets and the landed contents by what they read. -/
theorem sndAt (q : Fin 3) (x : Chan) (n : Dev nD) (hn : n = nb c q) (i : ℕ) (hi : payL.drop i = (q, some x) :: payL.drop (i + 1))
    {s : Shape} {src dst : Memref sig .tc .vmem s .f32} {sS sm : DmaSem sig} (hS : sS = txNum q x) (hR : sm = rxNum (rev q) x)
    (hN : dst.view.dmaCredit = amt x) {hsc : dst.view.ref.isScScratch = false} {h1 h2}
    {h3 : DmaTarget.Typed .vmem (.dma sm) (.remote (Dev.tc n : Thread nD τ) dst (.dma sS) hsc)}
    {qs : PosShare TreeShare} {fs : Buf (Elt F) (src.view.loc (c : Thread nD τ))} {fd T : Buf (Elt F) (dst.view.loc (nb c q : Thread nD τ))} {Fr : sProp 𝕄}
    {Ss : Finset (Idx (src.view.loc (c : Thread nD τ)))} {Sd : Finset (Idx (dst.view.loc (nb c q : Thread nD τ)))}
    (hSs : src.view.set = Ss) (hSd : dst.view.set = Sd) (hT : dst.view.read (Elt F) T = src.view.read (Elt F) fs)
    (hp₁ : (src.view.loc (c : Thread nD τ) ↦[Ss]{qs} fs) ⊢ txPay I c q x)
    (hp₂ : iprop((dst.view.loc (nb c q : Thread nD τ) ↦[Sd]{fullShare} T) ∗ Fr) ⊢ rxPay I (nb c q) (rev q) x) :
    Ctx I K ⊢ iprop(Ow c i -∗ Tx c q x -∗ (src.view.loc (c : Thread nD τ) ↦[Ss]{qs} fs)
  -∗ (dst.view.loc (nb c q : Thread nD τ) ↦[Sd]{fullShare} fd) -∗ Fr
  -∗ (Ow c (i + 1) -∗ Fl c q x -∗ WP c (k ⟨⟩) Q)
  -∗ WP c (.op (.enqueueDma src (.remote (Dev.tc n : Thread nD τ) dst (.dma sS) hsc) (.dma sm) h1 h2 h3) k) Q) := by
  subst hSs hSd
  exact snd I K c q x n hn i hi hS hR hN hp₁ ((sep_mono_left (written (nb c q) rfl hT)).trans hp₂)

/-- `sndL`, the parts named by their sets and the landed contents by what they read. -/
theorem sndLAt (q : Fin 3) (x : Chan) (n : Dev nD) (hn : n = nb c q) (i : ℕ) (hi : payL.drop i = (q, some x) :: payL.drop (i + 1))
    {s : Shape} {src dst : Memref sig .tc .vmem s .f32} {sS sm : DmaSem sig} (hS : sS = txNum q x) (hR : sm = rxNum (rev q) x)
    (hN : dst.view.dmaCredit = amt x) {hsc : dst.view.ref.isScScratch = false} {h1 h2}
    {h3 : DmaTarget.Typed .vmem (.dma sm) (.remote (Dev.tc n : Thread nD τ) dst (.dma sS) hsc)}
    {qs : PosShare TreeShare} {fs : Buf (Elt F) (src.view.loc (c : Thread nD τ))} {fd T : Buf (Elt F) (dst.view.loc (nb c q : Thread nD τ))} {Fr : sProp 𝕄}
    {Ss : Finset (Idx (src.view.loc (c : Thread nD τ)))} {Sd : Finset (Idx (dst.view.loc (nb c q : Thread nD τ)))}
    (hSs : src.view.set = Ss) (hSd : dst.view.set = Sd) (hT : dst.view.read (Elt F) T = src.view.read (Elt F) fs)
    (hp₁ : (emp : sProp 𝕄) ⊢ txPay I c q x)
    (hp₂ : iprop(((dst.view.loc (nb c q : Thread nD τ) ↦[Sd]{fullShare} T) ∗ Fr) ∗ (src.view.loc (c : Thread nD τ) ↦[Ss]{qs} fs)) ⊢ rxPay I (nb c q) (rev q) x) :
    Ctx I K ⊢ iprop(Ow c i -∗ Tx c q x -∗ (src.view.loc (c : Thread nD τ) ↦[Ss]{qs} fs)
  -∗ (dst.view.loc (nb c q : Thread nD τ) ↦[Sd]{fullShare} fd) -∗ Fr
  -∗ (Ow c (i + 1) -∗ Fl c q x -∗ WP c (k ⟨⟩) Q)
  -∗ WP c (.op (.enqueueDma src (.remote (Dev.tc n : Thread nD τ) dst (.dma sS) hsc) (.dma sm) h1 h2 h3) k) Q) := by
  subst hSs hSd
  exact sndL I K c q x n hn i hi hS hR hN hp₁ ((sep_mono_left (sep_mono_left (written (nb c q) rfl hT))).trans hp₂)

/-! ## The parts sent -/

/-- A column group of a device's own rows of the inputs; -/
abbrev mX (off : Fin 2 → ℕ) (inb : ∀ a, off a + S64x512.size a ≤ S64x2048.size a) : Memref sig .tc .vmem S64x512 .f32 :=
  (Memref.whole cc0_stg0_0 : Memref sig .tc .vmem S64x2048 .f32).slice (Rect.unit (s := S64x2048) off S64x512.size inb) (fun _ => rfl)
/-- a block of 64 rows and 512 columns of a gathered matrix; -/
abbrev mBlk (b : Ref sig .tc) (m : Memref sig .tc .vmem S256x2048 .f32) (off : Fin 2 → ℕ) (inb : ∀ a, off a + S64x512.size a ≤ S256x2048.size a) : Memref sig .tc .vmem S64x512 .f32 :=
  m.slice (Rect.unit (s := S256x2048) off S64x512.size inb) (fun _ => rfl)
/-- 512 columns of it; -/
abbrev mCol (m : Memref sig .tc .vmem S256x2048 .f32) (off : Fin 2 → ℕ) (inb : ∀ a, off a + S256x512.size a ≤ S256x2048.size a) : Memref sig .tc .vmem S256x512 .f32 :=
  m.slice (Rect.unit (s := S256x2048) off S256x512.size inb) (fun _ => rfl)
/-- a slot of the received shares; -/
abbrev mAcc (off : Fin 3 → ℕ) (inb : ∀ a, off a + S1x256x512.size a ≤ S3x256x512.size a) : Memref sig .tc .vmem S256x512 .f32 :=
  ((Memref.whole cc0_scratch3 : Memref sig .tc .vmem S3x256x512 .f32).slice (Rect.unit (s := S3x256x512) off S1x256x512.size inb) (fun _ => rfl)).squeeze S256x512 squeezes_S1x256x512_S256x512
/-- 512 columns of a slot of the received rows. -/
abbrev mAccR (off : Fin 3 → ℕ) (inb : ∀ a, off a + S1x64x512.size a ≤ S3x64x2048.size a) : Memref sig .tc .vmem S64x512 .f32 :=
  ((Memref.whole cc0_scratch4 : Memref sig .tc .vmem S3x64x2048 .f32).slice (Rect.unit (s := S3x64x2048) off S1x64x512.size inb) (fun _ => rfl)).squeeze S64x512 squeezes_S1x64x512_S64x512

/-- The gather of the inputs' rows. -/
theorem snd_ag (q : Fin 3) (g : Fin 4) (n : Dev nD) (hn : n = nb c q) (i : ℕ) (hi : payL.drop i = (q, some (.ag g)) :: payL.drop (i + 1))
    {sS sm : DmaSem sig} (hS : sS = txNum q (.ag g)) (hR : sm = rxNum (rev q) (.ag g))
    {offs offd : Fin 2 → ℕ} {inbs inbd} (hs : offs = ![0, 512 * g.val]) (hd : offd = ![64 * c.val, 512 * g.val]) {hsc h1 h2 h3} {fd : FVec F S256x2048 .f32} :
    Ctx I K ⊢ iprop(Ow c i -∗ Tx c q (.ag g) -∗ At c cc0_stg0_0 (colX g) (sh q) (I.x c) -∗ At (nb c q) cc0_scratch0 (blk c g) fullShare fd
  -∗ (Ow c (i + 1) -∗ Fl c q (.ag g) -∗ WP c (k ⟨⟩) Q)
  -∗ WP c (.op (.enqueueDma (mX offs inbs) (.remote (Dev.tc n : Thread nD τ) (mBlk cc0_scratch0 (Memref.whole cc0_scratch0) offd inbd) (.dma sS) hsc) (.dma sm) h1 h2 h3) k) Q) := by
  have key := sndAt I K (k := k) (Q := Q) c q (.ag g) n hn i hi (src := mX offs inbs) (dst := mBlk cc0_scratch0 (Memref.whole cc0_scratch0) offd inbd) (h1 := h1) (h2 := h2) (h3 := h3)
    (qs := sh q) (fs := I.x c) (fd := fd) (T := xs I 0) (Ss := colX g) (Sd := blk c g) (Fr := iprop(emp)) hS hR rfl
    ((View.set_slice_whole cc0_stg0_0 _).trans (colX_rect g hs inbs)) ((View.set_slice_whole cc0_scratch0 _).trans (blk_rect c g hd inbd))
    (by
      subst hs hd; funext x
      have hx := idx2_lt0 x
      have e : (Rect.unit (s := S256x2048) _ S64x512.size inbd).emb x = ix2 ⟨64 * c.val + (x 0).val, by have : c.val < 4 := c.isLt; omega⟩ ((Rect.unit (s := S64x2048) _ S64x512.size inbs).emb x 1) :=
        (eq_ix2 _).trans (congrArg₂ ix2 (Fin.ext (by show 64 * c.val + 1 * (x 0).val = 64 * c.val + (x 0).val; omega)) rfl)
      have e' : (Rect.unit (s := S64x2048) _ S64x512.size inbs).emb x = ix2 ⟨(x 0).val, hx⟩ ((Rect.unit (s := S64x2048) _ S64x512.size inbs).emb x 1) :=
        (eq_ix2 _).trans (congrArg₂ ix2 (Fin.ext (by show 0 + 1 * (x 0).val = (x 0).val; omega)) rfl)
      show x0 I ((Rect.unit (s := S256x2048) _ S64x512.size inbd).emb x) = I.x c ((Rect.unit (s := S64x2048) _ S64x512.size inbs).emb x)
      exact (congrArg (x0 I) e).trans ((x0_row I c (x 0).val hx _ _).trans (congrArg (I.x c) e'.symm)))
    (Entails.refl _) (by
      show iprop(At (nb c q) cc0_scratch0 (blk c g) fullShare (xs I 0) ∗ emp) ⊢ At (nb c q) cc0_scratch0 (blk (nb (nb c q) (rev q)) g) fullShare (xs I 0)
      rw [nb_nb]; exact Laws.sep_emp.1)
  iintro #HC HO HT Hs Hd Hk
  iapply key $$ HC HO HT Hs Hd [] Hk
  iempintro

/-- A layer's share of `nb c q`'s group: it takes the sender's part and the group of activations the receiver writes next. -/
theorem snd_pp (kk : Fin 2) (q : Fin 3) (n : Dev nD) (hn : n = nb c q) (i : ℕ) (hi : payL.drop i = (q, some (.pp kk)) :: payL.drop (i + 1))
    {sS sm : DmaSem sig} (hS : sS = txNum q (.pp kk)) (hR : sm = rxNum (rev q) (.pp kk))
    {offs : Fin 2 → ℕ} {offd : Fin 3 → ℕ} {inbs inbd} (hs : offs = ![0, 512 * (nb c q).val]) (hd : offd = ![(rev q).val, 0, 0]) {hsc h1 h2 h3} {fd : FVec F S3x256x512 .f32} :
    Ctx I K ⊢ iprop(Ow c i -∗ Tx c q (.pp kk) -∗ At c cc0_scratch2 (colS (nb c q)) fullShare (pt I kk.castSucc c) -∗ At (nb c q) cc0_scratch3 (slotC (rev q)) fullShare fd
  -∗ (AtE c cc0_scratch0 (colS (nb c q)) ∗ (if kk = 1 then At (nb c q) cc0_scratch0 (colS (nb c q)) (sh (rev q)) (xs I 1) else iprop(emp)))
  -∗ (Ow c (i + 1) -∗ Fl c q (.pp kk) -∗ WP c (k ⟨⟩) Q)
  -∗ WP c (.op (.enqueueDma (mCol (Memref.whole cc0_scratch2) offs inbs) (.remote (Dev.tc n : Thread nD τ) (mAcc offd inbd) (.dma sS) hsc) (.dma sm) h1 h2 h3) k) Q) :=
  sndLAt I K (k := k) (Q := Q) c q (.pp kk) n hn i hi (src := mCol (Memref.whole cc0_scratch2) offs inbs) (dst := mAcc offd inbd) (h1 := h1) (h2 := h2) (h3 := h3)
    (qs := fullShare) (fs := pt I kk.castSucc c) (fd := fd) (T := accC I (xs I kk.castSucc) kk.castSucc (nb c q)) (Ss := colS (nb c q)) (Sd := slotC (rev q)) hS hR rfl
    ((View.set_slice_whole cc0_scratch2 _).trans (colS_rect _ hs inbs)) ((View.set_reshape _ _).trans ((View.set_slice_whole cc0_scratch3 _).trans (slot_rect _ hd inbd)))
    (by
      have hr : (mCol (Memref.whole cc0_scratch2) offs inbs).view.read (Elt F) (pt I kk.castSucc c) = prt I (xs I kk.castSucc) kk.castSucc c (nb c q) :=
        (read_col _ _ hs inbs).trans (colBlk_prtAll I _ _ _ _)
      rw [hr]
      subst hd; funext x
      have e : ∀ h, (Rect.unit (s := S3x256x512) ![(rev q).val, 0, 0] S1x256x512.size inbd).emb (Shape.reshapeEquiv (show S256x512.numel = S1x256x512.numel from h) x) = ix3 (rev q) (x 0) (x 1) := by
        intro h
        refine (congrArg _ (cons_ix x _)).trans ((eq_ix3 _).trans ?_)
        refine congr (congr (congrArg ix3 (Fin.ext ?_)) (Fin.ext ?_)) (Fin.ext ?_)
        · show (rev q).val + 1 * 0 = (rev q).val; omega
        · show 0 + 1 * (x 0).val = (x 0).val; omega
        · show 0 + 1 * (x 1).val = (x 1).val; omega
      refine (congrArg (accC I (xs I kk.castSucc) kk.castSucc (nb c q)) (e squeezes_S1x256x512_S256x512.numel_eq)).trans ?_
      show prt I _ _ (nb (nb c q) (rev q)) (nb c q) (ix2 (x 0) (x 1)) = _
      rw [nb_nb]
      exact congrArg _ (eq_ix2 x).symm)
    (Entails.refl _) (by
      show _ ⊢ iprop(At (nb c q) cc0_scratch3 (slotC (rev q)) fullShare (accC I (xs I kk.castSucc) kk.castSucc (nb c q))
        ∗ At (nb (nb c q) (rev q)) cc0_scratch2 (colS (nb c q)) fullShare (pt I kk.castSucc (nb (nb c q) (rev q))) ∗ AtE (nb (nb c q) (rev q)) cc0_scratch0 (colS (nb c q))
        ∗ (if kk = 1 then At (nb c q) cc0_scratch0 (colS (nb c q)) (sh (rev q)) (xs I 1) else iprop(emp)))
      rw [nb_nb]
      iintro ⟨⟨H1, H2, H3⟩, H4⟩
      isplitl [H1]; · iexact H1
      isplitl [H4]; · iexact H4
      isplitl [H2] <;> iassumption)

/-- The group of the next activations, after the first layer: it goes with what `nb c q` needs for the second. -/
theorem snd_bb0 (q : Fin 3) (n : Dev nD) (hn : n = nb c q) (i : ℕ) (hi : payL.drop i = (q, some (.bb 0)) :: payL.drop (i + 1))
    {sS sm : DmaSem sig} (hS : sS = txNum q (.bb 0)) (hR : sm = rxNum (rev q) (.bb 0))
    {off : Fin 2 → ℕ} {inbs inbd} (hs : off = ![0, 512 * c.val]) {hsc h1 h2 h3} {fd : FVec F S256x2048 .f32} :
    Ctx I K ⊢ iprop(Ow c i -∗ Tx c q (.bb 0) -∗ At c cc0_scratch0 (colS c) (sh q) (xs I 1) -∗ At (nb c q) cc0_scratch0 (colS c) fullShare fd
  -∗ (AtE (nb c q) cc0_scratch2 (colS c) ∗ AtE c cc0_scratch3 (slotC q))
  -∗ (Ow c (i + 1) -∗ Fl c q (.bb 0) -∗ WP c (k ⟨⟩) Q)
  -∗ WP c (.op (.enqueueDma (mCol (Memref.whole cc0_scratch0) off inbs) (.remote (Dev.tc n : Thread nD τ) (mCol (Memref.whole cc0_scratch0) off inbd) (.dma sS) hsc) (.dma sm) h1 h2 h3) k) Q) :=
  sndLAt I K (k := k) (Q := Q) c q (.bb 0) n hn i hi (src := mCol (Memref.whole cc0_scratch0) off inbs) (dst := mCol (Memref.whole cc0_scratch0) off inbd) (h1 := h1) (h2 := h2) (h3 := h3)
    (qs := sh q) (fs := xs I 1) (fd := fd) (T := xs I 1) (Ss := colS c) (Sd := colS c) hS hR rfl
    ((View.set_slice_whole cc0_scratch0 _).trans (colS_rect c hs inbs)) ((View.set_slice_whole cc0_scratch0 _).trans (colS_rect c hs inbd)) rfl
    (Entails.refl _) (by
      show _ ⊢ iprop(At (nb c q) cc0_scratch0 (colS (nb (nb c q) (rev q))) fullShare (xs I 1) ∗ AtE (nb c q) cc0_scratch2 (colS (nb (nb c q) (rev q)))
        ∗ At (nb (nb c q) (rev q)) cc0_scratch0 (colS (nb (nb c q) (rev q))) (sh (rev (rev q))) (xs I 1) ∗ AtE (nb (nb c q) (rev q)) cc0_scratch3 (slotC (rev (rev q))))
      rw [nb_nb, rev_rev]
      iintro ⟨⟨H1, H2, H3⟩, H4⟩
      isplitl [H1]; · iexact H1
      isplitl [H2]; · iexact H2
      isplitl [H4] <;> iassumption)

/-- The same after the second layer. -/
theorem snd_bb1 (q : Fin 3) (n : Dev nD) (hn : n = nb c q) (i : ℕ) (hi : payL.drop i = (q, some (.bb 1)) :: payL.drop (i + 1))
    {sS sm : DmaSem sig} (hS : sS = txNum q (.bb 1)) (hR : sm = rxNum (rev q) (.bb 1))
    {off : Fin 2 → ℕ} {inbs inbd} (hs : off = ![0, 512 * c.val]) {hsc h1 h2 h3} {fd : FVec F S256x2048 .f32} :
    Ctx I K ⊢ iprop(Ow c i -∗ Tx c q (.bb 1) -∗ At c cc0_scratch0 (colS c) (sh q) (xs I 2) -∗ At (nb c q) cc0_scratch0 (colS c) fullShare fd
  -∗ AtE (nb c q) cc0_scratch2 (colS c)
  -∗ (Ow c (i + 1) -∗ Fl c q (.bb 1) -∗ WP c (k ⟨⟩) Q)
  -∗ WP c (.op (.enqueueDma (mCol (Memref.whole cc0_scratch0) off inbs) (.remote (Dev.tc n : Thread nD τ) (mCol (Memref.whole cc0_scratch0) off inbd) (.dma sS) hsc) (.dma sm) h1 h2 h3) k) Q) :=
  sndAt I K (k := k) (Q := Q) c q (.bb 1) n hn i hi (src := mCol (Memref.whole cc0_scratch0) off inbs) (dst := mCol (Memref.whole cc0_scratch0) off inbd) (h1 := h1) (h2 := h2) (h3 := h3)
    (qs := sh q) (fs := xs I 2) (fd := fd) (T := xs I 2) (Ss := colS c) (Sd := colS c) hS hR rfl
    ((View.set_slice_whole cc0_scratch0 _).trans (colS_rect c hs inbs)) ((View.set_slice_whole cc0_scratch0 _).trans (colS_rect c hs inbd)) rfl
    (Entails.refl _) (by
      show _ ⊢ iprop(At (nb c q) cc0_scratch0 (colS (nb (nb c q) (rev q))) fullShare (xs I 2) ∗ AtE (nb c q) cc0_scratch2 (colS (nb (nb c q) (rev q))) ∗ emp)
      rw [nb_nb]
      iintro ⟨H1, H2⟩
      isplitl [H1]; · iexact H1
      isplitl [H2]; · iexact H2
      iempintro)

/-- A group of the last layer's share of `nb c q`'s rows. -/
theorem snd_row (q : Fin 3) (g : Fin 4) (n : Dev nD) (hn : n = nb c q) (i : ℕ) (hi : payL.drop i = (q, some (.row g)) :: payL.drop (i + 1))
    {sS sm : DmaSem sig} (hS : sS = txNum q (.row g)) (hR : sm = rxNum (rev q) (.row g))
    {offs : Fin 2 → ℕ} {offd : Fin 3 → ℕ} {inbs inbd} (hs : offs = ![64 * (nb c q).val, 512 * g.val]) (hd : offd = ![(rev q).val, 0, 512 * g.val]) {hsc h1 h2 h3} {fd : FVec F S3x64x2048 .f32} :
    Ctx I K ⊢ iprop(Ow c i -∗ Tx c q (.row g) -∗ At c cc0_scratch2 (blk (nb c q) g) fullShare (pt I 2 c) -∗ At (nb c q) cc0_scratch4 (slotRG (rev q) g) fullShare fd
  -∗ (Ow c (i + 1) -∗ Fl c q (.row g) -∗ WP c (k ⟨⟩) Q)
  -∗ WP c (.op (.enqueueDma (mBlk cc0_scratch2 (Memref.whole cc0_scratch2) offs inbs) (.remote (Dev.tc n : Thread nD τ) (mAccR offd inbd) (.dma sS) hsc) (.dma sm) h1 h2 h3) k) Q) := by
  have key := sndAt I K (k := k) (Q := Q) c q (.row g) n hn i hi (src := mBlk cc0_scratch2 (Memref.whole cc0_scratch2) offs inbs) (dst := mAccR offd inbd) (h1 := h1) (h2 := h2) (h3 := h3)
    (qs := fullShare) (fs := pt I 2 c) (fd := fd) (T := accR I (nb c q)) (Ss := blk (nb c q) g) (Sd := slotRG (rev q) g) (Fr := iprop(emp)) hS hR rfl
    ((View.set_slice_whole cc0_scratch2 _).trans (blk_rect _ g hs inbs)) ((View.set_reshape _ _).trans ((View.set_slice_whole cc0_scratch4 _).trans (slotRG_rect _ g hd inbd)))
    (by
      subst hs hd; funext x
      have hx := idx2_lt1 x
      have hlt : 512 * g.val + (x 1).val < 2048 := by omega
      have e : ∀ h, (Rect.unit (s := S3x64x2048) ![(rev q).val, 0, 512 * g.val] S1x64x512.size inbd).emb (Shape.reshapeEquiv (show S64x512.numel = S1x64x512.numel from h) x) = ix3 (rev q) (x 0) ⟨512 * g.val + (x 1).val, hlt⟩ := by
        intro h
        refine (congrArg _ (cons_ix x _)).trans ((eq_ix3 _).trans ?_)
        refine congr (congr (congrArg ix3 (Fin.ext ?_)) (Fin.ext ?_)) (Fin.ext ?_)
        · show (rev q).val + 1 * 0 = (rev q).val; omega
        · show 0 + 1 * (x 0).val = (x 0).val; omega
        · show 512 * g.val + 1 * (x 1).val = 512 * g.val + (x 1).val; omega
      refine (congrArg (accR I (nb c q)) (e squeezes_S1x64x512_S64x512.numel_eq)).trans ?_
      show pt I 2 (nb (nb c q) (rev q)) _ = _
      rw [nb_nb]
      refine congrArg (pt I 2 c) (((eq_ix2 _).trans (congrArg₂ ix2 (Fin.ext ?_) (Fin.ext ?_))).symm)
      · show 64 * (nb c q).val + 1 * (x 0).val = 64 * (nb c q).val + (x 0).val; omega
      · show 512 * g.val + 1 * (x 1).val = 512 * g.val + (x 1).val; omega)
    (Entails.refl _) (by
      show iprop(At (nb c q) cc0_scratch4 (slotRG (rev q) g) fullShare (accR I (nb c q)) ∗ emp) ⊢ At (nb c q) cc0_scratch4 (slotRG (rev q) g) fullShare (accR I (nb c q))
      exact Laws.sep_emp.1)
  iintro #HC HO HT Hs Hd Hk
  iapply key $$ HC HO HT Hs Hd [] Hk
  iempintro

end

end Cert.KernelIdeal.Mlp

end
-- ==== Proof.Ideal.Slots.lean ====
/-
  The stage slots of the weights, idle or receiving a chunk, and the runs of operations each layer repeats: a group of the
  hidden layer, its activation, and a group of the output.
-/
module

public import proofs.«01_k».proof.Proof.Ideal.Channels

@[expose] public section

noncomputable section

namespace Cert.KernelIdeal.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Role → ℕ)

/-- The half of a weight a slot's transfers read. -/
def wq : Fin 2 → PosShare TreeShare
  | 0 => fullShare.left
  | 1 => fullShare.right

/-- Slot `s`'s half of a layer's first weight. -/
def HI (c : Dev nD) (m : Memref sig .tc .hbm S2048x4096 .f32) (n : Fin 3) (s : Fin 2) : sProp 𝕄 :=
  iprop(∃ fs, ⌜m.view.read (Elt F) fs = I.win n c⌝ ∗ (m.view.loc (c : Thread nD τ) ↦[Finset.univ]{wq s} fs))
/-- Slot `s`'s half of a layer's second weight. -/
def HO (c : Dev nD) (m : Memref sig .tc .hbm S4096x2048 .f32) (n : Fin 3) (s : Fin 2) : sProp 𝕄 :=
  iprop(∃ fs, ⌜m.view.read (Elt F) fs = I.wout n c⌝ ∗ (m.view.loc (c : Thread nD τ) ↦[Finset.univ]{wq s} fs))
/-- A slot at rest, holding `f`. -/
def SI (c : Dev nD) (s : Fin 2) (f : FVec F S2x512x4096 .f32) : sProp 𝕄 :=
  iprop(At c cc0_scratch5 (slotI s) fullShare f ∗ semVal ((c : Thread nD τ), .dma (semI s)) 0)
def SO (c : Dev nD) (s : Fin 2) (f : FVec F S2x4096x512 .f32) : sProp 𝕄 :=
  iprop(At c cc0_scratch6 (slotO s) fullShare f ∗ semVal ((c : Thread nD τ), .dma (semO s)) 0)
/-- A slot receiving group `g` of a layer's weight. -/
def FI (c : Dev nD) (m : Memref sig .tc .hbm S2048x4096 .f32) (n : Fin 3) (s : Fin 2) (g : Fin 4) : sProp 𝕄 :=
  iprop(∃ fs, ⌜m.view.read (Elt F) fs = I.win n c⌝
    ∗ FlW c (m.view.loc (c : Thread nD τ)) (wq s) fs (semI s) amtI (At c cc0_scratch5 (slotI s) fullShare (winStg I n c g)))
def FO (c : Dev nD) (m : Memref sig .tc .hbm S4096x2048 .f32) (n : Fin 3) (s : Fin 2) (g : Fin 4) : sProp 𝕄 :=
  iprop(∃ fs, ⌜m.view.read (Elt F) fs = I.wout n c⌝
    ∗ FlW c (m.view.loc (c : Thread nD τ)) (wq s) fs (semO s) amtO (At c cc0_scratch6 (slotO s) fullShare (woutStg I n c g)))

section
variable {α : Type} (c : Dev nD) {Q : α → Asn F}

section
variable {k : PUnit → Prog (TpuEff nD τ sig (Elt F) Λ₀ .tc) α}

/-- A chunk of a first weight issued into an idle slot; -/
theorem goI (s : Fin 2) (n : Fin 3) (g : Fin 4) {m : Memref sig .tc .hbm S2048x4096 .f32}
    {offd : Fin 3 → ℕ} (hd : offd = ![s.val, 0, 0]) {off : Fin 2 → ℕ} (ho : off = ![512 * g.val, 0])
    {sm : DmaSem sig} (hsm : sm = semI s) {inb inbd h1 h2 h3} {f : FVec F S2x512x4096 .f32} :
    SI c s f ⊢ iprop(HI I c m n s -∗ (FI I c m n s g -∗ WP c (k ⟨⟩) Q)
  -∗ WP c (.op (.enqueueDma (m.slice (Rect.unit (s := S2048x4096) off S512x4096.size inb) (fun _ => rfl)) (.here (dstI offd inbd)) (.dma sm) h1 h2 h3) k) Q) := by
  unfold SI HI FI
  iintro ⟨Hs, Hv⟩ ⟨%fs, %hm, Hw⟩ Hk
  iapply (issI I c s n g hm hd ho hsm) $$ Hs Hw Hv
  iintro Hf
  iapply Hk
  iexists fs
  isplitr; · ipureintro; exact hm
  iexact Hf
/-- of a second weight. -/
theorem goO (s : Fin 2) (n : Fin 3) (g : Fin 4) {m : Memref sig .tc .hbm S4096x2048 .f32}
    {offd : Fin 3 → ℕ} (hd : offd = ![s.val, 0, 0]) {off : Fin 2 → ℕ} (ho : off = ![0, 512 * g.val])
    {sm : DmaSem sig} (hsm : sm = semO s) {inb inbd h1 h2 h3} {f : FVec F S2x4096x512 .f32} :
    SO c s f ⊢ iprop(HO I c m n s -∗ (FO I c m n s g -∗ WP c (k ⟨⟩) Q)
  -∗ WP c (.op (.enqueueDma (m.slice (Rect.unit (s := S4096x2048) off S4096x512.size inb) (fun _ => rfl)) (.here (dstO offd inbd)) (.dma sm) h1 h2 h3) k) Q) := by
  unfold SO HO FO
  iintro ⟨Hs, Hv⟩ ⟨%fs, %hm, Hw⟩ Hk
  iapply (issO I c s n g hm hd ho hsm) $$ Hs Hw Hv
  iintro Hf
  iapply Hk
  iexists fs
  isplitr; · ipureintro; exact hm
  iexact Hf

/-- The wait for a chunk of a first weight: the slot idle, holding it; -/
theorem wtI (s : Fin 2) (n : Fin 3) (g : Fin 4) {i : ℕ} {m : Memref sig .tc .hbm S2048x4096 .f32}
    {sp : Space} {s₁ s' : Shape} {e' : EltTy} {sm : DmaSem sig} {src : Memref sig .tc sp s' e'} {dst : Memref sig .tc .vmem s₁ .f32} {h1 h2}
    (hsm : sm = semI s) (hN : dst.view.dmaCredit = amtI) :
    Ctx I K ⊢ iprop(FI I c m n s g -∗ Ow c i -∗ (Ow c i -∗ SI c s (winStg I n c g) -∗ HI I c m n s -∗ WP c (k ⟨⟩) Q)
  -∗ WP c (.op (.waitDma2 sm src dst h1 h2) k) Q) := by
  unfold SI HI FI
  iintro #HC ⟨%fs, %hm, Hf⟩ HO Hk
  iapply (waitW I K c hsm (Nat.le_add_right 74 s.val) hN) $$ HC Hf HO
  iintro HO HD Hv Hw
  iapply Hk $$ HO [HD Hv]
  · isplitl [HD] <;> iassumption
  iexists fs
  isplitr; · ipureintro; exact hm
  iexact Hw
/-- of a second weight. -/
theorem wtO (s : Fin 2) (n : Fin 3) (g : Fin 4) {i : ℕ} {m : Memref sig .tc .hbm S4096x2048 .f32}
    {sp : Space} {s₁ s' : Shape} {e' : EltTy} {sm : DmaSem sig} {src : Memref sig .tc sp s' e'} {dst : Memref sig .tc .vmem s₁ .f32} {h1 h2}
    (hsm : sm = semO s) (hN : dst.view.dmaCredit = amtO) :
    Ctx I K ⊢ iprop(FO I c m n s g -∗ Ow c i -∗ (Ow c i -∗ SO c s (woutStg I n c g) -∗ HO I c m n s -∗ WP c (k ⟨⟩) Q)
  -∗ WP c (.op (.waitDma2 sm src dst h1 h2) k) Q) := by
  unfold SO HO FO
  iintro #HC ⟨%fs, %hm, Hf⟩ HO Hk
  iapply (waitW I K c hsm (show 74 ≤ 76 + s.val by omega) hN) $$ HC Hf HO
  iintro HO HD Hv Hw
  iapply Hk $$ HO [HD Hv]
  · isplitl [HD] <;> iassumption
  iexists fs
  isplitr; · ipureintro; exact hm
  iexact Hw

/-! ## The repeated runs -/

/-- The first group of a layer's hidden sum. -/
theorem hid0 (n : Fin 3) (g : Fin 4) (s : Fin 2) {X : FVec F S256x2048 .f32} {q : PosShare TreeShare} {off : Fin 2 → ℕ} (h : off = ![0, 512 * g.val])
    {offs : Fin 3 → ℕ} (hs : offs = ![s.val, 0, 0]) {H H' : FVec F S256x4096 .f32}
    {p : FVec F S256x512 .f32 → FVec F S1x512x4096 .f32 → FVec F S256x4096 .f32} (hp : p (colBlk X g) (winBlk I n c g) = H')
    {inb hl inbs hls inb3 hl3 inb4 h1 h2} :
    At c cc0_scratch0 (colS g) q X ⊢ iprop(SI c s (winStg I n c g) -∗ Al c cc0_scratch1 H
  -∗ (At c cc0_scratch0 (colS g) q X -∗ SI c s (winStg I n c g) -∗ Al c cc0_scratch1 H' -∗ WP c (k ⟨⟩) Q)
  -∗ WP c (.op (.load (Memref.whole cc0_scratch0 : Memref sig .tc .vmem S256x2048 .f32) (Rect.unit (s := S256x2048) off S256x512.size inb).toLoadRect hl) fun (a : Vec F S256x512 .f32) =>
          .op (.load (Memref.whole cc0_scratch5 : Memref sig .tc .vmem S2x512x4096 .f32) (Rect.unit (s := S2x512x4096) offs S1x512x4096.size inbs).toLoadRect hls) fun (b : Vec F S1x512x4096 .f32) =>
          .op (.load (Memref.whole cc0_scratch1 : Memref sig .tc .vmem S256x4096 .f32) (Rect.unit (s := S256x4096) ![0, 0] S256x4096.size inb3).toLoadRect hl3) fun (_ : Vec F S256x4096 .f32) =>
          .op (.store (Memref.whole cc0_scratch1 : Memref sig .tc .vmem S256x4096 .f32) (Rect.unit (s := S256x4096) ![0, 0] S256x4096.size inb4) (p a b) Finset.univ h1 h2) k) Q) := by
  subst hp
  unfold SI
  iintro Hx ⟨Hs, Hv⟩ Hh Hk
  iapply (ld_xf c g h) $$ Hx
  iintro Hx
  iapply (ld_sI I c s hs) $$ Hs
  iintro Hs
  iapply (ld_h c) $$ Hh
  iintro Hh
  iapply (st_h c) $$ Hh
  iintro Hh
  iapply Hk $$ Hx [Hs Hv] Hh
  isplitl [Hs] <;> iassumption

/-- A further group of it. -/
theorem hid1 (n : Fin 3) (g : Fin 4) (s : Fin 2) {X : FVec F S256x2048 .f32} {q : PosShare TreeShare} {off : Fin 2 → ℕ} (h : off = ![0, 512 * g.val])
    {offs : Fin 3 → ℕ} (hs : offs = ![s.val, 0, 0]) {H H' : FVec F S256x4096 .f32}
    {p : FVec F S256x512 .f32 → FVec F S1x512x4096 .f32 → FVec F S256x4096 .f32 → FVec F S256x4096 .f32} (hp : p (colBlk X g) (winBlk I n c g) H = H')
    {inb hl inbs hls inb2 hl2 inb3 hl3 inb4 h1 h2} :
    At c cc0_scratch0 (colS g) q X ⊢ iprop(SI c s (winStg I n c g) -∗ Al c cc0_scratch1 H
  -∗ (At c cc0_scratch0 (colS g) q X -∗ SI c s (winStg I n c g) -∗ Al c cc0_scratch1 H' -∗ WP c (k ⟨⟩) Q)
  -∗ WP c (.op (.load (Memref.whole cc0_scratch0 : Memref sig .tc .vmem S256x2048 .f32) (Rect.unit (s := S256x2048) off S256x512.size inb).toLoadRect hl) fun (a : Vec F S256x512 .f32) =>
          .op (.load (Memref.whole cc0_scratch5 : Memref sig .tc .vmem S2x512x4096 .f32) (Rect.unit (s := S2x512x4096) offs S1x512x4096.size inbs).toLoadRect hls) fun (b : Vec F S1x512x4096 .f32) =>
          .op (.load (Memref.whole cc0_scratch1 : Memref sig .tc .vmem S256x4096 .f32) (Rect.unit (s := S256x4096) ![0, 0] S256x4096.size inb2).toLoadRect hl2) fun (d : Vec F S256x4096 .f32) =>
          .op (.load (Memref.whole cc0_scratch1 : Memref sig .tc .vmem S256x4096 .f32) (Rect.unit (s := S256x4096) ![0, 0] S256x4096.size inb3).toLoadRect hl3) fun (_ : Vec F S256x4096 .f32) =>
          .op (.store (Memref.whole cc0_scratch1 : Memref sig .tc .vmem S256x4096 .f32) (Rect.unit (s := S256x4096) ![0, 0] S256x4096.size inb4) (p a b d) Finset.univ h1 h2) k) Q) := by
  subst hp
  unfold SI
  iintro Hx ⟨Hs, Hv⟩ Hh Hk
  iapply (ld_xf c g h) $$ Hx
  iintro Hx
  iapply (ld_sI I c s hs) $$ Hs
  iintro Hs
  iapply (ld_h c) $$ Hh
  iintro Hh
  iapply (ld_h c) $$ Hh
  iintro Hh
  iapply (st_h c) $$ Hh
  iintro Hh
  iapply Hk $$ Hx [Hs Hv] Hh
  isplitl [Hs] <;> iassumption

/-- The activation. -/
theorem relu {H H' : FVec F S256x4096 .f32} {p : FVec F S256x4096 .f32 → FVec F S256x4096 .f32} (hp : p H = H') {inb2 hl2 inb3 hl3 inb4 h1 h2} :
    Al c cc0_scratch1 H ⊢ iprop((Al c cc0_scratch1 H' -∗ WP c (k ⟨⟩) Q)
  -∗ WP c (.op (.load (Memref.whole cc0_scratch1 : Memref sig .tc .vmem S256x4096 .f32) (Rect.unit (s := S256x4096) ![0, 0] S256x4096.size inb2).toLoadRect hl2) fun (d : Vec F S256x4096 .f32) =>
          .op (.load (Memref.whole cc0_scratch1 : Memref sig .tc .vmem S256x4096 .f32) (Rect.unit (s := S256x4096) ![0, 0] S256x4096.size inb3).toLoadRect hl3) fun (_ : Vec F S256x4096 .f32) =>
          .op (.store (Memref.whole cc0_scratch1 : Memref sig .tc .vmem S256x4096 .f32) (Rect.unit (s := S256x4096) ![0, 0] S256x4096.size inb4) (p d) Finset.univ h1 h2) k) Q) := by
  subst hp
  iintro Hh Hk
  iapply (ld_h c) $$ Hh
  iintro Hh
  iapply (ld_h c) $$ Hh
  iintro Hh
  iapply (st_h c) $$ Hh
  iintro Hh
  iapply Hk $$ Hh

/-- A group of the layer's output, stored: `T` is any matrix whose group it is. -/
theorem out1 (n : Fin 3) (g : Fin 4) (s : Fin 2) {H : FVec F S256x4096 .f32} {off : Fin 2 → ℕ} (h : off = ![0, 512 * g.val])
    {offs : Fin 3 → ℕ} (hs : offs = ![s.val, 0, 0]) {T : FVec F S256x2048 .f32}
    {p : FVec F S256x4096 .f32 → FVec F S1x4096x512 .f32 → FVec F S256x512 .f32} (hp : colBlk T g = p H (woutBlk I n c g))
    {inb2 hl2 inbs hls inb hl inb4 h1 h2} :
    Al c cc0_scratch1 H ⊢ iprop(SO c s (woutStg I n c g) -∗ AtE c cc0_scratch2 (colS g)
  -∗ (Al c cc0_scratch1 H -∗ SO c s (woutStg I n c g) -∗ At c cc0_scratch2 (colS g) fullShare T -∗ WP c (k ⟨⟩) Q)
  -∗ WP c (.op (.load (Memref.whole cc0_scratch1 : Memref sig .tc .vmem S256x4096 .f32) (Rect.unit (s := S256x4096) ![0, 0] S256x4096.size inb2).toLoadRect hl2) fun (d : Vec F S256x4096 .f32) =>
          .op (.load (Memref.whole cc0_scratch6 : Memref sig .tc .vmem S2x4096x512 .f32) (Rect.unit (s := S2x4096x512) offs S1x4096x512.size inbs).toLoadRect hls) fun (b : Vec F S1x4096x512 .f32) =>
          .op (.load (Memref.whole cc0_scratch2 : Memref sig .tc .vmem S256x2048 .f32) (Rect.unit (s := S256x2048) off S256x512.size inb).toLoadRect hl) fun (_ : Vec F S256x512 .f32) =>
          .op (.store (Memref.whole cc0_scratch2 : Memref sig .tc .vmem S256x2048 .f32) (Rect.unit (s := S256x2048) off S256x512.size inb4) (p d b) Finset.univ h1 h2) k) Q) := by
  unfold SO
  iintro Hh ⟨Hs, Hv⟩ ⟨%f, Hp⟩ Hk
  iapply (ld_h c) $$ Hh
  iintro Hh
  iapply (ld_sO I c s hs) $$ Hs
  iintro Hs
  iapply (ldE_pt c g h) $$ Hp
  iintro Hp %_
  iapply (st_pt c g h hp) $$ Hp
  iintro Hp
  iapply Hk $$ Hh [Hs Hv] Hp
  isplitl [Hs] <;> iassumption
end

end

/-- A function of the kernel's buffers and semaphores, at them. -/
abbrev On {β : Type 1} (f : (arg0 : Memref sig .tc .vmem S64x2048 .f32) → arg0.IsWhole → (arg1 : Memref sig .tc .hbm S2048x4096 .f32) → arg1.IsWhole
    → (arg2 : Memref sig .tc .hbm S4096x2048 .f32) → arg2.IsWhole → (arg3 : Memref sig .tc .hbm S2048x4096 .f32) → arg3.IsWhole
    → (arg4 : Memref sig .tc .hbm S4096x2048 .f32) → arg4.IsWhole → (arg5 : Memref sig .tc .hbm S2048x4096 .f32) → arg5.IsWhole
    → (arg6 : Memref sig .tc .hbm S4096x2048 .f32) → arg6.IsWhole → (arg7 : Memref sig .tc .vmem S64x2048 .f32) → arg7.IsWhole
    → (arg8 : Memref sig .tc .vmem S256x2048 .f32) → arg8.IsWhole → (arg9 : Memref sig .tc .vmem S256x4096 .f32) → arg9.IsWhole
    → (arg10 : Memref sig .tc .vmem S256x2048 .f32) → arg10.IsWhole → (arg11 : Memref sig .tc .vmem S3x256x512 .f32) → arg11.IsWhole
    → (arg12 : Memref sig .tc .vmem S3x64x2048 .f32) → arg12.IsWhole → (arg13 : Memref sig .tc .vmem S2x512x4096 .f32) → arg13.IsWhole
    → (arg14 : Memref sig .tc .vmem S2x4096x512 .f32) → arg14.IsWhole → DmaSems sig S3x4 → DmaSems sig S2x3 → DmaSems sig S2x3
    → DmaSems sig S3x4 → DmaSems sig S36 → DmaSems sig S2 → DmaSems sig S2 → β) : β :=
  f (Memref.whole cc0_stg0_0) (Memref.isWhole_whole _) (Memref.whole main_arg1) (Memref.isWhole_whole _) (Memref.whole main_arg4) (Memref.isWhole_whole _)
    (Memref.whole main_arg2) (Memref.isWhole_whole _) (Memref.whole main_arg5) (Memref.isWhole_whole _) (Memref.whole main_arg3) (Memref.isWhole_whole _)
    (Memref.whole main_arg6) (Memref.isWhole_whole _) (Memref.whole cc0_stg1_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    cc0_scratch7 cc0_scratch8 cc0_scratch9 cc0_scratch10 cc0_scratch11 cc0_scratch12 cc0_scratch13

end Cert.KernelIdeal.Mlp

end
-- ==== Proof.Ideal.Tickets.lean ====
/-
  What each send takes and each receipt gives, sorted by kind.
-/
module

public import proofs.«01_k».proof.Proof.Ideal.Slots
public import Idealize.ShloMosaic.Lib.Pipeline.Value

@[expose] public section

noncomputable section

namespace Cert.KernelIdeal.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {α : Type} {Q : α → Asn F} {k : PUnit → Prog (TpuEff nD τ sig (Elt F) Λ₀ .tc) α}
variable (I : Inp F) (K : Dev nD × Role → ℕ) (c : Dev nD)

/-! The weights in the order the kernel names them. -/
abbrev mI0 : Memref sig .tc .hbm S2048x4096 .f32 := Memref.whole main_arg1
abbrev mI1 : Memref sig .tc .hbm S2048x4096 .f32 := Memref.whole main_arg2
abbrev mI2 : Memref sig .tc .hbm S2048x4096 .f32 := Memref.whole main_arg3
abbrev mO0 : Memref sig .tc .hbm S4096x2048 .f32 := Memref.whole main_arg4
abbrev mO1 : Memref sig .tc .hbm S4096x2048 .f32 := Memref.whole main_arg5
abbrev mO2 : Memref sig .tc .hbm S4096x2048 .f32 := Memref.whole main_arg6

/-- A finished program; -/
theorem ret {a : α} : Q a ⊢ WP c (.ret a) Q := by
  rw [show WP c (.ret a) Q = iprop(|={Set.univ}=> Q a) from wp_ret ..]
  iintro H; imodintro; iexact H
/-- one program after another. -/
theorem seq {β : Type} {p : Prog (TpuEff nD τ sig (Elt F) Λ₀ .tc) β} {r : β → Prog (TpuEff nD τ sig (Elt F) Λ₀ .tc) α} :
    WP c p (fun b => WP c (r b) Q) ⊢ WP c (p.bind r) Q := by
  rw [show WP c (p.bind r) Q = _ from wp_bind ..]

/-- What a send of group `g` of the inputs to `nb c q` takes. -/
def TAg (q : Fin 3) (g : Fin 4) : sProp 𝕄 :=
  iprop(Tx c q (.ag g) ∗ At c cc0_stg0_0 (colX g) (sh q) (I.x c) ∗ AtE (nb c q) cc0_scratch0 (blk c g))

/-- A send of group `g` of the inputs. -/
theorem sag (q : Fin 3) (g : Fin 4) (n : Dev nD) (hn : n = nb c q) (i : ℕ) (hi : payL.drop i = (q, some (.ag g)) :: payL.drop (i + 1))
    {sS sm : DmaSem sig} (hS : sS = txNum q (.ag g)) (hR : sm = rxNum (rev q) (.ag g))
    {offs offd : Fin 2 → ℕ} {inbs inbd} (hs : offs = ![0, 512 * g.val]) (hd : offd = ![64 * c.val, 512 * g.val]) {hsc h1 h2 h3} :
    Ctx I K ⊢ iprop(Ow c i -∗ TAg I c q g -∗ (Ow c (i + 1) -∗ Fl c q (.ag g) -∗ WP c (k ⟨⟩) Q)
  -∗ WP c (.op (.enqueueDma (mX offs inbs) (.remote (Dev.tc n : Thread nD τ) (mBlk cc0_scratch0 (Memref.whole cc0_scratch0) offd inbd) (.dma sS) hsc) (.dma sm) h1 h2 h3) k) Q) := by
  unfold TAg
  iintro #HC HO ⟨HT, Hx, %fd, Hd⟩ Hk
  iapply (snd_ag I K c q g n hn i hi hS hR hs hd) $$ HC HO HT Hx Hd Hk

/-- A send of the first layer's share of `nb c q`'s group. -/
theorem spp0 (q : Fin 3) (n : Dev nD) (hn : n = nb c q) (i : ℕ) (hi : payL.drop i = (q, some (.pp 0)) :: payL.drop (i + 1))
    {sS sm : DmaSem sig} (hS : sS = txNum q (.pp 0)) (hR : sm = rxNum (rev q) (.pp 0))
    {offs : Fin 2 → ℕ} {offd : Fin 3 → ℕ} {inbs inbd} (hs : offs = ![0, 512 * (nb c q).val]) (hd : offd = ![(rev q).val, 0, 0]) {hsc h1 h2 h3} :
    Ctx I K ⊢ iprop(Ow c i -∗ Tx c q (.pp 0) -∗ At c cc0_scratch2 (colS (nb c q)) fullShare (pt I 0 c) -∗ AtE (nb c q) cc0_scratch3 (slotC (rev q))
  -∗ AtE c cc0_scratch0 (colS (nb c q))
  -∗ (Ow c (i + 1) -∗ Fl c q (.pp 0) -∗ WP c (k ⟨⟩) Q)
  -∗ WP c (.op (.enqueueDma (mCol (Memref.whole cc0_scratch2) offs inbs) (.remote (Dev.tc n : Thread nD τ) (mAcc offd inbd) (.dma sS) hsc) (.dma sm) h1 h2 h3) k) Q) := by
  iintro #HC HO HT Hx ⟨%fd, Hd⟩ He Hk
  ihave Hx := (show At c cc0_scratch2 (colS (nb c q)) fullShare (pt I 0 c) ⊢ At c cc0_scratch2 (colS (nb c q)) fullShare (pt I (Fin.castSucc (0 : Fin 2)) c) from Entails.refl _) $$ Hx
  iapply (snd_pp I K c 0 q n hn i hi hS hR hs hd) $$ HC HO HT Hx Hd [He] Hk
  iapply (show AtE c cc0_scratch0 (colS (nb c q)) ⊢ iprop(AtE c cc0_scratch0 (colS (nb c q))
    ∗ (if (0 : Fin 2) = 1 then At (nb c q) cc0_scratch0 (colS (nb c q)) (sh (rev q)) (xs I 1) else iprop(emp))) from Laws.sep_emp.2) $$ He

/-- A send of the second layer's share of `nb c q`'s group. -/
theorem spp1 (q : Fin 3) (n : Dev nD) (hn : n = nb c q) (i : ℕ) (hi : payL.drop i = (q, some (.pp 1)) :: payL.drop (i + 1))
    {sS sm : DmaSem sig} (hS : sS = txNum q (.pp 1)) (hR : sm = rxNum (rev q) (.pp 1))
    {offs : Fin 2 → ℕ} {offd : Fin 3 → ℕ} {inbs inbd} (hs : offs = ![0, 512 * (nb c q).val]) (hd : offd = ![(rev q).val, 0, 0]) {hsc h1 h2 h3} :
    Ctx I K ⊢ iprop(Ow c i -∗ Tx c q (.pp 1) -∗ At c cc0_scratch2 (colS (nb c q)) fullShare (pt I 1 c) -∗ AtE (nb c q) cc0_scratch3 (slotC (rev q))
  -∗ AtE c cc0_scratch0 (colS (nb c q)) -∗ At (nb c q) cc0_scratch0 (colS (nb c q)) (sh (rev q)) (xs I 1)
  -∗ (Ow c (i + 1) -∗ Fl c q (.pp 1) -∗ WP c (k ⟨⟩) Q)
  -∗ WP c (.op (.enqueueDma (mCol (Memref.whole cc0_scratch2) offs inbs) (.remote (Dev.tc n : Thread nD τ) (mAcc offd inbd) (.dma sS) hsc) (.dma sm) h1 h2 h3) k) Q) := by
  iintro #HC HO HT Hx ⟨%fd, Hd⟩ He Hs Hk
  ihave Hx := (show At c cc0_scratch2 (colS (nb c q)) fullShare (pt I 1 c) ⊢ At c cc0_scratch2 (colS (nb c q)) fullShare (pt I (Fin.castSucc (1 : Fin 2)) c) from Entails.refl _) $$ Hx
  iapply (snd_pp I K c 1 q n hn i hi hS hR hs hd) $$ HC HO HT Hx Hd [He Hs] Hk
  iapply (show iprop(AtE c cc0_scratch0 (colS (nb c q)) ∗ At (nb c q) cc0_scratch0 (colS (nb c q)) (sh (rev q)) (xs I 1)) ⊢ iprop(AtE c cc0_scratch0 (colS (nb c q))
    ∗ (if (1 : Fin 2) = 1 then At (nb c q) cc0_scratch0 (colS (nb c q)) (sh (rev q)) (xs I 1) else iprop(emp))) from Entails.refl _)
  isplitl [He]; · iexact He
  iexact Hs

/-- A send of the first sum of a device's own group. -/
theorem sbb0 (q : Fin 3) (n : Dev nD) (hn : n = nb c q) (i : ℕ) (hi : payL.drop i = (q, some (.bb 0)) :: payL.drop (i + 1))
    {sS sm : DmaSem sig} (hS : sS = txNum q (.bb 0)) (hR : sm = rxNum (rev q) (.bb 0))
    {off : Fin 2 → ℕ} {inbs inbd} (hs : off = ![0, 512 * c.val]) {hsc h1 h2 h3} :
    Ctx I K ⊢ iprop(Ow c i -∗ Tx c q (.bb 0) -∗ At c cc0_scratch0 (colS c) (sh q) (xs I 1) -∗ AtE (nb c q) cc0_scratch0 (colS c)
  -∗ AtE (nb c q) cc0_scratch2 (colS c) -∗ AtE c cc0_scratch3 (slotC q)
  -∗ (Ow c (i + 1) -∗ Fl c q (.bb 0) -∗ WP c (k ⟨⟩) Q)
  -∗ WP c (.op (.enqueueDma (mCol (Memref.whole cc0_scratch0) off inbs) (.remote (Dev.tc n : Thread nD τ) (mCol (Memref.whole cc0_scratch0) off inbd) (.dma sS) hsc) (.dma sm) h1 h2 h3) k) Q) := by
  iintro #HC HO HT Hx ⟨%fd, Hd⟩ He Hs Hk
  iapply (snd_bb0 I K c q n hn i hi hS hR hs) $$ HC HO HT Hx Hd [He Hs] Hk
  isplitl [He]; · iexact He
  iexact Hs

/-- A send of the second sum of a device's own group. -/
theorem sbb1 (q : Fin 3) (n : Dev nD) (hn : n = nb c q) (i : ℕ) (hi : payL.drop i = (q, some (.bb 1)) :: payL.drop (i + 1))
    {sS sm : DmaSem sig} (hS : sS = txNum q (.bb 1)) (hR : sm = rxNum (rev q) (.bb 1))
    {off : Fin 2 → ℕ} {inbs inbd} (hs : off = ![0, 512 * c.val]) {hsc h1 h2 h3} :
    Ctx I K ⊢ iprop(Ow c i -∗ Tx c q (.bb 1) -∗ At c cc0_scratch0 (colS c) (sh q) (xs I 2) -∗ AtE (nb c q) cc0_scratch0 (colS c)
  -∗ AtE (nb c q) cc0_scratch2 (colS c)
  -∗ (Ow c (i + 1) -∗ Fl c q (.bb 1) -∗ WP c (k ⟨⟩) Q)
  -∗ WP c (.op (.enqueueDma (mCol (Memref.whole cc0_scratch0) off inbs) (.remote (Dev.tc n : Thread nD τ) (mCol (Memref.whole cc0_scratch0) off inbd) (.dma sS) hsc) (.dma sm) h1 h2 h3) k) Q) := by
  iintro #HC HO HT Hx ⟨%fd, Hd⟩ He Hk
  iapply (snd_bb1 I K c q n hn i hi hS hR hs) $$ HC HO HT Hx Hd He Hk

/-- A send of a group of the last layer's share of `nb c q`'s rows. -/
theorem srow (q : Fin 3) (g : Fin 4) (n : Dev nD) (hn : n = nb c q) (i : ℕ) (hi : payL.drop i = (q, some (.row g)) :: payL.drop (i + 1))
    {sS sm : DmaSem sig} (hS : sS = txNum q (.row g)) (hR : sm = rxNum (rev q) (.row g))
    {offs : Fin 2 → ℕ} {offd : Fin 3 → ℕ} {inbs inbd} (hs : offs = ![64 * (nb c q).val, 512 * g.val]) (hd : offd = ![(rev q).val, 0, 512 * g.val]) {hsc h1 h2 h3} :
    Ctx I K ⊢ iprop(Ow c i -∗ Tx c q (.row g) -∗ At c cc0_scratch2 (blk (nb c q) g) fullShare (pt I 2 c) -∗ AtE (nb c q) cc0_scratch4 (slotRG (rev q) g)
  -∗ (Ow c (i + 1) -∗ Fl c q (.row g) -∗ WP c (k ⟨⟩) Q)
  -∗ WP c (.op (.enqueueDma (mBlk cc0_scratch2 (Memref.whole cc0_scratch2) offs inbs) (.remote (Dev.tc n : Thread nD τ) (mAccR offd inbd) (.dma sS) hsc) (.dma sm) h1 h2 h3) k) Q) := by
  iintro #HC HO HT Hx ⟨%fd, Hd⟩ Hk
  iapply (snd_row I K c q g n hn i hi hS hR hs hd) $$ HC HO HT Hx Hd Hk

/-- What arrives of a group's first shares, part by part; -/
theorem rx_pp0 (j : Fin 3) : rxPay I c j (.pp 0) ⊢ iprop(At c cc0_scratch3 (slotC j) fullShare (accC I (xs I 0) 0 c)
    ∗ AtE (nb c j) cc0_scratch2 (colS c) ∗ AtE (nb c j) cc0_scratch0 (colS c)) := by
  show iprop(At c cc0_scratch3 (slotC j) fullShare (accC I (xs I 0) 0 c) ∗ At (nb c j) cc0_scratch2 (colS c) fullShare (pt I 0 (nb c j))
    ∗ AtE (nb c j) cc0_scratch0 (colS c) ∗ emp) ⊢ _
  iintro ⟨Ha, Hp, Hx, _⟩
  isplitl [Ha]; · iexact Ha
  isplitl [Hp]; · iexists (pt I 0 (nb c j)); iexact Hp
  iexact Hx
/-- of its second shares; -/
theorem rx_pp1 (j : Fin 3) : rxPay I c j (.pp 1) ⊢ iprop(At c cc0_scratch3 (slotC j) fullShare (accC I (xs I 1) 1 c)
    ∗ AtE (nb c j) cc0_scratch2 (colS c) ∗ AtE (nb c j) cc0_scratch0 (colS c) ∗ At c cc0_scratch0 (colS c) (sh j) (xs I 1)) := by
  show iprop(At c cc0_scratch3 (slotC j) fullShare (accC I (xs I 1) 1 c) ∗ At (nb c j) cc0_scratch2 (colS c) fullShare (pt I 1 (nb c j))
    ∗ AtE (nb c j) cc0_scratch0 (colS c) ∗ At c cc0_scratch0 (colS c) (sh j) (xs I 1)) ⊢ _
  iintro ⟨Ha, Hp, Hx, Hs⟩
  isplitl [Ha]; · iexact Ha
  isplitl [Hp]; · iexists (pt I 1 (nb c j)); iexact Hp
  isplitl [Hx]; · iexact Hx
  iexact Hs
/-- of another group's first sum; -/
theorem rx_bb0 (j : Fin 3) : rxPay I c j (.bb 0) ⊢ iprop(At c cc0_scratch0 (colS (nb c j)) fullShare (xs I 1) ∗ AtE c cc0_scratch2 (colS (nb c j))
    ∗ At (nb c j) cc0_scratch0 (colS (nb c j)) (sh (rev j)) (xs I 1) ∗ AtE (nb c j) cc0_scratch3 (slotC (rev j))) := Entails.refl _
/-- of its second sum. -/
theorem rx_bb1 (j : Fin 3) : rxPay I c j (.bb 1) ⊢ iprop(At c cc0_scratch0 (colS (nb c j)) fullShare (xs I 2) ∗ AtE c cc0_scratch2 (colS (nb c j))) := by
  show iprop(At c cc0_scratch0 (colS (nb c j)) fullShare (xs I 2) ∗ AtE c cc0_scratch2 (colS (nb c j)) ∗ emp) ⊢ _
  iintro ⟨Ha, Hp, _⟩
  isplitl [Ha]; · iexact Ha
  iexact Hp

/-- A hidden layer's update whose value was formed before. -/
theorem sth {w H' H : FVec F S256x4096 .f32} (hp : w = H') {inb3 hl3 inb4 h1 h2} :
    Al c cc0_scratch1 H ⊢ iprop((Al c cc0_scratch1 H' -∗ WP c (k ⟨⟩) Q)
  -∗ WP c (.op (.load (Memref.whole cc0_scratch1 : Memref sig .tc .vmem S256x4096 .f32) (Rect.unit (s := S256x4096) ![0, 0] S256x4096.size inb3).toLoadRect hl3) fun (_ : Vec F S256x4096 .f32) =>
          .op (.store (Memref.whole cc0_scratch1 : Memref sig .tc .vmem S256x4096 .f32) (Rect.unit (s := S256x4096) ![0, 0] S256x4096.size inb4) w Finset.univ h1 h2) k) Q) := by
  subst hp
  iintro HH Hk
  iapply (ld_h c) $$ HH
  iintro HH
  iapply (st_h c) $$ HH Hk

/-! The waits, by the kind of what they wait for: for the others' sends, -/

/-- for a group of the inputs; -/
theorem rcv_ag (j : Fin 3) (g : Fin 4) (i : ℕ) (hlv : ∀ p ∈ payL.drop i, lvR (.rx j (.ag g)) < lvR (payRole p)) {sp : Space} {s' : Shape} {e' : EltTy}
    {src : Memref sig .tc sp s' e'} {off : Fin 2 → ℕ} {inb} {sm : DmaSem sig} (hR : sm = rxNum j (.ag g)) {h1 h2} :
    Ctx I K ⊢ iprop(Ow c i -∗ Rx c j (.ag g) -∗ (Ow c i -∗ Z c (.rx j (.ag g)) -∗ rxPay I c j (.ag g) -∗ WP c (k ⟨⟩) Q)
  -∗ WP c (.op (.waitDma2 sm src (mBlk cc0_scratch0 (Memref.whole cc0_scratch0) off inb) h1 h2) k) Q) :=
  rcv I K (k := k) (Q := Q) c j (.ag g) i hlv (src := src) (dst := mBlk cc0_scratch0 (Memref.whole cc0_scratch0) off inb) (h1 := h1) (h2 := h2) hR rfl
/-- for a share of the own group; -/
theorem rcv_pp (j : Fin 3) (kk : Fin 2) (i : ℕ) (hlv : ∀ p ∈ payL.drop i, lvR (.rx j (.pp kk)) < lvR (payRole p)) {sp : Space} {s' : Shape} {e' : EltTy}
    {src : Memref sig .tc sp s' e'} {off : Fin 3 → ℕ} {inb} {sm : DmaSem sig} (hR : sm = rxNum j (.pp kk)) {h1 h2} :
    Ctx I K ⊢ iprop(Ow c i -∗ Rx c j (.pp kk) -∗ (Ow c i -∗ Z c (.rx j (.pp kk)) -∗ rxPay I c j (.pp kk) -∗ WP c (k ⟨⟩) Q)
  -∗ WP c (.op (.waitDma2 sm src (mAcc off inb) h1 h2) k) Q) :=
  rcv I K (k := k) (Q := Q) c j (.pp kk) i hlv (src := src) (dst := mAcc off inb) (h1 := h1) (h2 := h2) hR rfl
/-- for another group's sum; -/
theorem rcv_bb (j : Fin 3) (kk : Fin 2) (i : ℕ) (hlv : ∀ p ∈ payL.drop i, lvR (.rx j (.bb kk)) < lvR (payRole p)) {sp : Space} {s' : Shape} {e' : EltTy}
    {src : Memref sig .tc sp s' e'} {off : Fin 2 → ℕ} {inb} {sm : DmaSem sig} (hR : sm = rxNum j (.bb kk)) {h1 h2} :
    Ctx I K ⊢ iprop(Ow c i -∗ Rx c j (.bb kk) -∗ (Ow c i -∗ Z c (.rx j (.bb kk)) -∗ rxPay I c j (.bb kk) -∗ WP c (k ⟨⟩) Q)
  -∗ WP c (.op (.waitDma2 sm src (mCol (Memref.whole cc0_scratch0) off inb) h1 h2) k) Q) :=
  rcv I K (k := k) (Q := Q) c j (.bb kk) i hlv (src := src) (dst := mCol (Memref.whole cc0_scratch0) off inb) (h1 := h1) (h2 := h2) hR rfl
/-- for a group of a share of the own rows. -/
theorem rcv_row (j : Fin 3) (g : Fin 4) (i : ℕ) (hlv : ∀ p ∈ payL.drop i, lvR (.rx j (.row g)) < lvR (payRole p)) {sp : Space} {s' : Shape} {e' : EltTy}
    {src : Memref sig .tc sp s' e'} {off : Fin 3 → ℕ} {inb} {sm : DmaSem sig} (hR : sm = rxNum j (.row g)) {h1 h2} :
    Ctx I K ⊢ iprop(Ow c i -∗ Rx c j (.row g) -∗ (Ow c i -∗ Z c (.rx j (.row g)) -∗ rxPay I c j (.row g) -∗ WP c (k ⟨⟩) Q)
  -∗ WP c (.op (.waitDma2 sm src (mAccR off inb) h1 h2) k) Q) :=
  rcv I K (k := k) (Q := Q) c j (.row g) i hlv (src := src) (dst := mAccR off inb) (h1 := h1) (h2 := h2) hR rfl

/-! and for the own sends. -/

/-- A group of the inputs; -/
theorem sw_ag (q : Fin 3) (g : Fin 4) {sp : Space} {s' : Shape} {e' : EltTy}
    {src : Memref sig .tc sp s' e'} {off : Fin 2 → ℕ} {inb} {sm : DmaSem sig} (hR : sm = txNum q (.ag g)) {h1 h2} :
    Ctx I K ⊢ iprop(Ow c 39 -∗ Fl c q (.ag g) -∗ (Ow c 39 -∗ Z c (.tx q (.ag g)) -∗ txPay I c q (.ag g) -∗ WP c (k ⟨⟩) Q)
  -∗ WP c (.op (.waitDma2 sm src (mX off inb) h1 h2) k) Q) :=
  sndw I K (k := k) (Q := Q) c q (.ag g) (src := src) (dst := mX off inb) (h1 := h1) (h2 := h2) hR rfl
/-- a share; -/
theorem sw_pp (q : Fin 3) (kk : Fin 2) {sp : Space} {s' : Shape} {e' : EltTy}
    {src : Memref sig .tc sp s' e'} {off : Fin 2 → ℕ} {inb} {sm : DmaSem sig} (hR : sm = txNum q (.pp kk)) {h1 h2} :
    Ctx I K ⊢ iprop(Ow c 39 -∗ Fl c q (.pp kk) -∗ (Ow c 39 -∗ Z c (.tx q (.pp kk)) -∗ txPay I c q (.pp kk) -∗ WP c (k ⟨⟩) Q)
  -∗ WP c (.op (.waitDma2 sm src (mCol (Memref.whole cc0_scratch2) off inb) h1 h2) k) Q) :=
  sndw I K (k := k) (Q := Q) c q (.pp kk) (src := src) (dst := mCol (Memref.whole cc0_scratch2) off inb) (h1 := h1) (h2 := h2) hR rfl
/-- a sum; -/
theorem sw_bb (q : Fin 3) (kk : Fin 2) {sp : Space} {s' : Shape} {e' : EltTy}
    {src : Memref sig .tc sp s' e'} {off : Fin 2 → ℕ} {inb} {sm : DmaSem sig} (hR : sm = txNum q (.bb kk)) {h1 h2} :
    Ctx I K ⊢ iprop(Ow c 39 -∗ Fl c q (.bb kk) -∗ (Ow c 39 -∗ Z c (.tx q (.bb kk)) -∗ txPay I c q (.bb kk) -∗ WP c (k ⟨⟩) Q)
  -∗ WP c (.op (.waitDma2 sm src (mCol (Memref.whole cc0_scratch0) off inb) h1 h2) k) Q) :=
  sndw I K (k := k) (Q := Q) c q (.bb kk) (src := src) (dst := mCol (Memref.whole cc0_scratch0) off inb) (h1 := h1) (h2 := h2) hR rfl
/-- a group of a share of rows. -/
theorem sw_row (q : Fin 3) (g : Fin 4) {sp : Space} {s' : Shape} {e' : EltTy}
    {src : Memref sig .tc sp s' e'} {off : Fin 2 → ℕ} {inb} {sm : DmaSem sig} (hR : sm = txNum q (.row g)) {h1 h2} :
    Ctx I K ⊢ iprop(Ow c 39 -∗ Fl c q (.row g) -∗ (Ow c 39 -∗ Z c (.tx q (.row g)) -∗ txPay I c q (.row g) -∗ WP c (k ⟨⟩) Q)
  -∗ WP c (.op (.waitDma2 sm src (mBlk cc0_scratch2 (Memref.whole cc0_scratch2) off inb) h1 h2) k) Q) :=
  sndw I K (k := k) (Q := Q) c q (.row g) (src := src) (dst := mBlk cc0_scratch2 (Memref.whole cc0_scratch2) off inb) (h1 := h1) (h2 := h2) hR rfl

/-- What arrives of the inputs. -/
theorem rx_ag (j : Fin 3) (g : Fin 4) : rxPay I c j (.ag g) ⊢ At c cc0_scratch0 (blk (nb c j) g) fullShare (xs I 0) := Entails.refl _
/-- What arrives of the rows. -/
theorem rx_row (j : Fin 3) (g : Fin 4) : rxPay I c j (.row g) ⊢ At c cc0_scratch4 (slotRG j g) fullShare (accR I c) := Entails.refl _

/-! The hidden layer's sum, group by group. -/
section
variable (X : FVec F S256x2048 .f32) (l : Fin 3)
theorem hid_0 : k0_pay2 (colBlk X (ord l c 0)) (winBlk I l c (ord l c 0)) = hid I X l c 0 := by rw [hid]
theorem hid_1 : k0_pay5 (colBlk X (ord l c 1)) (winBlk I l c (ord l c 1)) (hid I X l c 0) = hid I X l c 1 := by rw [hid.eq_2]
theorem hid_2 : k0_pay5 (colBlk X (ord l c 2)) (winBlk I l c (ord l c 2)) (hid I X l c 1) = hid I X l c 2 := by rw [hid.eq_3]
theorem hid_3 : k0_pay5 (colBlk X (ord l c 3)) (winBlk I l c (ord l c 3)) (hid I X l c 2) = hid I X l c 3 := by rw [hid.eq_4]
end

/-- The wait for a group of a layer's first weight; -/
theorem wI (s : Fin 2) (n : Fin 3) (g : Fin 4) {i : ℕ} {m : Memref sig .tc .hbm S2048x4096 .f32}
    {sp : Space} {s' : Shape} {e' : EltTy} {sm : DmaSem sig} {src : Memref sig .tc sp s' e'} {off : Fin 3 → ℕ} {inb} {h1 h2} (hsm : sm = semI s) :
    Ctx I K ⊢ iprop(FI I c m n s g -∗ Ow c i -∗ (Ow c i -∗ SI c s (winStg I n c g) -∗ HI I c m n s -∗ WP c (k ⟨⟩) Q)
  -∗ WP c (.op (.waitDma2 sm src (dstI off inb) h1 h2) k) Q) :=
  wtI I K (k := k) (Q := Q) c s n g (src := src) (dst := dstI off inb) (h1 := h1) (h2 := h2) hsm rfl
/-- of its second weight. -/
theorem wO (s : Fin 2) (n : Fin 3) (g : Fin 4) {i : ℕ} {m : Memref sig .tc .hbm S4096x2048 .f32}
    {sp : Space} {s' : Shape} {e' : EltTy} {sm : DmaSem sig} {src : Memref sig .tc sp s' e'} {off : Fin 3 → ℕ} {inb} {h1 h2} (hsm : sm = semO s) :
    Ctx I K ⊢ iprop(FO I c m n s g -∗ Ow c i -∗ (Ow c i -∗ SO c s (woutStg I n c g) -∗ HO I c m n s -∗ WP c (k ⟨⟩) Q)
  -∗ WP c (.op (.waitDma2 sm src (dstO off inb) h1 h2) k) Q) :=
  wtO I K (k := k) (Q := Q) c s n g (src := src) (dst := dstO off inb) (h1 := h1) (h2 := h2) hsm rfl

end Cert.KernelIdeal.Mlp

end
-- ==== Proof.Ideal.Ends.lean ====
/-
  Pieces put together and taken apart between the kernel's stages, and what a device starts and ends the kernel with.
-/
module

public import proofs.«01_k».proof.Proof.Ideal.Tickets

@[expose] public section

noncomputable section

namespace Cert.KernelIdeal.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × Role → ℕ) (c : Dev nD)

/-- A statement about each of the three other devices. -/
abbrev T3 (Φ : Fin 3 → Asn F) : Asn F := iprop(Φ 0 ∗ Φ 1 ∗ Φ 2)
/-- A statement about each of the four groups. -/
abbrev T4 (Φ : Fin 4 → Asn F) : Asn F := iprop(Φ 0 ∗ Φ 1 ∗ Φ 2 ∗ Φ 3)

section
variable {A B C D : Asn F}
theorem pk3 : A ⊢ iprop(B -∗ C -∗ A ∗ B ∗ C) := by
  iintro HA HB HC
  isplitl [HA]; · iexact HA
  isplitl [HB]; · iexact HB
  iexact HC
theorem pk4 : A ⊢ iprop(B -∗ C -∗ D -∗ A ∗ B ∗ C ∗ D) := by
  iintro HA HB HC HD
  isplitl [HA]; · iexact HA
  isplitl [HB]; · iexact HB
  isplitl [HC]; · iexact HC
  iexact HD
end

/-- A statement about each other device and each channel, channel by channel. -/
theorem chans (Φ : Fin 3 → Chan → Asn F) :
    (bigSep Finset.univ fun p : Fin 3 × Chan => Φ p.1 p.2) = iprop(T3 (Φ · (.ag 0)) ∗ T3 (Φ · (.ag 1)) ∗ T3 (Φ · (.ag 2)) ∗ T3 (Φ · (.ag 3))
      ∗ T3 (Φ · (.pp 0)) ∗ T3 (Φ · (.pp 1)) ∗ T3 (Φ · (.bb 0)) ∗ T3 (Φ · (.bb 1))
      ∗ T3 (Φ · (.row 0)) ∗ T3 (Φ · (.row 1)) ∗ T3 (Φ · (.row 2)) ∗ T3 (Φ · (.row 3))) := by
  rw [bigSep_univ_prod, bigSep_univ_comm,
    bigSep_univ_eq_bigSepL [Chan.ag 0, .ag 1, .ag 2, .ag 3, .pp 0, .pp 1, .bb 0, .bb 1, .row 0, .row 1, .row 2, .row 3] (by decide) (by decide)]
  simp only [bigSepL_cons_cons, bigSepL_singleton, tri]
  rfl

/-- What holds something holds anything. -/
theorem wk {b : Ref sig .tc} {S : Finset b.ty.Idx} {f : b.ty.Contents (Elt F)} : At c b S fullShare f ⊢ AtE c b S := by
  iintro H; iexists f; iexact H

/-- A part holding anything, by a second coordinate's function. -/
theorem AtE_fst {b : Ref sig .tc} {κ κ' : Type} [Fintype κ] [DecidableEq κ] [DecidableEq κ'] (k : b.ty.Idx → κ') (k' : b.ty.Idx → κ) (a : κ') :
    AtE (F := F) c b (fib k a) ⊢ bigSep Finset.univ fun a' => AtE c b (fib (fun i => (k i, k' i)) (a, a')) := by
  iintro ⟨%f, H⟩
  ihave H := (Entails.of_eq (At_fst c b k k' a fullShare f)) $$ H
  iapply (show (bigSep Finset.univ fun a' => At c b (fib (fun i => (k i, k' i)) (a, a')) fullShare f) ⊢ bigSep Finset.univ fun a' => AtE c b (fib (fun i => (k i, k' i)) (a, a'))
    from bigSep_mono fun a' _ => wk c) $$ H
/-- A whole buffer holding anything, by a coordinate's function. -/
theorem AtE_all {b : Ref sig .tc} {κ : Type} [Fintype κ] [DecidableEq κ] (k : b.ty.Idx → κ) :
    AtE (F := F) c b Finset.univ ⊢ bigSep Finset.univ fun a => AtE c b (fib k a) := by
  iintro ⟨%f, H⟩
  ihave H := (Entails.of_eq (At_all c b k fullShare f)) $$ H
  iapply (show (bigSep Finset.univ fun a => At c b (fib k a) fullShare f) ⊢ bigSep Finset.univ fun a => AtE c b (fib k a)
    from bigSep_mono fun a _ => wk c) $$ H

/-- The groups in their order, from the own one on and back. -/
theorem quads (Φ : Fin 4 → Asn F) : iprop(Φ c ∗ Φ (nb c 0) ∗ Φ (nb c 1) ∗ Φ (nb c 2)) = T4 Φ := (quad c Φ).symm.trans (quad0 Φ)

/-- A part held whole is held in four shares, one for each other device's copy and one kept. -/
theorem share4 {b : Ref sig .tc} (S : Finset b.ty.Idx) (f : b.ty.Contents (Elt F)) :
    (At c b S fullShare f : sProp 𝕄) ⊣⊢ iprop(At c b S sh0 f ∗ At c b S (sh 0) f ∗ At c b S (sh 1) f ∗ At c b S (sh 2) f) := by
  have h (q : PosShare TreeShare) : (At c b S q f : sProp 𝕄) ⊣⊢ iprop(At c b S q.left f ∗ At c b S q.right f) :=
    pointsTo_share (by rw [PosShare.left_op_right]; exact Part.mem_some _)
  exact (h fullShare).trans (sep_congr BiEntails.rfl ((h fullShare.right).trans (sep_congr BiEntails.rfl (h fullShare.right.right))))

/-- What another device hands over at the barrier, by the transfers it is for. -/
theorem bar_open (d : Fin 3) : barPay (F := F) c d ⊢ iprop(T4 (fun g => AtE (nb c d) cc0_scratch0 (blk c g)) ∗ AtE (nb c d) cc0_scratch3 (slotC (rev d))
    ∗ T4 (fun g => AtE (nb c d) cc0_scratch4 (slotRG (rev d) g))) := by
  unfold barPay
  iintro ⟨H0, H3, H4⟩
  ihave H0 := (AtE_fst (nb c d) rowOf colOf c) $$ H0
  ihave H4 := (AtE_fst (nb c d) slotOf colOfR (rev d)) $$ H4
  isplitl [H0]; · iapply (Entails.of_eq (quad0 fun g => AtE (F := F) (nb c d) cc0_scratch0 (blk c g))) $$ H0
  isplitl [H3]; · iexact H3
  iapply (Entails.of_eq (quad0 fun g => AtE (F := F) (nb c d) cc0_scratch4 (slotRG (rev d) g))) $$ H4

/-- A share of the inputs, group by group. -/
theorem x_cols (q : PosShare TreeShare) : (At c cc0_stg0_0 Finset.univ q (I.x c) : sProp 𝕄) = T4 fun g => At c cc0_stg0_0 (colX g) q (I.x c) :=
  (At_all c cc0_stg0_0 colOfX q (I.x c)).trans (quad0 _)

/-- What the gather's sends and the later ones take, of what the barrier gave and the inputs. -/
theorem tickets : barPay c 0 ⊢ iprop(barPay c 1 -∗ barPay c 2 -∗ Al c cc0_stg0_0 (I.x c)
    -∗ T3 (Tx c · (.ag 0)) -∗ T3 (Tx c · (.ag 1)) -∗ T3 (Tx c · (.ag 2)) -∗ T3 (Tx c · (.ag 3))
    -∗ T4 (fun g => T3 fun q => TAg I c q g) ∗ At c cc0_stg0_0 Finset.univ sh0 (I.x c) ∗ T3 (fun q => AtE (nb c q) cc0_scratch3 (slotC (rev q)))
      ∗ T4 (fun g => T3 fun q => AtE (nb c q) cc0_scratch4 (slotRG (rev q) g))) := by
  iintro B0 B1 B2 HX ⟨T00, T10, T20⟩ ⟨T01, T11, T21⟩ ⟨T02, T12, T22⟩ ⟨T03, T13, T23⟩
  ihave B0 := (bar_open c 0) $$ B0
  ihave B1 := (bar_open c 1) $$ B1
  ihave B2 := (bar_open c 2) $$ B2
  icases B0 with ⟨⟨F00, F01, F02, F03⟩, D0, ⟨R00, R01, R02, R03⟩⟩
  icases B1 with ⟨⟨F10, F11, F12, F13⟩, D1, ⟨R10, R11, R12, R13⟩⟩
  icases B2 with ⟨⟨F20, F21, F22, F23⟩, D2, ⟨R20, R21, R22, R23⟩⟩
  ihave HX := (share4 c Finset.univ (I.x c)).1 $$ HX
  icases HX with ⟨HX, X0, X1, X2⟩
  ihave X0 := (Entails.of_eq (x_cols I c (sh 0))) $$ X0
  ihave X1 := (Entails.of_eq (x_cols I c (sh 1))) $$ X1
  ihave X2 := (Entails.of_eq (x_cols I c (sh 2))) $$ X2
  icases X0 with ⟨X00, X01, X02, X03⟩
  icases X1 with ⟨X10, X11, X12, X13⟩
  icases X2 with ⟨X20, X21, X22, X23⟩
  isplitl [T00 T10 T20 T01 T11 T21 T02 T12 T22 T03 T13 T23 F00 F01 F02 F03 F10 F11 F12 F13 F20 F21 F22 F23 X00 X01 X02 X03 X10 X11 X12 X13 X20 X21 X22 X23]
  · unfold TAg
    isplitl [T00 T10 T20 F00 F10 F20 X00 X10 X20]
    · isplitl [T00 F00 X00]; · iapply pk3 $$ T00 X00 F00
      isplitl [T10 F10 X10]; · iapply pk3 $$ T10 X10 F10
      iapply pk3 $$ T20 X20 F20
    isplitl [T01 T11 T21 F01 F11 F21 X01 X11 X21]
    · isplitl [T01 F01 X01]; · iapply pk3 $$ T01 X01 F01
      isplitl [T11 F11 X11]; · iapply pk3 $$ T11 X11 F11
      iapply pk3 $$ T21 X21 F21
    isplitl [T02 T12 T22 F02 F12 F22 X02 X12 X22]
    · isplitl [T02 F02 X02]; · iapply pk3 $$ T02 X02 F02
      isplitl [T12 F12 X12]; · iapply pk3 $$ T12 X12 F12
      iapply pk3 $$ T22 X22 F22
    · isplitl [T03 F03 X03]; · iapply pk3 $$ T03 X03 F03
      isplitl [T13 F13 X13]; · iapply pk3 $$ T13 X13 F13
      iapply pk3 $$ T23 X23 F23
  isplitl [HX]; · iexact HX
  isplitl [D0 D1 D2]; · iapply pk3 $$ D0 D1 D2
  isplitl [R00 R10 R20]; · iapply pk3 $$ R00 R10 R20
  isplitl [R01 R11 R21]; · iapply pk3 $$ R01 R11 R21
  isplitl [R02 R12 R22]; · iapply pk3 $$ R02 R12 R22
  iapply pk3 $$ R03 R13 R23

/-- A device's own rows of the inputs, group by group. -/
theorem own_blks : At c cc0_scratch0 (rowS c) fullShare (xs I 0) ⊢ T4 fun g => At c cc0_scratch0 (blk c g) fullShare (xs I 0) :=
  Entails.of_eq ((At_fst c cc0_scratch0 rowOf colOf c fullShare (xs I 0)).trans (quad0 _))
/-- A device's own rows of its last share, put together. -/
theorem own_rows : At c cc0_scratch2 (blk c 0) fullShare (pt I 2 c) ⊢ iprop(At c cc0_scratch2 (blk c 1) fullShare (pt I 2 c)
    -∗ At c cc0_scratch2 (blk c 2) fullShare (pt I 2 c) -∗ At c cc0_scratch2 (blk c 3) fullShare (pt I 2 c) -∗ At c cc0_scratch2 (rowS c) fullShare (pt I 2 c)) := by
  iintro H0 H1 H2 H3
  iapply (Entails.of_eq ((At_fst c cc0_scratch2 rowOf colOf c fullShare (pt I 2 c)).trans (quad0 _)).symm)
  iapply pk4 $$ H0 H1 H2 H3
/-- The received rows of a slot, put together. -/
theorem slot_rows (j : Fin 3) : rxPay I c j (.row 0) ⊢ iprop(rxPay I c j (.row 1) -∗ rxPay I c j (.row 2) -∗ rxPay I c j (.row 3)
    -∗ At c cc0_scratch4 (slotR j) fullShare (accR I c)) := by
  iintro H0 H1 H2 H3
  ihave H0 := (rx_row I c j 0) $$ H0
  ihave H1 := (rx_row I c j 1) $$ H1
  ihave H2 := (rx_row I c j 2) $$ H2
  ihave H3 := (rx_row I c j 3) $$ H3
  iapply (Entails.of_eq ((At_fst c cc0_scratch4 slotOf colOfR j fullShare (accR I c)).trans (quad0 _)).symm)
  iapply pk4 $$ H0 H1 H2 H3

/-- The columns of a matrix holding anything, from the own group on. -/
theorem cols_own (b : Ref sig .tc) (S : Fin 4 → Finset b.ty.Idx) : AtE (F := F) c b (S 0) ⊢ iprop(AtE c b (S 1) -∗ AtE c b (S 2) -∗ AtE c b (S 3)
    -∗ AtE c b (S c) ∗ AtE c b (S (nb c 0)) ∗ AtE c b (S (nb c 1)) ∗ AtE c b (S (nb c 2))) := by
  iintro H0 H1 H2 H3
  iapply (Entails.of_eq (quads c fun g => AtE c b (S g)).symm)
  iapply pk4 $$ H0 H1 H2 H3
/-- and back in their order. -/
theorem cols_ord (b : Ref sig .tc) (S : Fin 4 → Finset b.ty.Idx) : AtE (F := F) c b (S c) ⊢ iprop(AtE c b (S (nb c 0)) -∗ AtE c b (S (nb c 1)) -∗ AtE c b (S (nb c 2))
    -∗ AtE c b (S 0) ∗ AtE c b (S 1) ∗ AtE c b (S 2) ∗ AtE c b (S 3)) := by
  iintro H0 H1 H2 H3
  iapply (Entails.of_eq (quads c fun g => AtE c b (S g)))
  iapply pk4 $$ H0 H1 H2 H3

/-- Four shares of a part are the whole part. -/
theorem share4_join {b : Ref sig .tc} (S : Finset b.ty.Idx) (f : b.ty.Contents (Elt F)) :
    At c b S sh0 f ⊢ iprop(At c b S (sh 0) f -∗ At c b S (sh 1) f -∗ At c b S (sh 2) f -∗ At c b S fullShare f) := by
  iintro H H0 H1 H2
  iapply (share4 c S f).2
  iapply pk4 $$ H H0 H1 H2

/-! ## What a device starts with and what it ends with -/

/-- The scratch buffers, holding anything. -/
def Scr (c : Dev nD) : sProp 𝕄 :=
  iprop(AtE c cc0_scratch0 Finset.univ ∗ AtE c cc0_scratch1 Finset.univ ∗ AtE c cc0_scratch2 Finset.univ ∗ AtE c cc0_scratch3 Finset.univ
    ∗ AtE c cc0_scratch4 Finset.univ ∗ AtE c cc0_scratch5 Finset.univ ∗ AtE c cc0_scratch6 Finset.univ)
/-- The weights. -/
def Wts : sProp 𝕄 :=
  iprop(Al c main_arg1 (I.win 0 c) ∗ Al c main_arg2 (I.win 1 c) ∗ Al c main_arg3 (I.win 2 c)
    ∗ Al c main_arg4 (I.wout 0 c) ∗ Al c main_arg5 (I.wout 1 c) ∗ Al c main_arg6 (I.wout 2 c))
/-- The stages' semaphores at zero. -/
def Sms (c : Dev nD) : sProp 𝕄 :=
  iprop(semVal ((c : Thread nD τ), .dma (semI 0)) 0 ∗ semVal ((c : Thread nD τ), .dma (semI 1)) 0
    ∗ semVal ((c : Thread nD τ), .dma (semO 0)) 0 ∗ semVal ((c : Thread nD τ), .dma (semO 1)) 0)
/-- What a device starts with, -/
def Begin : sProp 𝕄 :=
  iprop(Bx c ∗ (bigSep Finset.univ fun p : Fin 3 × Chan => Tx c p.1 p.2) ∗ (bigSep Finset.univ fun p : Fin 3 × Chan => Rx c p.1 p.2)
    ∗ Scr c ∗ Sms c ∗ Wts I c)
/-- and what it ends with. -/
def Done : sProp 𝕄 :=
  iprop(Z c .bar ∗ (bigSep Finset.univ fun p : Fin 3 × Chan => Z c (.rx p.1 p.2)) ∗ (bigSep Finset.univ fun p : Fin 3 × Chan => Z c (.tx p.1 p.2))
    ∗ Scr c ∗ Sms c ∗ Wts I c)

/-! ## The weights' halves -/

/-- A whole buffer is its two halves. -/
theorem halves {b : Ref sig .tc} (f : b.ty.Contents (Elt F)) :
    (At c b Finset.univ fullShare f : sProp 𝕄) ⊣⊢ iprop(At c b Finset.univ (wq 0) f ∗ At c b Finset.univ (wq 1) f) :=
  have h (q : PosShare TreeShare) : (At c b Finset.univ q f : sProp 𝕄) ⊣⊢ iprop(At c b Finset.univ q.left f ∗ At c b Finset.univ q.right f) :=
    pointsTo_share (by rw [PosShare.left_op_right]; exact Part.mem_some _)
  h fullShare

/-- A share of a whole buffer that reads as `X` holds `X`. -/
theorem reads {b : Ref sig .tc} {q : PosShare TreeShare} (X : b.ty.Contents (Elt F)) :
    (iprop(∃ fs, ⌜(View.whole b).read (Elt F) fs = X⌝ ∗ At c b Finset.univ q fs) : sProp 𝕄) ⊣⊢ At c b Finset.univ q X := by
  refine ⟨?_, ?_⟩
  · iintro ⟨%fs, %h, H⟩
    rw [View.read_whole] at h
    subst h
    iexact H
  · iintro H
    iexists X
    isplitr
    · ipureintro; exact View.read_whole ..
    iexact H

/-- A weight whole is the two slots' halves of it. -/
theorem whole_split {b : Ref sig .tc} (X : b.ty.Contents (Elt F)) : (At c b Finset.univ fullShare X : sProp 𝕄)
    ⊢ iprop((∃ fs, ⌜(View.whole b).read (Elt F) fs = X⌝ ∗ At c b Finset.univ (wq 0) fs) ∗ (∃ fs, ⌜(View.whole b).read (Elt F) fs = X⌝ ∗ At c b Finset.univ (wq 1) fs)) :=
  (halves c X).1.trans (BI.sep_mono (reads c X).2 (reads c X).2)
theorem whole_join {b : Ref sig .tc} (X : b.ty.Contents (Elt F)) :
    (iprop(∃ fs, ⌜(View.whole b).read (Elt F) fs = X⌝ ∗ At c b Finset.univ (wq 0) fs) : sProp 𝕄)
      ⊢ iprop((∃ fs, ⌜(View.whole b).read (Elt F) fs = X⌝ ∗ At c b Finset.univ (wq 1) fs) -∗ At c b Finset.univ fullShare X) := by
  iintro H0 H1
  ihave H0 := (reads c X).1 $$ H0
  ihave H1 := (reads c X).1 $$ H1
  iapply (halves c X).2
  isplitl [H0]; · iexact H0
  iexact H1

theorem splitI0 : Al c main_arg1 (I.win 0 c) ⊢ iprop(HI I c mI0 0 0 ∗ HI I c mI0 0 1) := whole_split c _
theorem joinI0 : HI I c mI0 0 0 ⊢ iprop(HI I c mI0 0 1 -∗ Al c main_arg1 (I.win 0 c)) := whole_join c _
theorem splitO0 : Al c main_arg4 (I.wout 0 c) ⊢ iprop(HO I c mO0 0 0 ∗ HO I c mO0 0 1) := whole_split c _
theorem joinO0 : HO I c mO0 0 0 ⊢ iprop(HO I c mO0 0 1 -∗ Al c main_arg4 (I.wout 0 c)) := whole_join c _
theorem splitI1 : Al c main_arg2 (I.win 1 c) ⊢ iprop(HI I c mI1 1 0 ∗ HI I c mI1 1 1) := whole_split c _
theorem joinI1 : HI I c mI1 1 0 ⊢ iprop(HI I c mI1 1 1 -∗ Al c main_arg2 (I.win 1 c)) := whole_join c _
theorem splitO1 : Al c main_arg5 (I.wout 1 c) ⊢ iprop(HO I c mO1 1 0 ∗ HO I c mO1 1 1) := whole_split c _
theorem joinO1 : HO I c mO1 1 0 ⊢ iprop(HO I c mO1 1 1 -∗ Al c main_arg5 (I.wout 1 c)) := whole_join c _
theorem splitI2 : Al c main_arg3 (I.win 2 c) ⊢ iprop(HI I c mI2 2 0 ∗ HI I c mI2 2 1) := whole_split c _
theorem joinI2 : HI I c mI2 2 0 ⊢ iprop(HI I c mI2 2 1 -∗ Al c main_arg3 (I.win 2 c)) := whole_join c _
theorem splitO2 : Al c main_arg6 (I.wout 2 c) ⊢ iprop(HO I c mO2 2 0 ∗ HO I c mO2 2 1) := whole_split c _
theorem joinO2 : HO I c mO2 2 0 ⊢ iprop(HO I c mO2 2 1 -∗ Al c main_arg6 (I.wout 2 c)) := whole_join c _

/-! ## The buffers' parts at the end -/

/-- The inputs, with what was lent. -/
theorem x_join : At c cc0_stg0_0 Finset.univ sh0 (I.x c) ⊢ iprop(T3 (fun q => txPay I c q (.ag 0)) -∗ T3 (fun q => txPay I c q (.ag 1))
    -∗ T3 (fun q => txPay I c q (.ag 2)) -∗ T3 (fun q => txPay I c q (.ag 3)) -∗ Al c cc0_stg0_0 (I.x c)) := by
  iintro HX ⟨X00, X10, X20⟩ ⟨X01, X11, X21⟩ ⟨X02, X12, X22⟩ ⟨X03, X13, X23⟩
  iapply (share4_join c (b := cc0_stg0_0) Finset.univ (I.x c)) $$ HX [X00 X01 X02 X03] [X10 X11 X12 X13] [X20 X21 X22 X23]
  · iapply (Entails.of_eq (x_cols I c (sh 0)).symm)
    iapply pk4 $$ X00 X01 X02 X03
  · iapply (Entails.of_eq (x_cols I c (sh 1)).symm)
    iapply pk4 $$ X10 X11 X12 X13
  · iapply (Entails.of_eq (x_cols I c (sh 2)).symm)
    iapply pk4 $$ X20 X21 X22 X23

theorem tx_bb1 (q : Fin 3) : txPay I c q (.bb 1) ⊢ At c cc0_scratch0 (colS c) (sh q) (xs I 2) := Entails.refl _
/-- The working inputs, with what was lent. -/
theorem xf_join : At c cc0_scratch0 (colS c) sh0 (xs I 2) ⊢ iprop(T3 (fun q => txPay I c q (.bb 1)) -∗ At c cc0_scratch0 (colS (nb c 0)) fullShare (xs I 2)
    -∗ At c cc0_scratch0 (colS (nb c 1)) fullShare (xs I 2) -∗ At c cc0_scratch0 (colS (nb c 2)) fullShare (xs I 2) -∗ AtE c cc0_scratch0 Finset.univ) := by
  iintro H ⟨S0, S1, S2⟩ X0 X1 X2
  ihave S0 := (tx_bb1 I c 0) $$ S0
  ihave S1 := (tx_bb1 I c 1) $$ S1
  ihave S2 := (tx_bb1 I c 2) $$ S2
  ihave H := (share4_join c (b := cc0_scratch0) (colS c) (xs I 2)) $$ H S0 S1 S2
  iexists (xs I 2)
  iapply (Entails.of_eq ((At_all c cc0_scratch0 colOf fullShare (xs I 2)).trans (quad c _)).symm)
  iapply pk4 $$ H X0 X1 X2

/-- The shares' rows that went to another device. -/
theorem rows_join (q : Fin 3) : txPay I c q (.row 0) ⊢ iprop(txPay I c q (.row 1) -∗ txPay I c q (.row 2) -∗ txPay I c q (.row 3)
    -∗ At c cc0_scratch2 (rowS (nb c q)) fullShare (pt I 2 c)) := by
  iintro H0 H1 H2 H3
  iapply (Entails.of_eq ((At_fst c cc0_scratch2 rowOf colOf (nb c q) fullShare (pt I 2 c)).trans (quad0 _)).symm)
  iapply pk4 $$ H0 H1 H2 H3
/-- The shares, with what was lent. -/
theorem part_join : At c cc0_scratch2 (rowS c) fullShare (pt I 2 c) ⊢ iprop(T3 (fun q => txPay I c q (.row 0)) -∗ T3 (fun q => txPay I c q (.row 1))
    -∗ T3 (fun q => txPay I c q (.row 2)) -∗ T3 (fun q => txPay I c q (.row 3)) -∗ AtE c cc0_scratch2 Finset.univ) := by
  iintro H ⟨X00, X10, X20⟩ ⟨X01, X11, X21⟩ ⟨X02, X12, X22⟩ ⟨X03, X13, X23⟩
  ihave H0 := (rows_join I c 0) $$ X00 X01 X02 X03
  ihave H1 := (rows_join I c 1) $$ X10 X11 X12 X13
  ihave H2 := (rows_join I c 2) $$ X20 X21 X22 X23
  iexists (pt I 2 c)
  iapply (Entails.of_eq ((At_all c cc0_scratch2 rowOf fullShare (pt I 2 c)).trans (quad c _)).symm)
  iapply pk4 $$ H H0 H1 H2

/-- Three slots holding one thing. -/
theorem slots_join {b : Ref sig .tc} (k : b.ty.Idx → Fin 3) (f : b.ty.Contents (Elt F)) :
    At c b (fib k 0) fullShare f ⊢ iprop(At c b (fib k 1) fullShare f -∗ At c b (fib k 2) fullShare f -∗ AtE c b Finset.univ) := by
  iintro H0 H1 H2
  iexists f
  iapply (Entails.of_eq ((At_all c b k fullShare f).trans (tri _)).symm)
  iapply pk3 $$ H0 H1 H2
/-- Two slots. -/
theorem stages_join {b : Ref sig .tc} (k : b.ty.Idx → Fin 2) (f f' : b.ty.Contents (Elt F)) :
    At c b (fib k 0) fullShare f ⊢ iprop(At c b (fib k 1) fullShare f' -∗ AtE c b Finset.univ) := by
  iintro H0 H1
  iapply (AtE_join c b k f)
  iapply (Entails.of_eq (duo fun a => AtE (F := F) c b (fib k a)).symm)
  isplitl [H0]
  · iexists f; iexact H0
  · iexists f'; iexact H1

theorem si_open (s : Fin 2) (f : FVec F S2x512x4096 .f32) : SI c s f ⊢ iprop(At c cc0_scratch5 (slotI s) fullShare f ∗ semVal ((c : Thread nD τ), .dma (semI s)) 0) := Entails.refl _
theorem so_open (s : Fin 2) (f : FVec F S2x4096x512 .f32) : SO c s f ⊢ iprop(At c cc0_scratch6 (slotO s) fullShare f ∗ semVal ((c : Thread nD τ), .dma (semO s)) 0) := Entails.refl _
/-- The slots at the start. -/
theorem si_close (s : Fin 2) : AtE (F := F) c cc0_scratch5 (slotI s) ⊢ iprop(semVal ((c : Thread nD τ), .dma (semI s)) 0 -∗ ∃ f, SI c s f) := by
  unfold SI
  iintro ⟨%f, H⟩ Hs
  iexists f
  isplitl [H]; · iexact H
  iexact Hs
theorem so_close (s : Fin 2) : AtE (F := F) c cc0_scratch6 (slotO s) ⊢ iprop(semVal ((c : Thread nD τ), .dma (semO s)) 0 -∗ ∃ f, SO c s f) := by
  unfold SO
  iintro ⟨%f, H⟩ Hs
  iexists f
  isplitl [H]; · iexact H
  iexact Hs

end Cert.KernelIdeal.Mlp

end
-- ==== Proof.Ideal.Ghost.lean ====
/-
  The set-up of the protocol: the cells, the tokens dealt to the devices that pay them, the credit of the launch.
-/
module

public import proofs.«01_k».proof.Proof.Ideal.Ends

@[expose] public section

noncomputable section

namespace Cert.KernelIdeal.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F)

/-! ## The cells and the tokens -/

theorem cell_injective : Function.Injective (fun cr : Dev nD × Role => cell cr.1 cr.2) := by
  rintro ⟨c, r⟩ ⟨c', r'⟩ h
  have h1 : c = c' := congrArg (fun g : GSem nD τ sig => g.1.1) h
  have h2 : r = r' := csem_injective (congrArg Prod.snd h)
  rw [h1, h2]

theorem cell_eq_iff {c c' : Dev nD} {r r' : Role} : cell c r = cell c' r' ↔ c = c' ∧ r = r' :=
  ⟨fun h => Prod.mk.inj (cell_injective (a₁ := (c, r)) (a₂ := (c', r')) h), fun ⟨h, h'⟩ => by rw [h, h']⟩

/-- Every device's cells. -/
def allCells : Finset (GSem nD τ sig) := Finset.univ.map ⟨_, cell_injective⟩

/-- The duties of a device's own cells: the barrier's three, and one per receive and send cell. -/
abbrev Duty : Type := Fin 3 ⊕ (Fin 3 × Chan ⊕ Fin 3 × Chan)
def dutyRole : Duty → Role × Fin 3
  | .inl d => (.bar, d)
  | .inr (.inl p) => (.rx p.1 p.2, 0)
  | .inr (.inr p) => (.tx p.1 p.2, 0)
theorem dutyRole_injective : Function.Injective dutyRole := by
  rintro (_ | ⟨_, _⟩ | ⟨_, _⟩) (_ | ⟨_, _⟩ | ⟨_, _⟩) h <;>
    simp only [dutyRole, Prod.mk.injEq, reduceCtorEq, Role.rx.injEq, Role.tx.injEq, false_and, true_and, and_true] at h <;>
    first | rw [h] | rw [h.1, h.2]

/-- The tokens minted at the launch. -/
def tokOf (cd : Dev nD × Duty) : GSem nD τ sig × ℕ × Fin 3 := (cell cd.1 (dutyRole cd.2).1, 0, (dutyRole cd.2).2)
theorem tokOf_injective : Function.Injective tokOf := by
  rintro ⟨c, d⟩ ⟨c', d'⟩ h
  obtain ⟨h1, h2⟩ := Prod.mk.inj h
  obtain ⟨e, h3⟩ := cell_eq_iff.mp h1
  have : d = d' := dutyRole_injective (Prod.ext h3 (Prod.mk.inj h2).2)
  exact Prod.ext e this
def allToks : Finset (GSem nD τ sig × ℕ × Fin 3) := Finset.univ.map ⟨_, tokOf_injective⟩

/-- The tokens of a device's own cells. -/
def toks (c : Dev nD) : sProp 𝕄 :=
  iprop((bigSep Finset.univ fun d : Fin 3 => dutyTok ER (cell c .bar) 0 d)
    ∗ (bigSep Finset.univ fun p : Fin 3 × Chan => dutyTok ER (cell c (.rx p.1 p.2)) 0 0)
    ∗ (bigSep Finset.univ fun p : Fin 3 × Chan => dutyTok ER (cell c (.tx p.1 p.2)) 0 0))

/-- The tokens of the duties a device pays. -/
def payToks (c : Dev nD) : sProp 𝕄 :=
  iprop((bigSep Finset.univ fun q : Fin 3 => dutyTok ER (cell (nb c q) .bar) 0 (rev q))
    ∗ (bigSep Finset.univ fun p : Fin 3 × Chan => dutyTok ER (cell (nb c p.1) (.rx (rev p.1) p.2)) 0 0)
    ∗ (bigSep Finset.univ fun p : Fin 3 × Chan => dutyTok ER (cell c (.tx p.1 p.2)) 0 0))

/-- A pair of devices, seen from the other end. -/
def turn : Dev nD × Fin 3 ≃ Dev nD × Fin 3 where
  toFun p := (nb p.1 p.2, rev p.2)
  invFun p := (nb p.1 p.2, rev p.2)
  left_inv := fun p => Prod.ext (nb_nb p.1 p.2) (rev_rev p.2)
  right_inv := fun p => Prod.ext (nb_nb p.1 p.2) (rev_rev p.2)
def turnX : Dev nD × (Fin 3 × Chan) ≃ Dev nD × (Fin 3 × Chan) where
  toFun p := (nb p.1 p.2.1, (rev p.2.1, p.2.2))
  invFun p := (nb p.1 p.2.1, (rev p.2.1, p.2.2))
  left_inv := fun p => Prod.ext (nb_nb p.1 p.2.1) (Prod.ext (rev_rev p.2.1) rfl)
  right_inv := fun p => Prod.ext (nb_nb p.1 p.2.1) (Prod.ext (rev_rev p.2.1) rfl)

theorem turned (Φ : Dev nD → Fin 3 → Asn F) :
    (bigSep Finset.univ fun c : Dev nD => bigSep Finset.univ fun q : Fin 3 => Φ c q)
      = bigSep Finset.univ fun c : Dev nD => bigSep Finset.univ fun q : Fin 3 => Φ (nb c q) (rev q) := by
  rw [← bigSep_univ_prod (fun p : Dev nD × Fin 3 => Φ p.1 p.2), bigSep_univ_equiv turn,
    ← bigSep_univ_prod (fun p : Dev nD × Fin 3 => Φ (nb p.1 p.2) (rev p.2))]
  rfl
theorem turnedX (Φ : Dev nD → Fin 3 → Chan → Asn F) :
    (bigSep Finset.univ fun c : Dev nD => bigSep Finset.univ fun p : Fin 3 × Chan => Φ c p.1 p.2)
      = bigSep Finset.univ fun c : Dev nD => bigSep Finset.univ fun p : Fin 3 × Chan => Φ (nb c p.1) (rev p.1) p.2 := by
  rw [← bigSep_univ_prod (fun p : Dev nD × (Fin 3 × Chan) => Φ p.1 p.2.1 p.2.2), bigSep_univ_equiv turnX,
    ← bigSep_univ_prod (fun p : Dev nD × (Fin 3 × Chan) => Φ (nb p.1 p.2.1) (rev p.2.1) p.2.2)]
  rfl

/-- The tokens of the cells, dealt to the devices that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', turned fun c d => dutyTok ER (cell c .bar) 0 d,
    turnedX fun c j x => dutyTok ER (cell c (.rx j x)) 0 0]

/-- A device's roles, one by one. -/
theorem roles (Φ : Role → Asn F) :
    bigSep Finset.univ Φ = iprop(Φ .bar ∗ (bigSep Finset.univ fun p : Fin 3 × Chan => Φ (.rx p.1 p.2)) ∗ (bigSep Finset.univ fun p : Fin 3 × Chan => Φ (.tx p.1 p.2))) := by
  rw [bigSep_univ_equiv roleEquiv, bigSep_univ_sum, bigSep_univ_sum, bigSep_univ_eq_bigSepL [()] (by decide) (by decide), bigSepL_singleton]
  rfl

/-! ## The semaphores -/

/-- The kernel's own semaphores: the receive and send semaphores, and those of the weights' copies. -/
def osem : (Fin 3 × Chan) ⊕ ((Fin 3 × Chan) ⊕ (Fin 2 ⊕ Fin 2)) → SemLoc sig
  | .inl p => csem (.rx p.1 p.2)
  | .inr (.inl p) => csem (.tx p.1 p.2)
  | .inr (.inr (.inl s)) => .dma (semI s)
  | .inr (.inr (.inr s)) => .dma (semO s)

theorem two (Φ : Fin 2 → Asn F) : bigSep Finset.univ Φ = iprop(Φ 0 ∗ Φ 1) :=
  bigSep_univ_eq_bigSepL [0, 1] (by decide) (by decide) Φ

theorem ownSems0_eq (c : Dev nD) : (Pipeline.ownSems0 (Ix := Unit) (Name := ℕ) (U := UU) (Lvl := ℕ) (Val := Elt F) (τ := τ) osem c : sProp 𝕄)
    = iprop((bigSep Finset.univ fun p : Fin 3 × Chan => Z c (.rx p.1 p.2)) ∗ (bigSep Finset.univ fun p : Fin 3 × Chan => Z c (.tx p.1 p.2))
      ∗ (semVal ((c : Thread nD τ), .dma (semI 0)) 0 ∗ semVal ((c : Thread nD τ), .dma (semI 1)) 0)
      ∗ (semVal ((c : Thread nD τ), .dma (semO 0)) 0 ∗ semVal ((c : Thread nD τ), .dma (semO 1)) 0)) := by
  unfold Pipeline.ownSems0
  rw [bigSep_univ_sum, bigSep_univ_sum, bigSep_univ_sum, two, two]
  rfl

theorem unscopedSems0_eq (c : Dev nD) : (unscopedSems0 c : sProp 𝕄) = Z c .bar := by
  unfold unscopedSems0; rw [bigSep_eq_bigSepL_of_eq [SemLoc.reg barS] (by decide) (by decide)]; rfl

/-! ## The launch's ghost state -/

/-- What the launch element deals a device. -/
def G (c : Dev nD) : sProp 𝕄 :=
  iprop((bigSep Finset.univ fun r : Role => roundState ER (Rd I) (cell c r) 0)
    ∗ (bigSep Finset.univ fun r : Role => atPos ER (cell c r) 0 ∅ 0) ∗ (bigSep Finset.univ fun r : Role => reached ER (cell c r) 0) ∗ toks c)

/-- What stays with a device: its positions, the tokens it pays with, the semaphores of its copies. -/
def linear (c : Dev nD) : sProp 𝕄 :=
  iprop((bigSep Finset.univ fun r : Role => atPos ER (cell c r) 0 ∅ 0) ∗ payToks c ∗ Sms c)

/-- What the launch's update makes of it. -/
def G' (c : Dev nD) : sProp 𝕄 := iprop((∃ K, records I K) ∗ linear c)

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun r : Role => Φ (cell c r) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (Rd I) allCells allToks) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun r : Role => iprop(∃ κ : ℕ, cellInv ER (Rd I) κ (cell c r)))
          ∗ (bigSep Finset.univ fun r : Role => reached ER (cell c r) 0)
          ∗ (bigSep Finset.univ fun r : Role => atPos ER (cell c r) 0 ∅ 0) ∗ toks c ∗ Sms c) := by
  unfold G Sms
  rw [ownSems0_eq, unscopedSems0_eq]
  iintro ⟨⟨Hrx, Htx, ⟨HI0, HI1⟩, HO0, HO1⟩, Hb, Hst, Hat, Hr, Htok⟩
  ihave Hv := (Entails.of_eq (roles fun r => (Z c r : Asn F)).symm) $$ [Hrx Htx Hb]
  · isplitl [Hb]; · iexact Hb
    isplitl [Hrx]; · iexact Hrx
    iexact Htx
  imod (show iprop((bigSep Finset.univ fun r : Role => Z c r) ∗ bigSep Finset.univ fun r : Role => roundState ER (Rd I) (cell c r) 0)
      ⊢ (|={Set.univ}=> bigSep Finset.univ fun r : Role => iprop(∃ κ : ℕ, cellInv ER (Rd I) κ (cell c r)) : sProp 𝕄) from by
        rw [← bigSep_sep']
        exact (bigSep_mono fun r _ => (Rounds.body_intro ER (Rd I) (cell c r)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  isplitl [HI0]; · iexact HI0
  isplitl [HI1]; · iexact HI1
  isplitl [HO0]; · iexact HO0
  iexact HO1

theorem G'_intro (K : Dev nD × Role → ℕ) (c : Dev nD) : iprop(records I K ∗ linear c) ⊢ G' I c := by
  unfold G'
  iintro ⟨H, Hl⟩
  isplitl [H]; · iexists K; iexact H
  iexact Hl

theorem regroup :
    (bigSep Finset.univ fun c : Dev nD => iprop((bigSep Finset.univ fun r : Role => iprop(∃ κ : ℕ, cellInv ER (Rd I) κ (cell c r)))
          ∗ (bigSep Finset.univ fun r : Role => reached ER (cell c r) 0)
          ∗ (bigSep Finset.univ fun r : Role => atPos ER (cell c r) 0 ∅ 0) ∗ toks c ∗ Sms c) : sProp 𝕄)
      ⊢ bigSep Finset.univ (G' I) := by
  rw [bigSep_sep', bigSep_sep', bigSep_sep', bigSep_sep', ← bigSep_univ_prod (fun cr : Dev nD × Role => iprop(∃ κ : ℕ, cellInv ER (Rd I) κ (cell cr.1 cr.2))),
    ← bigSep_univ_prod (fun cr : Dev nD × Role => (reached ER (cell cr.1 cr.2) 0 : sProp 𝕄))]
  iintro ⟨HI, #HR, Hat, Htok, Hs⟩
  ihave HK := (BI.bigSep_exists_pi Finset.univ (fun (cr : Dev nD × Role) (κ : ℕ) => (cellInv ER (Rd I) κ (cell cr.1 cr.2) : sProp 𝕄))) $$ HI
  icases HK with ⟨%K, #HI⟩
  ihave Htk := (toks_around (F := F)) $$ Htok
  iapply (BI.bigSep_with_persistent (R := records I K) fun c _ => G'_intro I K c)
  isplitr
  · unfold records; isplitl; · iexact HI
    iexact HR
  · unfold linear; simp only [bigSep_sep']
    isplitl [Hat]; · iexact Hat
    isplitl [Htk]; · iexact Htk
    iexact Hs

/-- Every device's cells opened at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

/-- How many payments a role's cell takes from all the devices together. -/
def cnt : Role → ℕ
  | .bar => 3
  | .rx _ _ => 1
  | .tx _ _ => 0

theorem payL_count : ∀ r : Role, payL.countP (fun p => decide (payRole p = r)) = cnt r := by
  intro r
  cases r with
  | bar => decide
  | rx j x => revert j x; decide
  | tx q x => revert q x; decide

/-- Together the devices owe a cell, over a list of payments, its amount once per payment to its role. -/
theorem owed_all (l : List Pay) (c : Dev nD) (r : Role) :
    ∑ d : Dev nD, Ol d l (cell c r) () = l.countP (fun p => decide (payRole p = r)) * amtR r := by
  induction l with
  | nil => simp [Ol]
  | cons p l ih =>
    have h1 (d : Dev nD) : Ol d (p :: l) (cell c r) () = Ol d l (cell c r) () + (if d = nb c (rev p.1) then (if payRole p = r then amtR r else 0) else 0) := by
      show (Ol d l + tallyAt (payCell d p) () (amtR (payRole p))) (cell c r) () = _
      rw [Pi.add_apply, Finsupp.add_apply, tallyAt_apply]
      congr 1
      unfold payCell
      by_cases hd : d = nb c (rev p.1)
      · rw [if_pos hd]
        by_cases hr : payRole p = r
        · rw [if_pos hr, if_pos ⟨cell_eq_iff.mpr ⟨by rw [hd, nb_rev], hr.symm⟩, rfl⟩, hr]
        · rw [if_neg hr, if_neg (fun h => hr (cell_eq_iff.mp h.1).2.symm)]
      · rw [if_neg hd, if_neg (fun h => hd (by rw [(cell_eq_iff.mp h.1).1, nb_nb]))]
    rw [Finset.sum_congr rfl fun d _ => h1 d, Finset.sum_add_distrib, ih, Finset.sum_ite_eq' Finset.univ (nb c (rev p.1)) fun _ => _, if_pos (Finset.mem_univ _),
      List.countP_cons]
    by_cases hr : payRole p = r
    · simp [hr, Nat.add_mul]
    · simp [hr]

/-- What the devices owe at the launch. -/
abbrev O₀ (c : Dev nD) : CellTallies nD τ sig Unit := Od c 0

theorem launch_cell (c : Dev nD) (r : Role) :
    tallyOn (cell c r) (launchCredit (Pipeline.owing O₀) 0 (cell c r)) = (tallyAt (cell c r) () (cnt r * amtR r) : CellTallies nD τ sig Unit) := by
  unfold tallyAt; refine congrArg _ (Finsupp.ext fun u => ?_); cases u
  rw [Pipeline.launchCredit_owing, Finsupp.single_eq_same, ← payL_count]
  exact owed_all payL c r

theorem creds (c : Dev nD) :
    (Pipeline.launchCred O₀ c : sProp 𝕄) ⊢ bigSep Finset.univ fun r : Role => cred (tallyAt (cell c r) () (cnt r * amtR r)) := by
  unfold Pipeline.launchCred
  refine (bigSep_subset (t := Finset.univ.map ⟨csem, csem_injective⟩) (Finset.subset_univ _)).trans ?_
  rw [bigSep_map]
  exact Entails.of_eq (bigSep_congr fun r _ => by rw [← launch_cell]; rfl)

/-! ## What the body starts with -/

/-- What a device's kernel starts with, its scratch buffers apart. -/
def start (c : Dev nD) : sProp 𝕄 :=
  iprop((∃ K, Ctx I K) ∗ Bx c ∗ (bigSep Finset.univ fun p : Fin 3 × Chan => Tx c p.1 p.2) ∗ (bigSep Finset.univ fun p : Fin 3 × Chan => Rx c p.1 p.2)
    ∗ Sms c ∗ Wts I c)

theorem start_intro (c : Dev nD) : iprop(Wts I c ∗ levAts L lv ∗ Pipeline.launchCred O₀ c ∗ G' I c) ⊢ start I c := by
  unfold G' linear start Ctx payToks
  iintro ⟨HW, Hlev, Hcr, ⟨%K, HK⟩, Hat, ⟨Tb, Trx, Ttx⟩, Hs⟩
  ihave Hcr := (creds (F := F) c) $$ Hcr
  ihave Hcr := (Entails.of_eq (roles fun r => (cred (tallyAt (cell c r) () (cnt r * amtR r)) : Asn F))) $$ Hcr
  icases Hcr with ⟨Cb, Crx, -⟩
  ihave Hat := (Entails.of_eq (roles fun r => (atPos ER (cell c r) 0 ∅ 0 : Asn F))) $$ Hat
  icases Hat with ⟨Ab, Arx, Atx⟩
  isplitl [HK Hlev]
  · iexists K; isplitl [HK]; · iexact HK
    iexact Hlev
  isplitl [Tb Cb Ab]
  · unfold Bx
    isplitl [Tb]; · iexact Tb
    isplitl [Cb]; · iexact Cb
    iexact Ab
  isplitl [Trx Ttx Atx]
  · unfold Tx; simp only [bigSep_sep']
    isplitl [Ttx]; · iexact Ttx
    isplitl [Trx]; · iexact Trx
    iexact Atx
  isplitl [Crx Arx]
  · unfold Rx; simp only [bigSep_sep']
    isplitl [Crx]
    · iapply (show (bigSep Finset.univ fun p : Fin 3 × Chan => cred (tallyAt (cell c (.rx p.1 p.2)) () (cnt (.rx p.1 p.2) * amtR (.rx p.1 p.2))))
        ⊢ (bigSep Finset.univ fun p : Fin 3 × Chan => cred (tallyAt (cell c (.rx p.1 p.2)) () (amt p.2)) : Asn F) from
          Entails.of_eq (bigSep_congr fun p _ => by rw [show cnt (.rx p.1 p.2) * amtR (.rx p.1 p.2) = amt p.2 from Nat.one_mul _])) $$ Crx
    iexact Arx
  isplitl [Hs]; · iexact Hs
  iexact HW

end Cert.KernelIdeal.Mlp

end
-- ==== Proof.Ideal.Parts.lean ====
/-
  The kernel's parts, one after the other, from the first hidden layer's sums to the results.
-/
module

public import proofs.«01_k».proof.Proof.Ideal.Tickets

@[expose] public section

noncomputable section

namespace Cert.KernelIdeal.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Inp F) (K : Dev nD × Role → ℕ) (c : Dev nD)

/-- The first weight group is asked for. -/
theorem p1 {f : FVec F S2x512x4096 .f32} {Φ : _ → Asn F} :
    SI c 0 f ⊢ iprop(HI I c mI0 0 0
  -∗ (FI I c mI0 0 0 0 -∗ ∀ a b d, Φ ⟨c, a, b, d⟩)
  -∗ WP c (On (k0_part1 (F := F))) Φ) := by
  simp only [k0_part1_eq_skeleton]; unfold k0_part1_skel
  simp only [semSignalWord, semWaitWord, Prog.lift, Prog.bind_op, Prog.bind_ret, Prog.pure_eq_ret, wp_deviceId]
  iintro Hs Hw Hk
  iapply (goI I c 0 0 0 rfl rfl rfl) $$ Hs Hw
  iintro Hs
  iapply ret
  iapply Hk $$ Hs

/-- Three more are asked for, and the first device told. -/
theorem p2 {f : FVec F S2x512x4096 .f32} {f0 f1 : FVec F S2x4096x512 .f32} {w0 : _} {w1 : _} {w2 : _} {Φ : _ → Asn F} :
    Ctx I K ⊢ iprop(SI c 1 f
  -∗ HI I c mI0 0 1
  -∗ SO c 0 f0
  -∗ HO I c mO0 0 0
  -∗ SO c 1 f1
  -∗ HO I c mO0 0 1
  -∗ Ow c 0
  -∗ dutyTok ER (cell (nb c 0) .bar) 0 (rev 0)
  -∗ AtE c cc0_scratch0 (rowS (nb c 0))
  -∗ AtE c cc0_scratch3 (slotC 0)
  -∗ AtE c cc0_scratch4 (slotR 0)
  -∗ (FI I c mI0 0 1 1 -∗ FO I c mO0 0 0 (nb c 0) -∗ FO I c mO0 0 1 (nb c 1) -∗ Ow c 1 -∗ ∀ a, Φ ⟨SemArray.scalar (sig.barrier 0 rfl), a, 4#32⟩)
  -∗ WP c (On (k0_part2 (F := F)) c w0 w1 w2) Φ) := by
  simp only [k0_part2_eq_skeleton]; unfold k0_part2_skel
  simp only [semSignalWord, semWaitWord, Prog.lift, Prog.bind_op, Prog.bind_ret, Prog.pure_eq_ret]
  iintro #HC Hs Hw Hs0 Hw0 Hs1 Hw1 HO Ht Hx Hc Hr Hk
  iapply (goI I c 1 0 1 rfl rfl rfl) $$ Hs Hw
  iintro Hs
  iapply (goO I c 0 0 (nb c 0) rfl (off1_1_eq c) rfl) $$ Hs0 Hw0
  iintro Hs0
  iapply (goO I c 1 0 (nb c 1) rfl (off1_2_eq c) rfl) $$ Hs1 Hw1
  iintro Hs1
  iapply (signal I K c 0 _ (dev1_eq c) 0 rfl rfl) $$ HC HO Ht Hx Hc Hr
  iintro HO
  iapply ret
  iapply Hk $$ Hs Hs0 Hs1 HO

/-- Reshaping to the same shape changes nothing. -/
theorem pay1_eq (x : FVec F S64x2048 .f32) : x = k0_pay1 x := by
  unfold k0_pay1
  simp only [shapeCast_self]

/-- The others are told; all have come this far; the device's own rows are laid out. -/
theorem p3 {w0 : _} {w1 : _} {Φ : _ → Asn F} :
    Ctx I K ⊢ iprop(Ow c 1
  -∗ dutyTok ER (cell (nb c 1) .bar) 0 (rev 1)
  -∗ AtE c cc0_scratch0 (rowS (nb c 1))
  -∗ AtE c cc0_scratch3 (slotC 1)
  -∗ AtE c cc0_scratch4 (slotR 1)
  -∗ dutyTok ER (cell (nb c 2) .bar) 0 (rev 2)
  -∗ AtE c cc0_scratch0 (rowS (nb c 2))
  -∗ AtE c cc0_scratch3 (slotC 2)
  -∗ AtE c cc0_scratch4 (slotR 2)
  -∗ cred (tallyAt (cell c .bar) () 3)
  -∗ atPos ER (cell c .bar) 0 ∅ 0
  -∗ Al c cc0_stg0_0 (I.x c)
  -∗ AtE c cc0_scratch0 (rowS c)
  -∗ (Ow c 3 -∗ Z c .bar -∗ barPay c 0 -∗ barPay c 1 -∗ barPay c 2 -∗ Al c cc0_stg0_0 (I.x c) -∗ At c cc0_scratch0 (rowS c) fullShare (xs I 0) -∗ Φ ⟨⟩)
  -∗ WP c (On (k0_part3 (F := F)) c w0 (SemArray.scalar (sig.barrier 0 rfl)) w1 4#32) Φ) := by
  simp only [k0_part3_eq_skeleton]; unfold k0_part3_skel
  simp only [semSignalWord, semWaitWord, Prog.lift, Prog.bind_op, Prog.bind_ret, Prog.pure_eq_ret]
  iintro #HC HO Ht1 Hx1 Hc1 Hr1 Ht2 Hx2 Hc2 Hr2 Hcr Hat Hx Ho Hk
  iapply (signal I K c 1 _ (dev2_eq c) 1 rfl rfl) $$ HC HO Ht1 Hx1 Hc1 Hr1
  iintro HO
  iapply (signal I K c 2 _ (dev3_eq c) 2 rfl rfl) $$ HC HO Ht2 Hx2 Hc2 Hr2
  iintro HO
  iapply (barw I K c rfl) $$ HC HO Hcr Hat
  iintro HO HZ H0 H1 H2
  iapply (ld_x c) $$ Hx
  iintro Hx
  icases Ho with ⟨%f, Ho⟩
  iapply (ldE_xfRow c c (off2_eq c)) $$ Ho
  iintro Ho %_
  iapply (st_xfRow c c (off2_eq c) (T := xs I 0) ((rowBlk_x0 I c).trans (pay1_eq (I.x c)))) $$ Ho
  iintro Ho
  iapply ret
  iapply Hk $$ HO HZ H0 H1 H2 Hx Ho

/-! The inputs' groups are sent. -/

theorem p4 {w0 : _} {Φ : _ → Asn F} :
    Ctx I K ⊢ iprop(Ow c 3
  -∗ TAg I c 0 0
  -∗ (Ow c 4 -∗ Fl c 0 (.ag 0) -∗ ∀ a, Φ a)
  -∗ WP c (On (k0_part4 (F := F)) c w0) Φ) := by
  simp only [k0_part4_eq_skeleton]; unfold k0_part4_skel
  simp only [semSignalWord, semWaitWord, Prog.lift, Prog.bind_op, Prog.bind_ret, Prog.pure_eq_ret]
  iintro #HC HO HT0 Hk
  iapply (sag I K c 0 0 _ (dev4_eq c) 3 rfl rfl rfl rfl (off3_eq c)) $$ HC HO HT0
  iintro HO HF0
  iapply ret
  iapply Hk $$ HO HF0

theorem p5 {w0 : _} {w1 : _} {Φ : _ → Asn F} :
    Ctx I K ⊢ iprop(Ow c 4
  -∗ TAg I c 1 0
  -∗ TAg I c 2 0
  -∗ (Ow c 6 -∗ Fl c 1 (.ag 0) -∗ Fl c 2 (.ag 0) -∗ ∀ a b d, Φ ⟨a, b, d⟩)
  -∗ WP c (On (k0_part5 (F := F)) c w0 w1) Φ) := by
  simp only [k0_part5_eq_skeleton]; unfold k0_part5_skel
  simp only [semSignalWord, semWaitWord, Prog.lift, Prog.bind_op, Prog.bind_ret, Prog.pure_eq_ret]
  iintro #HC HO HT1 HT2 Hk
  iapply (sag I K c 1 0 _ (dev5_eq c) 4 rfl rfl rfl rfl (off3_eq c)) $$ HC HO HT1
  iintro HO HF1
  iapply (sag I K c 2 0 _ (dev6_eq c) 5 rfl rfl rfl rfl (off3_eq c)) $$ HC HO HT2
  iintro HO HF2
  iapply ret
  iapply Hk $$ HO HF1 HF2

theorem p6 {w0 : _} {w1 : _} {w2 : _} {w3 : _} {Φ : _ → Asn F} :
    Ctx I K ⊢ iprop(Ow c 6
  -∗ TAg I c 0 1
  -∗ (Ow c 7 -∗ Fl c 0 (.ag 1) -∗ Φ ⟨⟩)
  -∗ WP c (On (k0_part6 (F := F)) c w0 w1 w2 w3) Φ) := by
  simp only [k0_part6_eq_skeleton]; unfold k0_part6_skel
  simp only [semSignalWord, semWaitWord, Prog.lift, Prog.bind_op, Prog.bind_ret, Prog.pure_eq_ret]
  iintro #HC HO HT0 Hk
  iapply (sag I K c 0 1 _ (dev7_eq c) 6 rfl rfl rfl rfl (off4_eq c)) $$ HC HO HT0
  iintro HO HF0
  iapply ret
  iapply Hk $$ HO HF0

theorem p7 {w0 : _} {Φ : _ → Asn F} :
    Ctx I K ⊢ iprop(Ow c 7
  -∗ TAg I c 1 1
  -∗ TAg I c 2 1
  -∗ (Ow c 9 -∗ Fl c 1 (.ag 1) -∗ Fl c 2 (.ag 1) -∗ ∀ a, Φ a)
  -∗ WP c (On (k0_part7 (F := F)) c w0) Φ) := by
  simp only [k0_part7_eq_skeleton]; unfold k0_part7_skel
  simp only [semSignalWord, semWaitWord, Prog.lift, Prog.bind_op, Prog.bind_ret, Prog.pure_eq_ret]
  iintro #HC HO HT1 HT2 Hk
  iapply (sag I K c 1 1 _ (dev8_eq c) 7 rfl rfl rfl rfl (off4_eq c)) $$ HC HO HT1
  iintro HO HF1
  iapply (sag I K c 2 1 _ (dev9_eq c) 8 rfl rfl rfl rfl (off4_eq c)) $$ HC HO HT2
  iintro HO HF2
  iapply ret
  iapply Hk $$ HO HF1 HF2

theorem p8 {w0 : _} {w1 : _} {Φ : _ → Asn F} :
    Ctx I K ⊢ iprop(Ow c 9
  -∗ TAg I c 0 2
  -∗ TAg I c 1 2
  -∗ (Ow c 11 -∗ Fl c 0 (.ag 2) -∗ Fl c 1 (.ag 2) -∗ ∀ a b d, Φ ⟨a, b, d⟩)
  -∗ WP c (On (k0_part8 (F := F)) c w0 w1) Φ) := by
  simp only [k0_part8_eq_skeleton]; unfold k0_part8_skel
  simp only [semSignalWord, semWaitWord, Prog.lift, Prog.bind_op, Prog.bind_ret, Prog.pure_eq_ret]
  iintro #HC HO HT0 HT1 Hk
  iapply (sag I K c 0 2 _ (dev10_eq c) 9 rfl rfl rfl rfl (off5_eq c)) $$ HC HO HT0
  iintro HO HF0
  iapply (sag I K c 1 2 _ (dev11_eq c) 10 rfl rfl rfl rfl (off5_eq c)) $$ HC HO HT1
  iintro HO HF1
  iapply ret
  iapply Hk $$ HO HF0 HF1

theorem p9 {w0 : _} {w1 : _} {w2 : _} {w3 : _} {Φ : _ → Asn F} :
    Ctx I K ⊢ iprop(Ow c 11
  -∗ TAg I c 2 2
  -∗ (Ow c 12 -∗ Fl c 2 (.ag 2) -∗ Φ ⟨⟩)
  -∗ WP c (On (k0_part9 (F := F)) c w0 w1 w2 w3) Φ) := by
  simp only [k0_part9_eq_skeleton]; unfold k0_part9_skel
  simp only [semSignalWord, semWaitWord, Prog.lift, Prog.bind_op, Prog.bind_ret, Prog.pure_eq_ret]
  iintro #HC HO HT2 Hk
  iapply (sag I K c 2 2 _ (dev12_eq c) 11 rfl rfl rfl rfl (off5_eq c)) $$ HC HO HT2
  iintro HO HF2
  iapply ret
  iapply Hk $$ HO HF2

theorem p10 {w0 : _} {Φ : _ → Asn F} :
    Ctx I K ⊢ iprop(Ow c 12
  -∗ TAg I c 0 3
  -∗ TAg I c 1 3
  -∗ (Ow c 14 -∗ Fl c 0 (.ag 3) -∗ Fl c 1 (.ag 3) -∗ ∀ a b d e f, Φ ⟨a, b, d, e, f⟩)
  -∗ WP c (On (k0_part10 (F := F)) c w0) Φ) := by
  simp only [k0_part10_eq_skeleton]; unfold k0_part10_skel
  simp only [semSignalWord, semWaitWord, Prog.lift, Prog.bind_op, Prog.bind_ret, Prog.pure_eq_ret]
  iintro #HC HO HT0 HT1 Hk
  iapply (sag I K c 0 3 _ (dev13_eq c) 12 rfl rfl rfl rfl (off6_eq c)) $$ HC HO HT0
  iintro HO HF0
  iapply (sag I K c 1 3 _ (dev14_eq c) 13 rfl rfl rfl rfl (off6_eq c)) $$ HC HO HT1
  iintro HO HF1
  iapply ret
  iapply Hk $$ HO HF0 HF1

theorem p11 {w0 : _} {w1 : _} {w2 : _} {w3 : _} {w4 : _} {w5 : _} {Φ : _ → Asn F} :
    Ctx I K ⊢ iprop(Ow c 14
  -∗ TAg I c 2 3
  -∗ (Ow c 15 -∗ Fl c 2 (.ag 3) -∗ ∀ a b, Φ ⟨a, b⟩)
  -∗ WP c (On (k0_part11 (F := F)) c w0 w1 w2 w3 w4 w5) Φ) := by
  simp only [k0_part11_eq_skeleton]; unfold k0_part11_skel
  simp only [semSignalWord, semWaitWord, Prog.lift, Prog.bind_op, Prog.bind_ret, Prog.pure_eq_ret]
  iintro #HC HO HT2 Hk
  iapply (sag I K c 2 3 _ (dev15_eq c) 14 rfl rfl rfl rfl (off6_eq c)) $$ HC HO HT2
  iintro HO HF2
  iapply ret
  iapply Hk $$ HO HF2

theorem p12 {w0 : _} {Φ : _ → Asn F} :
    iprop(∀ a b d e f g h, Φ ⟨a, b, d, e, f, g, h⟩) ⊢ WP c (On (k0_part12 (F := F)) w0) Φ := by
  simp only [k0_part12_eq_skeleton]; unfold k0_part12_skel
  iintro Hk
  iapply ret
  iapply Hk

/-! The others' groups arrive, and the first hidden layer is formed of them. -/

theorem p13 {w0 : _} {w1 : _} {w2 : _} {w3 : _} {w4 : _} {Φ : _ → Asn F} :
    Ctx I K ⊢ iprop(Ow c 15
  -∗ Rx c 0 (.ag 0)
  -∗ (Ow c 15 -∗ Z c (.rx 0 (.ag 0)) -∗ rxPay I c 0 (.ag 0) -∗ ∀ a b d e, Φ ⟨a, b, d, e⟩)
  -∗ WP c (On (k0_part13 (F := F)) c w0 w1 w2 w3 w4) Φ) := by
  simp only [k0_part13_eq_skeleton]; unfold k0_part13_skel
  simp only [semSignalWord, semWaitWord, Prog.lift, Prog.bind_op, Prog.bind_ret, Prog.pure_eq_ret]
  iintro #HC HO HR0 Hk
  iapply (rcv_ag I K c 0 0 15 (by decide) rfl) $$ HC HO HR0
  iintro HO HZ0 HP0
  iapply ret
  iapply Hk $$ HO HZ0 HP0

theorem p14 {w0 : _} {w1 : _} {w2 : _} {w3 : _} {Φ : _ → Asn F} :
    Ctx I K ⊢ iprop(Ow c 15
  -∗ Rx c 1 (.ag 0)
  -∗ Rx c 2 (.ag 0)
  -∗ (Ow c 15 -∗ Z c (.rx 1 (.ag 0)) -∗ rxPay I c 1 (.ag 0) -∗ Z c (.rx 2 (.ag 0)) -∗ rxPay I c 2 (.ag 0) -∗ Φ ⟨⟩)
  -∗ WP c (On (k0_part14 (F := F)) c w0 w1 w2 w3) Φ) := by
  simp only [k0_part14_eq_skeleton]; unfold k0_part14_skel
  simp only [semSignalWord, semWaitWord, Prog.lift, Prog.bind_op, Prog.bind_ret, Prog.pure_eq_ret]
  iintro #HC HO HR1 HR2 Hk
  iapply (rcv_ag I K c 1 0 15 (by decide) rfl) $$ HC HO HR1
  iintro HO HZ1 HP1
  iapply (rcv_ag I K c 2 0 15 (by decide) rfl) $$ HC HO HR2
  iintro HO HZ2 HP2
  iapply ret
  iapply Hk $$ HO HZ1 HP1 HZ2 HP2

theorem p15 {H : FVec F S256x4096 .f32} {w0 : _} {Φ : _ → Asn F} :
    Ctx I K ⊢ iprop(Ow c 15
  -∗ FI I c mI0 0 0 0
  -∗ At c cc0_scratch0 (colS 0) fullShare (xs I 0)
  -∗ Al c cc0_scratch1 H
  -∗ (Ow c 15 -∗ At c cc0_scratch0 (colS 0) fullShare (xs I 0) -∗ Al c cc0_scratch1 (hid I (xs I 0) 0 c 0) -∗ FI I c mI0 0 0 2 -∗ ∀ a b d, Φ ⟨a, b, d⟩)
  -∗ WP c (On (k0_part15 (F := F)) w0) Φ) := by
  simp only [k0_part15_eq_skeleton]; unfold k0_part15_skel
  simp only [semSignalWord, semWaitWord, Prog.lift, Prog.bind_op, Prog.bind_ret, Prog.pure_eq_ret]
  iintro #HC HO HF Hx HH Hk
  iapply (wI I K c 0 0 0 rfl) $$ HC HF HO
  iintro HO HS HW
  iapply (hid0 I c 0 0 0 rfl rfl (H' := hid I (xs I 0) 0 c 0) (hid_0 I c (xs I 0) 0)) $$ Hx HS HH
  iintro Hx HS HH
  iapply (goI I c 0 0 2 rfl rfl rfl) $$ HS HW
  iintro HF
  iapply ret
  iapply Hk $$ HO Hx HH HF

theorem p16 {w0 : _} {w1 : _} {w2 : _} {w3 : _} {Φ : _ → Asn F} :
    Ctx I K ⊢ iprop(Ow c 15
  -∗ Rx c 0 (.ag 1)
  -∗ Rx c 1 (.ag 1)
  -∗ (Ow c 15 -∗ Z c (.rx 0 (.ag 1)) -∗ rxPay I c 0 (.ag 1) -∗ Z c (.rx 1 (.ag 1)) -∗ rxPay I c 1 (.ag 1) -∗ ∀ a b d, Φ ⟨a, b, d⟩)
  -∗ WP c (On (k0_part16 (F := F)) c w0 w1 w2 w3) Φ) := by
  simp only [k0_part16_eq_skeleton]; unfold k0_part16_skel
  simp only [semSignalWord, semWaitWord, Prog.lift, Prog.bind_op, Prog.bind_ret, Prog.pure_eq_ret]
  iintro #HC HO HR0 HR1 Hk
  iapply (rcv_ag I K c 0 1 15 (by decide) rfl) $$ HC HO HR0
  iintro HO HZ0 HP0
  iapply (rcv_ag I K c 1 1 15 (by decide) rfl) $$ HC HO HR1
  iintro HO HZ1 HP1
  iapply ret
  iapply Hk $$ HO HZ0 HP0 HZ1 HP1

/-- A device's rows of a group and the others' make up the group. -/
theorem colS_asm (g : Fin 4) : At c cc0_scratch0 (blk c g) fullShare (xs I 0)
    ⊢ iprop(rxPay I c 0 (.ag g) -∗ rxPay I c 1 (.ag g) -∗ rxPay I c 2 (.ag g) -∗ At c cc0_scratch0 (colS g) fullShare (xs I 0)) := by
  rw [At_snd c cc0_scratch0 rowOf colOf g fullShare (xs I 0), quad c]
  iintro H H0 H1 H2
  isplitl [H]; · iexact H
  isplitl [H0]; · iapply (rx_ag I c 0 g) $$ H0
  isplitl [H1]; · iapply (rx_ag I c 1 g) $$ H1
  iapply (rx_ag I c 2 g) $$ H2

theorem p17 {w0 : _} {w1 : _} {w2 : _} {w3 : _} {Φ : _ → Asn F} :
    Ctx I K ⊢ iprop(Ow c 15
  -∗ Rx c 2 (.ag 1)
  -∗ At c cc0_scratch0 (blk c 1) fullShare (xs I 0)
  -∗ rxPay I c 0 (.ag 1)
  -∗ rxPay I c 1 (.ag 1)
  -∗ FI I c mI0 0 1 1
  -∗ Al c cc0_scratch1 (hid I (xs I 0) 0 c 0)
  -∗ (Ow c 15 -∗ Z c (.rx 2 (.ag 1)) -∗ At c cc0_scratch0 (colS 1) fullShare (xs I 0) -∗ SI c 1 (winStg I 0 c 1) -∗ HI I c mI0 0 1 -∗ Al c cc0_scratch1 (hid I (xs I 0) 0 c 0) -∗ Φ (k0_pay3 (colBlk (xs I 0) 1) (winBlk I 0 c 1) (hid I (xs I 0) 0 c 0)))
  -∗ WP c (On (k0_part17 (F := F)) c w0 w1 w2 w3) Φ) := by
  simp only [k0_part17_eq_skeleton]; unfold k0_part17_skel
  simp only [semSignalWord, semWaitWord, Prog.lift, Prog.bind_op, Prog.bind_ret, Prog.pure_eq_ret]
  iintro #HC HO HR2 Hb HP0 HP1 HF HH Hk
  iapply (rcv_ag I K c 2 1 15 (by decide) rfl) $$ HC HO HR2
  iintro HO HZ2 HP2
  ihave Hx := (colS_asm I c 1) $$ Hb HP0 HP1 HP2
  iapply (wI I K c 1 0 1 rfl) $$ HC HF HO
  iintro HO HS HW
  iapply (ld_xf c 1 rfl) $$ Hx
  iintro Hx
  unfold SI
  icases HS with ⟨HS, Hz⟩
  iapply (ld_sI I c 1 rfl) $$ HS
  iintro HS
  iapply (ld_h c) $$ HH
  iintro HH
  iapply ret
  iapply Hk $$ HO HZ2 Hx [HS Hz] HW HH
  isplitl [HS]; · iexact HS
  iexact Hz

theorem p18 {f : FVec F S2x512x4096 .f32} {H : FVec F S256x4096 .f32} {w0 : _} {Φ : _ → Asn F} :
    Ctx I K ⊢ iprop(Ow c 15
  -∗ SI c 1 f
  -∗ HI I c mI0 0 1
  -∗ Al c cc0_scratch1 H
  -∗ Rx c 0 (.ag 2)
  -∗ (Ow c 15 -∗ FI I c mI0 0 1 3 -∗ Al c cc0_scratch1 (hid I (xs I 0) 0 c 1) -∗ Z c (.rx 0 (.ag 2)) -∗ rxPay I c 0 (.ag 2) -∗ ∀ a b d e, Φ ⟨a, b, d, e⟩)
  -∗ WP c (On (k0_part18 (F := F)) c w0 (k0_pay3 (colBlk (xs I 0) 1) (winBlk I 0 c 1) (hid I (xs I 0) 0 c 0))) Φ) := by
  simp only [k0_part18_eq_skeleton]; unfold k0_part18_skel
  simp only [semSignalWord, semWaitWord, Prog.lift, Prog.bind_op, Prog.bind_ret, Prog.pure_eq_ret]
  iintro #HC HO HS HW HH HR0 Hk
  iapply (sth c (H' := hid I (xs I 0) 0 c 1) (hid_1 I c (xs I 0) 0)) $$ HH
  iintro HH
  iapply (goI I c 1 0 3 rfl rfl rfl) $$ HS HW
  iintro HF
  iapply (rcv_ag I K c 0 2 15 (by decide) rfl) $$ HC HO HR0
  iintro HO HZ0 HP0
  iapply ret
  iapply Hk $$ HO HF HH HZ0 HP0

theorem p19 {w0 : _} {w1 : _} {w2 : _} {w3 : _} {w4 : _} {Φ : _ → Asn F} :
    Ctx I K ⊢ iprop(Ow c 15
  -∗ Rx c 1 (.ag 2)
  -∗ (Ow c 15 -∗ Z c (.rx 1 (.ag 2)) -∗ rxPay I c 1 (.ag 2) -∗ Φ ⟨⟩)
  -∗ WP c (On (k0_part19 (F := F)) c w0 w1 w2 w3 w4) Φ) := by
  simp only [k0_part19_eq_skeleton]; unfold k0_part19_skel
  simp only [semSignalWord, semWaitWord, Prog.lift, Prog.bind_op, Prog.bind_ret, Prog.pure_eq_ret]
  iintro #HC HO HR1 Hk
  iapply (rcv_ag I K c 1 2 15 (by decide) rfl) $$ HC HO HR1
  iintro HO HZ1 HP1
  iapply ret
  iapply Hk $$ HO HZ1 HP1

theorem p20 {w0 : _} {Φ : _ → Asn F} :
    Ctx I K ⊢ iprop(Ow c 15
  -∗ Rx c 2 (.ag 2)
  -∗ At c cc0_scratch0 (blk c 2) fullShare (xs I 0)
  -∗ rxPay I c 0 (.ag 2)
  -∗ rxPay I c 1 (.ag 2)
  -∗ FI I c mI0 0 0 2
  -∗ Al c cc0_scratch1 (hid I (xs I 0) 0 c 1)
  -∗ (Ow c 15 -∗ Z c (.rx 2 (.ag 2)) -∗ At c cc0_scratch0 (colS 2) fullShare (xs I 0) -∗ SI c 0 (winStg I 0 c 2) -∗ HI I c mI0 0 0 -∗ Al c cc0_scratch1 (hid I (xs I 0) 0 c 2) -∗ Φ ⟨⟩)
  -∗ WP c (On (k0_part20 (F := F)) c w0) Φ) := by
  simp only [k0_part20_eq_skeleton]; unfold k0_part20_skel
  simp only [semSignalWord, semWaitWord, Prog.lift, Prog.bind_op, Prog.bind_ret, Prog.pure_eq_ret]
  iintro #HC HO HR2 Hb HP0 HP1 HF HH Hk
  iapply (rcv_ag I K c 2 2 15 (by decide) rfl) $$ HC HO HR2
  iintro HO HZ2 HP2
  ihave Hx := (colS_asm I c 2) $$ Hb HP0 HP1 HP2
  iapply (wI I K c 0 0 2 rfl) $$ HC HF HO
  iintro HO HS HW
  iapply (hid1 I c 0 2 0 rfl rfl (H' := hid I (xs I 0) 0 c 2) (hid_2 I c (xs I 0) 0)) $$ Hx HS HH
  iintro Hx HS HH
  iapply ret
  iapply Hk $$ HO HZ2 Hx HS HW HH

theorem p21 {w0 : _} {Φ : _ → Asn F} :
    Ctx I K ⊢ iprop(Ow c 15
  -∗ Rx c 0 (.ag 3)
  -∗ Rx c 1 (.ag 3)
  -∗ (Ow c 15 -∗ Z c (.rx 0 (.ag 3)) -∗ rxPay I c 0 (.ag 3) -∗ Z c (.rx 1 (.ag 3)) -∗ rxPay I c 1 (.ag 3) -∗ ∀ a b, Φ ⟨a, b⟩)
  -∗ WP c (On (k0_part21 (F := F)) c w0) Φ) := by
  simp only [k0_part21_eq_skeleton]; unfold k0_part21_skel
  simp only [semSignalWord, semWaitWord, Prog.lift, Prog.bind_op, Prog.bind_ret, Prog.pure_eq_ret]
  iintro #HC HO HR0 HR1 Hk
  iapply (rcv_ag I K c 0 3 15 (by decide) rfl) $$ HC HO HR0
  iintro HO HZ0 HP0
  iapply (rcv_ag I K c 1 3 15 (by decide) rfl) $$ HC HO HR1
  iintro HO HZ1 HP1
  iapply ret
  iapply Hk $$ HO HZ0 HP0 HZ1 HP1

theorem p22 {w0 : _} {w1 : _} {w2 : _} {Φ : _ → Asn F} :
    Ctx I K ⊢ iprop(Ow c 15
  -∗ Rx c 2 (.ag 3)
  -∗ At c cc0_scratch0 (blk c 3) fullShare (xs I 0)
  -∗ rxPay I c 0 (.ag 3)
  -∗ rxPay I c 1 (.ag 3)
  -∗ FI I c mI0 0 1 3
  -∗ Al c cc0_scratch1 (hid I (xs I 0) 0 c 2)
  -∗ (Ow c 15 -∗ Z c (.rx 2 (.ag 3)) -∗ At c cc0_scratch0 (colS 3) fullShare (xs I 0) -∗ SI c 1 (winStg I 0 c 3) -∗ HI I c mI0 0 1 -∗ Al c cc0_scratch1 (hid I (xs I 0) 0 c 3) -∗ Φ ⟨⟩)
  -∗ WP c (On (k0_part22 (F := F)) c w0 w1 w2) Φ) := by
  simp only [k0_part22_eq_skeleton]; unfold k0_part22_skel
  simp only [semSignalWord, semWaitWord, Prog.lift, Prog.bind_op, Prog.bind_ret, Prog.pure_eq_ret]
  iintro #HC HO HR2 Hb HP0 HP1 HF HH Hk
  iapply (rcv_ag I K c 2 3 15 (by decide) rfl) $$ HC HO HR2
  iintro HO HZ2 HP2
  ihave Hx := (colS_asm I c 3) $$ Hb HP0 HP1 HP2
  iapply (wI I K c 1 0 3 rfl) $$ HC HF HO
  iintro HO HS HW
  iapply (hid1 I c 0 3 1 rfl rfl (H' := hid I (xs I 0) 0 c 3) (hid_3 I c (xs I 0) 0)) $$ Hx HS HH
  iintro Hx HS HH
  iapply ret
  iapply Hk $$ HO HZ2 Hx HS HW HH

theorem p23 {f f2 : FVec F S2x512x4096 .f32} {w0 : _} {w1 : _} {Φ : _ → Asn F} :
    Ctx I K ⊢ iprop(Ow c 15
  -∗ Al c cc0_scratch1 (hid I (xs I 0) 0 c 3)
  -∗ SI c 0 f
  -∗ HI I c mI1 1 0
  -∗ SI c 1 f2
  -∗ HI I c mI1 1 1
  -∗ FO I c mO0 0 0 (nb c 0)
  -∗ (Ow c 15 -∗ Al c cc0_scratch1 (act I (xs I 0) 0 c) -∗ FI I c mI1 1 0 c -∗ FI I c mI1 1 1 (nb c 0) -∗ SO c 0 (woutStg I 0 c (nb c 0)) -∗ HO I c mO0 0 0 -∗ Φ ⟨(act I (xs I 0) 0 c), k0_pay8 (woutBlk I 0 c (nb c 0))⟩)
  -∗ WP c (On (k0_part23 (F := F)) c w0 w1) Φ) := by
  simp only [k0_part23_eq_skeleton]; unfold k0_part23_skel
  simp only [semSignalWord, semWaitWord, Prog.lift, Prog.bind_op, Prog.bind_ret, Prog.pure_eq_ret]
  iintro #HC HO HH HS0 HW0 HS1 HW1 HF Hk
  iapply (relu c (H' := act I (xs I 0) 0 c) rfl) $$ HH
  iintro HH
  iapply (goI I c 0 1 c rfl (off11_eq c) rfl) $$ HS0 HW0
  iintro HF0
  iapply (goI I c 1 1 (nb c 0) rfl (off12_1_eq c) rfl) $$ HS1 HW1
  iintro HF1
  iapply (wO I K c 0 0 (nb c 0) rfl) $$ HC HF HO
  iintro HO HS HW
  iapply (ld_h c) $$ HH
  iintro HH
  unfold SO
  icases HS with ⟨HS, Hz⟩
  iapply (ld_sO I c 0 rfl) $$ HS
  iintro HS
  iapply ret
  iapply Hk $$ HO HH HF0 HF1 [HS Hz] HW
  isplitl [HS]; · iexact HS
  iexact Hz

theorem p24 {f : FVec F S2x4096x512 .f32} {w0 : _} {w1 : _} {Φ : _ → Asn F} :
    Ctx I K ⊢ iprop(Ow c 15
  -∗ AtE c cc0_scratch2 (colS (nb c 0))
  -∗ SO c 0 f
  -∗ HO I c mO0 0 0
  -∗ Tx c 0 (.pp 0)
  -∗ AtE (nb c 0) cc0_scratch3 (slotC (rev 0))
  -∗ AtE c cc0_scratch0 (colS (nb c 0))
  -∗ FO I c mO0 0 1 (nb c 1)
  -∗ (Ow c 16 -∗ FO I c mO0 0 0 (nb c 2) -∗ Fl c 0 (.pp 0) -∗ SO c 1 (woutStg I 0 c (nb c 1)) -∗ HO I c mO0 0 1 -∗ Φ ⟨⟩)
  -∗ WP c (On (k0_part24 (F := F)) c w0 w1 (act I (xs I 0) 0 c) (k0_pay8 (woutBlk I 0 c (nb c 0)))) Φ) := by
  simp only [k0_part24_eq_skeleton]; unfold k0_part24_skel
  simp only [semSignalWord, semWaitWord, Prog.lift, Prog.bind_op, Prog.bind_ret, Prog.pure_eq_ret]
  iintro #HC HO HP HS HW HT HD HX HF1 Hk
  icases HP with ⟨%T, HP⟩
  iapply (ldE_pt c (nb c 0) (off13_1_eq c)) $$ HP
  iintro HP %_
  iapply (st_pt c (nb c 0) (off13_1_eq c) (T := pt I 0 c) ((colBlk_prtAll I _ _ _ _).trans rfl)) $$ HP
  iintro HP
  iapply (goO I c 0 0 (nb c 2) rfl (off1_3_eq c) rfl) $$ HS HW
  iintro HF
  iapply (spp0 I K c 0 _ (dev16_eq c) 15 rfl rfl rfl (off14_1_eq c) rfl) $$ HC HO HT HP HD HX
  iintro HO HL
  iapply (wO I K c 1 0 (nb c 1) rfl) $$ HC HF1 HO
  iintro HO HS HW
  iapply ret
  iapply Hk $$ HO HF HL HS HW

theorem p25 {w0 : _} {w1 : _} {Φ : _ → Asn F} :
    Ctx I K ⊢ iprop(Ow c 16
  -∗ Al c cc0_scratch1 (act I (xs I 0) 0 c)
  -∗ SO c 1 (woutStg I 0 c (nb c 1))
  -∗ AtE c cc0_scratch2 (colS (nb c 1))
  -∗ HO I c mO0 0 1
  -∗ Tx c 1 (.pp 0)
  -∗ AtE (nb c 1) cc0_scratch3 (slotC (rev 1))
  -∗ AtE c cc0_scratch0 (colS (nb c 1))
  -∗ (Ow c 17 -∗ Al c cc0_scratch1 (act I (xs I 0) 0 c) -∗ FO I c mO0 0 1 c -∗ Fl c 1 (.pp 0) -∗ Φ ⟨⟩)
  -∗ WP c (On (k0_part25 (F := F)) c w0 w1) Φ) := by
  simp only [k0_part25_eq_skeleton]; unfold k0_part25_skel
  simp only [semSignalWord, semWaitWord, Prog.lift, Prog.bind_op, Prog.bind_ret, Prog.pure_eq_ret]
  iintro #HC HO HH HS HP HW HT HD HX Hk
  iapply (out1 I c 0 (nb c 1) 1 (off13_2_eq c) rfl (T := pt I 0 c) (colBlk_prtAll I _ _ _ _)) $$ HH HS HP
  iintro HH HS HP
  iapply (goO I c 1 0 c rfl (off15_eq c) rfl) $$ HS HW
  iintro HF
  iapply (spp0 I K c 1 _ (dev17_eq c) 16 rfl rfl rfl (off14_2_eq c) rfl) $$ HC HO HT HP HD HX
  iintro HO HL
  iapply ret
  iapply Hk $$ HO HH HF HL

theorem p26 {w0 : _} {Φ : _ → Asn F} :
    Ctx I K ⊢ iprop(Ow c 17
  -∗ Al c cc0_scratch1 (act I (xs I 0) 0 c)
  -∗ FO I c mO0 0 0 (nb c 2)
  -∗ AtE c cc0_scratch2 (colS (nb c 2))
  -∗ Tx c 2 (.pp 0)
  -∗ AtE (nb c 2) cc0_scratch3 (slotC (rev 2))
  -∗ AtE c cc0_scratch0 (colS (nb c 2))
  -∗ FO I c mO0 0 1 c
  -∗ (Ow c 18 -∗ Al c cc0_scratch1 (act I (xs I 0) 0 c) -∗ SO c 0 (woutStg I 0 c (nb c 2)) -∗ HO I c mO0 0 0 -∗ Fl c 2 (.pp 0) -∗ SO c 1 (woutStg I 0 c c) -∗ HO I c mO0 0 1 -∗ Φ (act I (xs I 0) 0 c))
  -∗ WP c (On (k0_part26 (F := F)) c w0) Φ) := by
  simp only [k0_part26_eq_skeleton]; unfold k0_part26_skel
  simp only [semSignalWord, semWaitWord, Prog.lift, Prog.bind_op, Prog.bind_ret, Prog.pure_eq_ret]
  iintro #HC HO HH HF HP HT HD HX HF1 Hk
  iapply (wO I K c 0 0 (nb c 2) rfl) $$ HC HF HO
  iintro HO HS HW
  iapply (out1 I c 0 (nb c 2) 0 (off13_3_eq c) rfl (T := pt I 0 c) (colBlk_prtAll I _ _ _ _)) $$ HH HS HP
  iintro HH HS HP
  iapply (spp0 I K c 2 _ (dev18_eq c) 17 rfl rfl rfl (off14_3_eq c) rfl) $$ HC HO HT HP HD HX
  iintro HO HL
  iapply (wO I K c 1 0 c rfl) $$ HC HF1 HO
  iintro HO HS1 HW1
  iapply (ld_h c) $$ HH
  iintro HH
  iapply ret
  iapply Hk $$ HO HH HS HW HL HS1 HW1

theorem p27 {w0 : _} {Φ : _ → Asn F} :
    Ctx I K ⊢ iprop(Ow c 18
  -∗ SO c 1 (woutStg I 0 c c)
  -∗ AtE c cc0_scratch2 (colS c)
  -∗ Rx c 0 (.pp 0)
  -∗ Rx c 1 (.pp 0)
  -∗ (Ow c 18 -∗ SO c 1 (woutStg I 0 c c) -∗ At c cc0_scratch2 (colS c) fullShare (pt I 0 c) -∗ Z c (.rx 0 (.pp 0)) -∗ rxPay I c 0 (.pp 0) -∗ Z c (.rx 1 (.pp 0)) -∗ rxPay I c 1 (.pp 0) -∗ Φ ⟨⟩)
  -∗ WP c (On (k0_part27 (F := F)) c w0 (act I (xs I 0) 0 c)) Φ) := by
  simp only [k0_part27_eq_skeleton]; unfold k0_part27_skel
  simp only [semSignalWord, semWaitWord, Prog.lift, Prog.bind_op, Prog.bind_ret, Prog.pure_eq_ret]
  iintro #HC HO HS HP HR0 HR1 Hk
  unfold SO
  icases HS with ⟨HS, Hz⟩
  iapply (ld_sO I c 1 rfl) $$ HS
  iintro HS
  icases HP with ⟨%T, HP⟩
  iapply (ldE_pt c c (off16_eq c)) $$ HP
  iintro HP %_
  iapply (st_pt c c (off16_eq c) (T := pt I 0 c) ((colBlk_prtAll I _ _ _ _).trans rfl)) $$ HP
  iintro HP
  iapply (rcv_pp I K c 0 0 18 (by decide) rfl) $$ HC HO HR0
  iintro HO HZ0 HP0
  iapply (rcv_pp I K c 1 0 18 (by decide) rfl) $$ HC HO HR1
  iintro HO HZ1 HP1
  iapply ret
  iapply Hk $$ HO [HS Hz] HP HZ0 HP0 HZ1 HP1
  isplitl [HS]; · iexact HS
  iexact Hz

theorem p28 {w0 : _} {Φ : _ → Asn F} :
    Ctx I K ⊢ iprop(Ow c 18
  -∗ Rx c 2 (.pp 0)
  -∗ At c cc0_scratch2 (colS c) fullShare (pt I 0 c)
  -∗ At c cc0_scratch3 (slotC 0) fullShare (accC I (xs I 0) 0 c)
  -∗ At c cc0_scratch3 (slotC 1) fullShare (accC I (xs I 0) 0 c)
  -∗ AtE c cc0_scratch0 (colS c)
  -∗ (Ow c 18 -∗ Z c (.rx 2 (.pp 0)) -∗ At c cc0_scratch2 (colS c) fullShare (pt I 0 c) -∗ At c cc0_scratch3 (slotC 0) fullShare (accC I (xs I 0) 0 c) -∗ At c cc0_scratch3 (slotC 1) fullShare (accC I (xs I 0) 0 c) -∗ At c cc0_scratch3 (slotC 2) fullShare (accC I (xs I 0) 0 c) -∗ AtE (nb c 2) cc0_scratch2 (colS c) -∗ AtE (nb c 2) cc0_scratch0 (colS c) -∗ At c cc0_scratch0 (colS c) fullShare (xs I 1) -∗ ∀ a b d e f, Φ ⟨a, b, d, e, f⟩)
  -∗ WP c (On (k0_part28 (F := F)) c w0) Φ) := by
  simp only [k0_part28_eq_skeleton]; unfold k0_part28_skel
  simp only [semSignalWord, semWaitWord, Prog.lift, Prog.bind_op, Prog.bind_ret, Prog.pure_eq_ret]
  iintro #HC HO HR2 HP HA0 HA1 HX Hk
  iapply (rcv_pp I K c 2 0 18 (by decide) rfl) $$ HC HO HR2
  iintro HO HZ2 HP2
  ihave HP2 := (rx_pp0 I c 2) $$ HP2
  icases HP2 with ⟨HA2, HB, HE⟩
  iapply (ld_pt c c (off16_eq c)) $$ HP
  iintro HP
  iapply (ld_acc I c 0 rfl) $$ HA0
  iintro HA0
  iapply (ld_acc I c 1 rfl) $$ HA1
  iintro HA1
  iapply (ld_acc I c 2 rfl) $$ HA2
  iintro HA2
  icases HX with ⟨%Y, HX⟩
  iapply (ldE_xf c c (off16_eq c)) $$ HX
  iintro HX %_
  iapply (st_xf c c (off16_eq c) (T := xs I 1) (show colBlk (xs I 1) c = _ from (colBlk_nxtX I _ _ _).trans (congrArg (fun v => k0_pay13 v _ _ _) (colBlk_prtAll I (xs I 0) 0 c c).symm))) $$ HX
  iintro HX
  iapply ret
  iapply Hk $$ HO HZ2 HP HA0 HA1 HA2 HB HE HX

theorem p29 {w0 : _} {w1 : _} {w2 : _} {w3 : _} {w4 : _} {w5 : _} {Φ : _ → Asn F} :
    Ctx I K ⊢ iprop(Ow c 18
  -∗ Tx c 2 (.bb 0)
  -∗ At c cc0_scratch0 (colS c) (sh 2) (xs I 1)
  -∗ AtE (nb c 2) cc0_scratch0 (colS c)
  -∗ AtE (nb c 2) cc0_scratch2 (colS c)
  -∗ AtE c cc0_scratch3 (slotC 2)
  -∗ (Ow c 19 -∗ Fl c 2 (.bb 0) -∗ Φ ⟨⟩)
  -∗ WP c (On (k0_part29 (F := F)) c w0 w1 w2 w3 w4 w5) Φ) := by
  simp only [k0_part29_eq_skeleton]; unfold k0_part29_skel
  simp only [semSignalWord, semWaitWord, Prog.lift, Prog.bind_op, Prog.bind_ret, Prog.pure_eq_ret]
  iintro #HC HO HT2 HX2 HD2 HE2 HG2 Hk
  iapply (sbb0 I K c 2 _ (dev19_eq c) 18 rfl rfl rfl (off17_eq c)) $$ HC HO HT2 HX2 HD2 HE2 HG2
  iintro HO HL2
  iapply ret
  iapply Hk $$ HO HL2

theorem p30 {f : FVec F S2x4096x512 .f32} {w0 : _} {w1 : _} {w2 : _} {Φ : _ → Asn F} :
    Ctx I K ⊢ iprop(Ow c 19
  -∗ Tx c 0 (.bb 0)
  -∗ At c cc0_scratch0 (colS c) (sh 0) (xs I 1)
  -∗ AtE (nb c 0) cc0_scratch0 (colS c)
  -∗ AtE (nb c 0) cc0_scratch2 (colS c)
  -∗ AtE c cc0_scratch3 (slotC 0)
  -∗ Tx c 1 (.bb 0)
  -∗ At c cc0_scratch0 (colS c) (sh 1) (xs I 1)
  -∗ AtE (nb c 1) cc0_scratch0 (colS c)
  -∗ AtE (nb c 1) cc0_scratch2 (colS c)
  -∗ AtE c cc0_scratch3 (slotC 1)
  -∗ SO c 0 f
  -∗ HO I c mO1 1 0
  -∗ (Ow c 21 -∗ Fl c 0 (.bb 0) -∗ Fl c 1 (.bb 0) -∗ FO I c mO1 1 0 (nb c 0) -∗ Φ ⟨⟩)
  -∗ WP c (On (k0_part30 (F := F)) c w0 w1 w2) Φ) := by
  simp only [k0_part30_eq_skeleton]; unfold k0_part30_skel
  simp only [semSignalWord, semWaitWord, Prog.lift, Prog.bind_op, Prog.bind_ret, Prog.pure_eq_ret]
  iintro #HC HO HT0 HX0 HD0 HE0 HG0 HT1 HX1 HD1 HE1 HG1 HS HW Hk
  iapply (sbb0 I K c 0 _ (dev20_eq c) 19 rfl rfl rfl (off17_eq c)) $$ HC HO HT0 HX0 HD0 HE0 HG0
  iintro HO HL0
  iapply (sbb0 I K c 1 _ (dev21_eq c) 20 rfl rfl rfl (off17_eq c)) $$ HC HO HT1 HX1 HD1 HE1 HG1
  iintro HO HL1
  iapply (goO I c 0 1 (nb c 0) rfl (off1_1_eq c) rfl) $$ HS HW
  iintro HF
  iapply ret
  iapply Hk $$ HO HL0 HL1 HF

theorem p31 {f : FVec F S2x4096x512 .f32} {H : FVec F S256x4096 .f32} {w0 : _} {w1 : _} {w2 : _} {Φ : _ → Asn F} :
    Ctx I K ⊢ iprop(Ow c 21
  -∗ SO c 1 f
  -∗ HO I c mO1 1 1
  -∗ FI I c mI1 1 0 c
  -∗ At c cc0_scratch0 (colS c) sh0 (xs I 1)
  -∗ Al c cc0_scratch1 H
  -∗ (Ow c 21 -∗ FO I c mO1 1 1 (nb c 1) -∗ At c cc0_scratch0 (colS c) sh0 (xs I 1) -∗ Al c cc0_scratch1 (hid I (xs I 1) 1 c 0) -∗ FI I c mI1 1 0 (nb c 2) -∗ Φ ⟨⟩)
  -∗ WP c (On (k0_part31 (F := F)) c w0 w1 w2) Φ) := by
  simp only [k0_part31_eq_skeleton]; unfold k0_part31_skel
  simp only [semSignalWord, semWaitWord, Prog.lift, Prog.bind_op, Prog.bind_ret, Prog.pure_eq_ret]
  iintro #HC HO HS1 HW1 HF HX HH Hk
  iapply (goO I c 1 1 (nb c 1) rfl (off1_2_eq c) rfl) $$ HS1 HW1
  iintro HF1
  iapply (wI I K c 0 1 c rfl) $$ HC HF HO
  iintro HO HS HW
  iapply (hid0 I c 1 c 0 (off16_eq c) rfl (H' := hid I (xs I 1) 1 c 0) (hid_0 I c (xs I 1) 1)) $$ HX HS HH
  iintro HX HS HH
  iapply (goI I c 0 1 (nb c 2) rfl (off12_3_eq c) rfl) $$ HS HW
  iintro HF
  iapply ret
  iapply Hk $$ HO HF1 HX HH HF

theorem p32 {w0 : _} {w1 : _} {w2 : _} {Φ : _ → Asn F} :
    Ctx I K ⊢ iprop(Ow c 21
  -∗ Rx c 0 (.bb 0)
  -∗ FI I c mI1 1 1 (nb c 0)
  -∗ Al c cc0_scratch1 (hid I (xs I 1) 1 c 0)
  -∗ (Ow c 21 -∗ Z c (.rx 0 (.bb 0)) -∗ At c cc0_scratch0 (colS (nb c 0)) fullShare (xs I 1) -∗ AtE c cc0_scratch2 (colS (nb c 0)) -∗ At (nb c 0) cc0_scratch0 (colS (nb c 0)) (sh (rev 0)) (xs I 1) -∗ AtE (nb c 0) cc0_scratch3 (slotC (rev 0)) -∗ Al c cc0_scratch1 (hid I (xs I 1) 1 c 1) -∗ FI I c mI1 1 1 (nb c 1) -∗ Φ ⟨⟩)
  -∗ WP c (On (k0_part32 (F := F)) c w0 w1 w2) Φ) := by
  simp only [k0_part32_eq_skeleton]; unfold k0_part32_skel
  simp only [semSignalWord, semWaitWord, Prog.lift, Prog.bind_op, Prog.bind_ret, Prog.pure_eq_ret]
  iintro #HC HO HR0 HF HH Hk
  iapply (rcv_bb I K c 0 0 21 (by decide) rfl) $$ HC HO HR0
  iintro HO HZ0 HP0
  ihave HP0 := (rx_bb0 I c 0) $$ HP0
  icases HP0 with ⟨HX, HB, HY, HG⟩
  iapply (wI I K c 1 1 (nb c 0) rfl) $$ HC HF HO
  iintro HO HS HW
  iapply (hid1 I c 1 (nb c 0) 1 (off13_1_eq c) rfl (H' := hid I (xs I 1) 1 c 1) (hid_1 I c (xs I 1) 1)) $$ HX HS HH
  iintro HX HS HH
  iapply (goI I c 1 1 (nb c 1) rfl (off12_2_eq c) rfl) $$ HS HW
  iintro HF
  iapply ret
  iapply Hk $$ HO HZ0 HX HB HY HG HH HF

theorem p33 {w0 : _} {w1 : _} {w2 : _} {Φ : _ → Asn F} :
    Ctx I K ⊢ iprop(Ow c 21
  -∗ Rx c 2 (.bb 0)
  -∗ FI I c mI1 1 0 (nb c 2)
  -∗ Al c cc0_scratch1 (hid I (xs I 1) 1 c 1)
  -∗ (Ow c 21 -∗ Z c (.rx 2 (.bb 0)) -∗ At c cc0_scratch0 (colS (nb c 2)) fullShare (xs I 1) -∗ AtE c cc0_scratch2 (colS (nb c 2)) -∗ At (nb c 2) cc0_scratch0 (colS (nb c 2)) (sh (rev 2)) (xs I 1) -∗ AtE (nb c 2) cc0_scratch3 (slotC (rev 2)) -∗ Al c cc0_scratch1 (hid I (xs I 1) 1 c 2) -∗ SI c 0 (winStg I 1 c (nb c 2)) -∗ HI I c mI1 1 0 -∗ Φ ⟨⟩)
  -∗ WP c (On (k0_part33 (F := F)) c w0 w1 w2) Φ) := by
  simp only [k0_part33_eq_skeleton]; unfold k0_part33_skel
  simp only [semSignalWord, semWaitWord, Prog.lift, Prog.bind_op, Prog.bind_ret, Prog.pure_eq_ret]
  iintro #HC HO HR2 HF HH Hk
  iapply (rcv_bb I K c 2 0 21 (by decide) rfl) $$ HC HO HR2
  iintro HO HZ2 HP2
  ihave HP2 := (rx_bb0 I c 2) $$ HP2
  icases HP2 with ⟨HX, HB, HY, HG⟩
  iapply (wI I K c 0 1 (nb c 2) rfl) $$ HC HF HO
  iintro HO HS HW
  iapply (hid1 I c 1 (nb c 2) 0 (off13_3_eq c) rfl (H' := hid I (xs I 1) 1 c 2) (hid_2 I c (xs I 1) 1)) $$ HX HS HH
  iintro HX HS HH
  iapply ret
  iapply Hk $$ HO HZ2 HX HB HY HG HH HS HW

theorem p34 {w0 : _} {w1 : _} {Φ : _ → Asn F} :
    Ctx I K ⊢ iprop(Ow c 21
  -∗ Rx c 1 (.bb 0)
  -∗ FI I c mI1 1 1 (nb c 1)
  -∗ Al c cc0_scratch1 (hid I (xs I 1) 1 c 2)
  -∗ (Ow c 21 -∗ Z c (.rx 1 (.bb 0)) -∗ At c cc0_scratch0 (colS (nb c 1)) fullShare (xs I 1) -∗ AtE c cc0_scratch2 (colS (nb c 1)) -∗ At (nb c 1) cc0_scratch0 (colS (nb c 1)) (sh (rev 1)) (xs I 1) -∗ AtE (nb c 1) cc0_scratch3 (slotC (rev 1)) -∗ Al c cc0_scratch1 (act I (xs I 1) 1 c) -∗ SI c 1 (winStg I 1 c (nb c 1)) -∗ HI I c mI1 1 1 -∗ Φ ⟨⟩)
  -∗ WP c (On (k0_part34 (F := F)) c w0 w1) Φ) := by
  simp only [k0_part34_eq_skeleton]; unfold k0_part34_skel
  simp only [semSignalWord, semWaitWord, Prog.lift, Prog.bind_op, Prog.bind_ret, Prog.pure_eq_ret]
  iintro #HC HO HR1 HF HH Hk
  iapply (rcv_bb I K c 1 0 21 (by decide) rfl) $$ HC HO HR1
  iintro HO HZ1 HP1
  ihave HP1 := (rx_bb0 I c 1) $$ HP1
  icases HP1 with ⟨HX, HB, HY, HG⟩
  iapply (wI I K c 1 1 (nb c 1) rfl) $$ HC HF HO
  iintro HO HS HW
  iapply (hid1 I c 1 (nb c 1) 1 (off13_2_eq c) rfl (H' := hid I (xs I 1) 1 c 3) (hid_3 I c (xs I 1) 1)) $$ HX HS HH
  iintro HX HS HH
  iapply (relu c (H' := act I (xs I 1) 1 c) rfl) $$ HH
  iintro HH
  iapply ret
  iapply Hk $$ HO HZ1 HX HB HY HG HH HS HW

theorem p35 {f f2 : FVec F S2x512x4096 .f32} {w0 : _} {w1 : _} {w2 : _} {Φ : _ → Asn F} :
    Ctx I K ⊢ iprop(Ow c 21
  -∗ SI c 0 f
  -∗ HI I c mI2 2 0
  -∗ SI c 1 f2
  -∗ HI I c mI2 2 1
  -∗ FO I c mO1 1 0 (nb c 0)
  -∗ Al c cc0_scratch1 (act I (xs I 1) 1 c)
  -∗ AtE c cc0_scratch2 (colS (nb c 0))
  -∗ (Ow c 21 -∗ FI I c mI2 2 0 c -∗ FI I c mI2 2 1 (nb c 0) -∗ SO c 0 (woutStg I 1 c (nb c 0)) -∗ HO I c mO1 1 0 -∗ Al c cc0_scratch1 (act I (xs I 1) 1 c) -∗ At c cc0_scratch2 (colS (nb c 0)) fullShare (pt I 1 c) -∗ Φ ⟨⟩)
  -∗ WP c (On (k0_part35 (F := F)) c w0 w1 w2) Φ) := by
  simp only [k0_part35_eq_skeleton]; unfold k0_part35_skel
  simp only [semSignalWord, semWaitWord, Prog.lift, Prog.bind_op, Prog.bind_ret, Prog.pure_eq_ret]
  iintro #HC HO HS0 HW0 HS1 HW1 HF HH HP Hk
  iapply (goI I c 0 2 c rfl (off11_eq c) rfl) $$ HS0 HW0
  iintro HF0
  iapply (goI I c 1 2 (nb c 0) rfl (off12_1_eq c) rfl) $$ HS1 HW1
  iintro HF1
  iapply (wO I K c 0 1 (nb c 0) rfl) $$ HC HF HO
  iintro HO HS HW
  iapply (out1 I c 1 (nb c 0) 0 (off13_1_eq c) rfl (T := pt I 1 c) (colBlk_prtAll I _ _ _ _)) $$ HH HS HP
  iintro HH HS HP
  iapply ret
  iapply Hk $$ HO HF0 HF1 HS HW HH HP

theorem p36 {f : FVec F S2x4096x512 .f32} {w0 : _} {w1 : _} {w2 : _} {Φ : _ → Asn F} :
    Ctx I K ⊢ iprop(Ow c 21
  -∗ SO c 0 f
  -∗ HO I c mO1 1 0
  -∗ At c cc0_scratch2 (colS (nb c 0)) fullShare (pt I 1 c)
  -∗ Tx c 0 (.pp 1)
  -∗ AtE (nb c 0) cc0_scratch3 (slotC (rev 0))
  -∗ AtE c cc0_scratch0 (colS (nb c 0))
  -∗ At (nb c 0) cc0_scratch0 (colS (nb c 0)) (sh (rev 0)) (xs I 1)
  -∗ FO I c mO1 1 1 (nb c 1)
  -∗ Al c cc0_scratch1 (act I (xs I 1) 1 c)
  -∗ AtE c cc0_scratch2 (colS (nb c 1))
  -∗ (Ow c 22 -∗ FO I c mO1 1 0 (nb c 2) -∗ Fl c 0 (.pp 1) -∗ SO c 1 (woutStg I 1 c (nb c 1)) -∗ HO I c mO1 1 1 -∗ Al c cc0_scratch1 (act I (xs I 1) 1 c) -∗ At c cc0_scratch2 (colS (nb c 1)) fullShare (pt I 1 c) -∗ Φ ⟨⟩)
  -∗ WP c (On (k0_part36 (F := F)) c w0 w1 w2) Φ) := by
  simp only [k0_part36_eq_skeleton]; unfold k0_part36_skel
  simp only [semSignalWord, semWaitWord, Prog.lift, Prog.bind_op, Prog.bind_ret, Prog.pure_eq_ret]
  iintro #HC HO HS0 HW0 HP HT HD HX HY HF1 HH HP2 Hk
  iapply (goO I c 0 1 (nb c 2) rfl (off1_3_eq c) rfl) $$ HS0 HW0
  iintro HF
  iapply (spp1 I K c 0 _ (dev22_eq c) 21 rfl rfl rfl (off14_1_eq c) rfl) $$ HC HO HT HP HD HX HY
  iintro HO HL
  iapply (wO I K c 1 1 (nb c 1) rfl) $$ HC HF1 HO
  iintro HO HS HW
  iapply (out1 I c 1 (nb c 1) 1 (off13_2_eq c) rfl (T := pt I 1 c) (colBlk_prtAll I _ _ _ _)) $$ HH HS HP2
  iintro HH HS HP2
  iapply ret
  iapply Hk $$ HO HF HL HS HW HH HP2

theorem p37 {f : FVec F S2x4096x512 .f32} {w0 : _} {w1 : _} {Φ : _ → Asn F} :
    Ctx I K ⊢ iprop(Ow c 22
  -∗ SO c 1 f
  -∗ HO I c mO1 1 1
  -∗ At c cc0_scratch2 (colS (nb c 1)) fullShare (pt I 1 c)
  -∗ Tx c 1 (.pp 1)
  -∗ AtE (nb c 1) cc0_scratch3 (slotC (rev 1))
  -∗ AtE c cc0_scratch0 (colS (nb c 1))
  -∗ At (nb c 1) cc0_scratch0 (colS (nb c 1)) (sh (rev 1)) (xs I 1)
  -∗ FO I c mO1 1 0 (nb c 2)
  -∗ Al c cc0_scratch1 (act I (xs I 1) 1 c)
  -∗ AtE c cc0_scratch2 (colS (nb c 2))
  -∗ (Ow c 23 -∗ FO I c mO1 1 1 c -∗ Fl c 1 (.pp 1) -∗ SO c 0 (woutStg I 1 c (nb c 2)) -∗ HO I c mO1 1 0 -∗ Al c cc0_scratch1 (act I (xs I 1) 1 c) -∗ AtE c cc0_scratch2 (colS (nb c 2)) -∗ Φ (k0_pay21 (act I (xs I 1) 1 c) (woutBlk I 1 c (nb c 2))))
  -∗ WP c (On (k0_part37 (F := F)) c w0 w1) Φ) := by
  simp only [k0_part37_eq_skeleton]; unfold k0_part37_skel
  simp only [semSignalWord, semWaitWord, Prog.lift, Prog.bind_op, Prog.bind_ret, Prog.pure_eq_ret]
  iintro #HC HO HS1 HW1 HP HT HD HX HY HF0 HH HP2 Hk
  iapply (goO I c 1 1 c rfl (off15_eq c) rfl) $$ HS1 HW1
  iintro HF
  iapply (spp1 I K c 1 _ (dev23_eq c) 22 rfl rfl rfl (off14_2_eq c) rfl) $$ HC HO HT HP HD HX HY
  iintro HO HL
  iapply (wO I K c 0 1 (nb c 2) rfl) $$ HC HF0 HO
  iintro HO HS HW
  iapply (ld_h c) $$ HH
  iintro HH
  unfold SO
  icases HS with ⟨HS, Hz⟩
  iapply (ld_sO I c 0 rfl) $$ HS
  iintro HS
  icases HP2 with ⟨%T, HP2⟩
  iapply (ldE_pt c (nb c 2) (off13_3_eq c)) $$ HP2
  iintro HP2 %_
  iapply ret
  iapply Hk $$ HO HF HL [HS Hz] HW HH [HP2]
  · isplitl [HS]; · iexact HS
    iexact Hz
  iexists T; iexact HP2

theorem p38 {w0 : _} {w1 : _} {Φ : _ → Asn F} :
    Ctx I K ⊢ iprop(Ow c 23
  -∗ AtE c cc0_scratch2 (colS (nb c 2))
  -∗ Tx c 2 (.pp 1)
  -∗ AtE (nb c 2) cc0_scratch3 (slotC (rev 2))
  -∗ AtE c cc0_scratch0 (colS (nb c 2))
  -∗ At (nb c 2) cc0_scratch0 (colS (nb c 2)) (sh (rev 2)) (xs I 1)
  -∗ FO I c mO1 1 1 c
  -∗ Al c cc0_scratch1 (act I (xs I 1) 1 c)
  -∗ AtE c cc0_scratch2 (colS c)
  -∗ (Ow c 24 -∗ Fl c 2 (.pp 1) -∗ SO c 1 (woutStg I 1 c c) -∗ HO I c mO1 1 1 -∗ Al c cc0_scratch1 (act I (xs I 1) 1 c) -∗ At c cc0_scratch2 (colS c) fullShare (pt I 1 c) -∗ Φ ⟨⟩)
  -∗ WP c (On (k0_part38 (F := F)) c w0 w1 (k0_pay21 (act I (xs I 1) 1 c) (woutBlk I 1 c (nb c 2)))) Φ) := by
  simp only [k0_part38_eq_skeleton]; unfold k0_part38_skel
  simp only [semSignalWord, semWaitWord, Prog.lift, Prog.bind_op, Prog.bind_ret, Prog.pure_eq_ret]
  iintro #HC HO HP HT HD HX HY HF HH HP2 Hk
  icases HP with ⟨%T, HP⟩
  iapply (st_pt c (nb c 2) (off13_3_eq c) (T := pt I 1 c) ((colBlk_prtAll I _ _ _ _).trans rfl)) $$ HP
  iintro HP
  iapply (spp1 I K c 2 _ (dev24_eq c) 23 rfl rfl rfl (off14_3_eq c) rfl) $$ HC HO HT HP HD HX HY
  iintro HO HL
  iapply (wO I K c 1 1 c rfl) $$ HC HF HO
  iintro HO HS HW
  iapply (out1 I c 1 c 1 (off16_eq c) rfl (T := pt I 1 c) (colBlk_prtAll I _ _ _ _)) $$ HH HS HP2
  iintro HH HS HP2
  iapply ret
  iapply Hk $$ HO HL HS HW HH HP2

theorem p39 {w0 : _} {Φ : _ → Asn F} :
    Ctx I K ⊢ iprop(Ow c 24
  -∗ Rx c 0 (.pp 1)
  -∗ Rx c 1 (.pp 1)
  -∗ Rx c 2 (.pp 1)
  -∗ At c cc0_scratch2 (colS c) fullShare (pt I 1 c)
  -∗ (Ow c 24 -∗ Z c (.rx 0 (.pp 1)) -∗ rxPay I c 0 (.pp 1) -∗ Z c (.rx 1 (.pp 1)) -∗ rxPay I c 1 (.pp 1) -∗ Z c (.rx 2 (.pp 1)) -∗ rxPay I c 2 (.pp 1) -∗ At c cc0_scratch2 (colS c) fullShare (pt I 1 c) -∗ Φ (colBlk (pt I 1 c) c))
  -∗ WP c (On (k0_part39 (F := F)) c w0) Φ) := by
  simp only [k0_part39_eq_skeleton]; unfold k0_part39_skel
  simp only [semSignalWord, semWaitWord, Prog.lift, Prog.bind_op, Prog.bind_ret, Prog.pure_eq_ret]
  iintro #HC HO HR0 HR1 HR2 HP Hk
  iapply (rcv_pp I K c 0 1 24 (by decide) rfl) $$ HC HO HR0
  iintro HO HZ0 HP0
  iapply (rcv_pp I K c 1 1 24 (by decide) rfl) $$ HC HO HR1
  iintro HO HZ1 HP1
  iapply (rcv_pp I K c 2 1 24 (by decide) rfl) $$ HC HO HR2
  iintro HO HZ2 HP2
  iapply (ld_pt c c (off16_eq c)) $$ HP
  iintro HP
  iapply ret
  iapply Hk $$ HO HZ0 HP0 HZ1 HP1 HZ2 HP2 HP

theorem p40 {w0 : _} {Φ : _ → Asn F} :
    At c cc0_scratch3 (slotC 0) fullShare (accC I (xs I 1) 1 c) ⊢ iprop(At c cc0_scratch3 (slotC 1) fullShare (accC I (xs I 1) 1 c)
  -∗ At c cc0_scratch3 (slotC 2) fullShare (accC I (xs I 1) 1 c)
  -∗ At c cc0_scratch0 (colS c) fullShare (xs I 1)
  -∗ (At c cc0_scratch3 (slotC 0) fullShare (accC I (xs I 1) 1 c) -∗ At c cc0_scratch3 (slotC 1) fullShare (accC I (xs I 1) 1 c) -∗ At c cc0_scratch3 (slotC 2) fullShare (accC I (xs I 1) 1 c) -∗ At c cc0_scratch0 (colS c) fullShare (xs I 2) -∗ Φ ⟨⟩)
  -∗ WP c (On (k0_part40 (F := F)) c w0 (colBlk (pt I 1 c) c)) Φ) := by
  simp only [k0_part40_eq_skeleton]; unfold k0_part40_skel
  simp only [semSignalWord, semWaitWord, Prog.lift, Prog.bind_op, Prog.bind_ret, Prog.pure_eq_ret]
  iintro HA0 HA1 HA2 HX Hk
  iapply (ld_acc I c 0 rfl) $$ HA0
  iintro HA0
  iapply (ld_acc I c 1 rfl) $$ HA1
  iintro HA1
  iapply (ld_acc I c 2 rfl) $$ HA2
  iintro HA2
  iapply (ldE_xf c c (off16_eq c)) $$ HX
  iintro HX %_
  iapply (st_xf c c (off16_eq c) (T := xs I 2) (show colBlk (xs I 2) c = _ from (colBlk_nxtX I _ _ _).trans (congrArg (fun v => k0_pay13 v _ _ _) (colBlk_prtAll I (xs I 1) 1 c c).symm))) $$ HX
  iintro HX
  iapply ret
  iapply Hk $$ HA0 HA1 HA2 HX

theorem p41 {w0 : _} {Φ : _ → Asn F} :
    Ctx I K ⊢ iprop(Ow c 24
  -∗ Tx c 2 (.bb 1)
  -∗ At c cc0_scratch0 (colS c) (sh 2) (xs I 2)
  -∗ AtE (nb c 2) cc0_scratch0 (colS c)
  -∗ AtE (nb c 2) cc0_scratch2 (colS c)
  -∗ Tx c 0 (.bb 1)
  -∗ At c cc0_scratch0 (colS c) (sh 0) (xs I 2)
  -∗ AtE (nb c 0) cc0_scratch0 (colS c)
  -∗ AtE (nb c 0) cc0_scratch2 (colS c)
  -∗ (Ow c 26 -∗ Fl c 2 (.bb 1) -∗ Fl c 0 (.bb 1) -∗ ∀ a, Φ a)
  -∗ WP c (On (k0_part41 (F := F)) c w0) Φ) := by
  simp only [k0_part41_eq_skeleton]; unfold k0_part41_skel
  simp only [semSignalWord, semWaitWord, Prog.lift, Prog.bind_op, Prog.bind_ret, Prog.pure_eq_ret]
  iintro #HC HO HT2 HX2 HD2 HE2 HT0 HX0 HD0 HE0 Hk
  iapply (sbb1 I K c 2 _ (dev25_eq c) 24 rfl rfl rfl (off17_eq c)) $$ HC HO HT2 HX2 HD2 HE2
  iintro HO HL2
  iapply (sbb1 I K c 0 _ (dev26_eq c) 25 rfl rfl rfl (off17_eq c)) $$ HC HO HT0 HX0 HD0 HE0
  iintro HO HL0
  iapply ret
  iapply Hk $$ HO HL2 HL0

theorem p42 {f f2 : FVec F S2x4096x512 .f32} {w0 : _} {w1 : _} {Φ : _ → Asn F} :
    Ctx I K ⊢ iprop(Ow c 26
  -∗ Tx c 1 (.bb 1)
  -∗ At c cc0_scratch0 (colS c) (sh 1) (xs I 2)
  -∗ AtE (nb c 1) cc0_scratch0 (colS c)
  -∗ AtE (nb c 1) cc0_scratch2 (colS c)
  -∗ SO c 0 f
  -∗ HO I c mO2 2 0
  -∗ SO c 1 f2
  -∗ HO I c mO2 2 1
  -∗ FI I c mI2 2 0 c
  -∗ (Ow c 27 -∗ Fl c 1 (.bb 1) -∗ FO I c mO2 2 0 0 -∗ FO I c mO2 2 1 1 -∗ SI c 0 (winStg I 2 c c) -∗ HI I c mI2 2 0 -∗ ∀ a, Φ a)
  -∗ WP c (On (k0_part42 (F := F)) c w0 w1) Φ) := by
  simp only [k0_part42_eq_skeleton]; unfold k0_part42_skel
  simp only [semSignalWord, semWaitWord, Prog.lift, Prog.bind_op, Prog.bind_ret, Prog.pure_eq_ret]
  iintro #HC HO HT1 HX1 HD1 HE1 HS0 HW0 HS1 HW1 HF Hk
  iapply (sbb1 I K c 1 _ (dev27_eq c) 26 rfl rfl rfl (off17_eq c)) $$ HC HO HT1 HX1 HD1 HE1
  iintro HO HL1
  iapply (goO I c 0 2 0 rfl rfl rfl) $$ HS0 HW0
  iintro HF0
  iapply (goO I c 1 2 1 rfl rfl rfl) $$ HS1 HW1
  iintro HF1
  iapply (wI I K c 0 2 c rfl) $$ HC HF HO
  iintro HO HS HW
  iapply ret
  iapply Hk $$ HO HL1 HF0 HF1 HS HW

theorem p43 {H : FVec F S256x4096 .f32} {w0 : _} {w1 : _} {w2 : _} {w3 : _} {Φ : _ → Asn F} :
    Ctx I K ⊢ iprop(Ow c 27
  -∗ At c cc0_scratch0 (colS c) sh0 (xs I 2)
  -∗ SI c 0 (winStg I 2 c c)
  -∗ HI I c mI2 2 0
  -∗ Al c cc0_scratch1 H
  -∗ Rx c 0 (.bb 1)
  -∗ FI I c mI2 2 1 (nb c 0)
  -∗ (Ow c 27 -∗ At c cc0_scratch0 (colS c) sh0 (xs I 2) -∗ Al c cc0_scratch1 (hid I (xs I 2) 2 c 0) -∗ FI I c mI2 2 0 (nb c 2) -∗ Z c (.rx 0 (.bb 1)) -∗ At c cc0_scratch0 (colS (nb c 0)) fullShare (xs I 2) -∗ AtE c cc0_scratch2 (colS (nb c 0)) -∗ SI c 1 (winStg I 2 c (nb c 0)) -∗ HI I c mI2 2 1 -∗ ∀ a, Φ a)
  -∗ WP c (On (k0_part43 (F := F)) c w0 w1 w2 w3) Φ) := by
  simp only [k0_part43_eq_skeleton]; unfold k0_part43_skel
  simp only [semSignalWord, semWaitWord, Prog.lift, Prog.bind_op, Prog.bind_ret, Prog.pure_eq_ret]
  iintro #HC HO HX HS HW HH HR0 HF1 Hk
  iapply (hid0 I c 2 c 0 (off16_eq c) rfl (H' := hid I (xs I 2) 2 c 0) (hid_0 I c (xs I 2) 2)) $$ HX HS HH
  iintro HX HS HH
  iapply (goI I c 0 2 (nb c 2) rfl (off12_3_eq c) rfl) $$ HS HW
  iintro HF
  iapply (rcv_bb I K c 0 1 27 (by decide) rfl) $$ HC HO HR0
  iintro HO HZ0 HP0
  ihave HP0 := (rx_bb1 I c 0) $$ HP0
  icases HP0 with ⟨HX0, HB⟩
  iapply (wI I K c 1 2 (nb c 0) rfl) $$ HC HF1 HO
  iintro HO HS HW
  iapply ret
  iapply Hk $$ HO HX HH HF HZ0 HX0 HB HS HW

theorem p44 {w0 : _} {w1 : _} {w2 : _} {w3 : _} {w4 : _} {Φ : _ → Asn F} :
    Ctx I K ⊢ iprop(Ow c 27
  -∗ At c cc0_scratch0 (colS (nb c 0)) fullShare (xs I 2)
  -∗ SI c 1 (winStg I 2 c (nb c 0))
  -∗ HI I c mI2 2 1
  -∗ Al c cc0_scratch1 (hid I (xs I 2) 2 c 0)
  -∗ Rx c 2 (.bb 1)
  -∗ (Ow c 27 -∗ At c cc0_scratch0 (colS (nb c 0)) fullShare (xs I 2) -∗ Al c cc0_scratch1 (hid I (xs I 2) 2 c 1) -∗ FI I c mI2 2 1 (nb c 1) -∗ Z c (.rx 2 (.bb 1)) -∗ At c cc0_scratch0 (colS (nb c 2)) fullShare (xs I 2) -∗ AtE c cc0_scratch2 (colS (nb c 2)) -∗ Φ ⟨⟩)
  -∗ WP c (On (k0_part44 (F := F)) c w0 w1 w2 w3 w4) Φ) := by
  simp only [k0_part44_eq_skeleton]; unfold k0_part44_skel
  simp only [semSignalWord, semWaitWord, Prog.lift, Prog.bind_op, Prog.bind_ret, Prog.pure_eq_ret]
  iintro #HC HO HX HS HW HH HR2 Hk
  iapply (hid1 I c 2 (nb c 0) 1 (off13_1_eq c) rfl (H' := hid I (xs I 2) 2 c 1) (hid_1 I c (xs I 2) 2)) $$ HX HS HH
  iintro HX HS HH
  iapply (goI I c 1 2 (nb c 1) rfl (off12_2_eq c) rfl) $$ HS HW
  iintro HF
  iapply (rcv_bb I K c 2 1 27 (by decide) rfl) $$ HC HO HR2
  iintro HO HZ2 HP2
  ihave HP2 := (rx_bb1 I c 2) $$ HP2
  icases HP2 with ⟨HX2, HB⟩
  iapply ret
  iapply Hk $$ HO HX HH HF HZ2 HX2 HB

theorem p45 {w0 : _} {w1 : _} {w2 : _} {Φ : _ → Asn F} :
    Ctx I K ⊢ iprop(Ow c 27
  -∗ FI I c mI2 2 0 (nb c 2)
  -∗ At c cc0_scratch0 (colS (nb c 2)) fullShare (xs I 2)
  -∗ Al c cc0_scratch1 (hid I (xs I 2) 2 c 1)
  -∗ Rx c 1 (.bb 1)
  -∗ FI I c mI2 2 1 (nb c 1)
  -∗ (Ow c 27 -∗ At c cc0_scratch0 (colS (nb c 2)) fullShare (xs I 2) -∗ Al c cc0_scratch1 (hid I (xs I 2) 2 c 2) -∗ SI c 0 (winStg I 2 c (nb c 2)) -∗ HI I c mI2 2 0 -∗ Z c (.rx 1 (.bb 1)) -∗ At c cc0_scratch0 (colS (nb c 1)) fullShare (xs I 2) -∗ AtE c cc0_scratch2 (colS (nb c 1)) -∗ SI c 1 (winStg I 2 c (nb c 1)) -∗ HI I c mI2 2 1 -∗ Φ ⟨⟩)
  -∗ WP c (On (k0_part45 (F := F)) c w0 w1 w2) Φ) := by
  simp only [k0_part45_eq_skeleton]; unfold k0_part45_skel
  simp only [semSignalWord, semWaitWord, Prog.lift, Prog.bind_op, Prog.bind_ret, Prog.pure_eq_ret]
  iintro #HC HO HF HX HH HR1 HF1 Hk
  iapply (wI I K c 0 2 (nb c 2) rfl) $$ HC HF HO
  iintro HO HS HW
  iapply (hid1 I c 2 (nb c 2) 0 (off13_3_eq c) rfl (H' := hid I (xs I 2) 2 c 2) (hid_2 I c (xs I 2) 2)) $$ HX HS HH
  iintro HX HS HH
  iapply (rcv_bb I K c 1 1 27 (by decide) rfl) $$ HC HO HR1
  iintro HO HZ1 HP1
  ihave HP1 := (rx_bb1 I c 1) $$ HP1
  icases HP1 with ⟨HX1, HB⟩
  iapply (wI I K c 1 2 (nb c 1) rfl) $$ HC HF1 HO
  iintro HO HS1 HW1
  iapply ret
  iapply Hk $$ HO HX HH HS HW HZ1 HX1 HB HS1 HW1

theorem p46 {Φ : _ → Asn F} :
    Ctx I K ⊢ iprop(Ow c 27
  -∗ At c cc0_scratch0 (colS (nb c 1)) fullShare (xs I 2)
  -∗ SI c 1 (winStg I 2 c (nb c 1))
  -∗ Al c cc0_scratch1 (hid I (xs I 2) 2 c 2)
  -∗ FO I c mO2 2 0 0
  -∗ AtE c cc0_scratch2 (colS 0)
  -∗ (Ow c 27 -∗ At c cc0_scratch0 (colS (nb c 1)) fullShare (xs I 2) -∗ SI c 1 (winStg I 2 c (nb c 1)) -∗ Al c cc0_scratch1 (act I (xs I 2) 2 c) -∗ SO c 0 (woutStg I 2 c 0) -∗ HO I c mO2 2 0 -∗ At c cc0_scratch2 (colS 0) fullShare (pt I 2 c) -∗ Φ ⟨⟩)
  -∗ WP c (On (k0_part46 (F := F)) c) Φ) := by
  simp only [k0_part46_eq_skeleton]; unfold k0_part46_skel
  simp only [semSignalWord, semWaitWord, Prog.lift, Prog.bind_op, Prog.bind_ret, Prog.pure_eq_ret]
  iintro #HC HO HX HS HH HF HP Hk
  iapply (hid1 I c 2 (nb c 1) 1 (off13_2_eq c) rfl (H' := hid I (xs I 2) 2 c 3) (hid_3 I c (xs I 2) 2)) $$ HX HS HH
  iintro HX HS HH
  iapply (relu c (H' := act I (xs I 2) 2 c) rfl) $$ HH
  iintro HH
  iapply (wO I K c 0 2 0 rfl) $$ HC HF HO
  iintro HO HS2 HW2
  iapply (out1 I c 2 0 0 rfl rfl (T := pt I 2 c) (colBlk_prtAll I _ _ _ _)) $$ HH HS2 HP
  iintro HH HS2 HP
  iapply ret
  iapply Hk $$ HO HX HS HH HS2 HW2 HP

/-! The last layer's shares are sent group by group as they are formed. -/

theorem p47 {f : FVec F S2x4096x512 .f32} {w0 : _} {Φ : _ → Asn F} :
    Ctx I K ⊢ iprop(Ow c 27
  -∗ SO c 0 f
  -∗ HO I c mO2 2 0
  -∗ Tx c 0 (.row 0)
  -∗ At c cc0_scratch2 (blk (nb c 0) 0) fullShare (pt I 2 c)
  -∗ AtE (nb c 0) cc0_scratch4 (slotRG (rev 0) 0)
  -∗ (Ow c 28 -∗ FO I c mO2 2 0 2 -∗ Fl c 0 (.row 0) -∗ ∀ a b d, Φ ⟨a, b, d⟩)
  -∗ WP c (On (k0_part47 (F := F)) c w0) Φ) := by
  simp only [k0_part47_eq_skeleton]; unfold k0_part47_skel
  simp only [semSignalWord, semWaitWord, Prog.lift, Prog.bind_op, Prog.bind_ret, Prog.pure_eq_ret]
  iintro #HC HO HS HW HT0 HP0 HD0 Hk
  iapply (goO I c 0 2 2 rfl rfl rfl) $$ HS HW
  iintro HF
  iapply (srow I K c 0 0 _ (dev28_eq c) 27 rfl rfl rfl (off18_1_eq c) rfl) $$ HC HO HT0 HP0 HD0
  iintro HO HL0
  iapply ret
  iapply Hk $$ HO HF HL0

theorem p48 {w0 : _} {w1 : _} {w2 : _} {w3 : _} {Φ : _ → Asn F} :
    Ctx I K ⊢ iprop(Ow c 28
  -∗ Tx c 1 (.row 0)
  -∗ At c cc0_scratch2 (blk (nb c 1) 0) fullShare (pt I 2 c)
  -∗ AtE (nb c 1) cc0_scratch4 (slotRG (rev 1) 0)
  -∗ (Ow c 29 -∗ Fl c 1 (.row 0) -∗ Φ ⟨⟩)
  -∗ WP c (On (k0_part48 (F := F)) c w0 w1 w2 w3) Φ) := by
  simp only [k0_part48_eq_skeleton]; unfold k0_part48_skel
  simp only [semSignalWord, semWaitWord, Prog.lift, Prog.bind_op, Prog.bind_ret, Prog.pure_eq_ret]
  iintro #HC HO HT1 HP1 HD1 Hk
  iapply (srow I K c 1 0 _ (dev29_eq c) 28 rfl rfl rfl (off18_2_eq c) rfl) $$ HC HO HT1 HP1 HD1
  iintro HO HL1
  iapply ret
  iapply Hk $$ HO HL1

theorem p49 {w0 : _} {Φ : _ → Asn F} :
    Ctx I K ⊢ iprop(Ow c 29
  -∗ Tx c 2 (.row 0)
  -∗ At c cc0_scratch2 (blk (nb c 2) 0) fullShare (pt I 2 c)
  -∗ AtE (nb c 2) cc0_scratch4 (slotRG (rev 2) 0)
  -∗ FO I c mO2 2 1 1
  -∗ Al c cc0_scratch1 (act I (xs I 2) 2 c)
  -∗ AtE c cc0_scratch2 (colS 1)
  -∗ (Ow c 30 -∗ Fl c 2 (.row 0) -∗ Al c cc0_scratch1 (act I (xs I 2) 2 c) -∗ FO I c mO2 2 1 3 -∗ At c cc0_scratch2 (colS 1) fullShare (pt I 2 c) -∗ ∀ a b d, Φ ⟨a, b, d⟩)
  -∗ WP c (On (k0_part49 (F := F)) c w0) Φ) := by
  simp only [k0_part49_eq_skeleton]; unfold k0_part49_skel
  simp only [semSignalWord, semWaitWord, Prog.lift, Prog.bind_op, Prog.bind_ret, Prog.pure_eq_ret]
  iintro #HC HO HT2 HP2 HD2 HF HH HP Hk
  iapply (srow I K c 2 0 _ (dev30_eq c) 29 rfl rfl rfl (off18_3_eq c) rfl) $$ HC HO HT2 HP2 HD2
  iintro HO HL2
  iapply (wO I K c 1 2 1 rfl) $$ HC HF HO
  iintro HO HS HW
  iapply (out1 I c 2 1 1 rfl rfl (T := pt I 2 c) (colBlk_prtAll I _ _ _ _)) $$ HH HS HP
  iintro HH HS HP
  iapply (goO I c 1 2 3 rfl rfl rfl) $$ HS HW
  iintro HF
  iapply ret
  iapply Hk $$ HO HL2 HH HF HP

theorem p50 {w0 : _} {w1 : _} {w2 : _} {w3 : _} {Φ : _ → Asn F} :
    Ctx I K ⊢ iprop(Ow c 30
  -∗ Tx c 0 (.row 1)
  -∗ At c cc0_scratch2 (blk (nb c 0) 1) fullShare (pt I 2 c)
  -∗ AtE (nb c 0) cc0_scratch4 (slotRG (rev 0) 1)
  -∗ (Ow c 31 -∗ Fl c 0 (.row 1) -∗ Φ ⟨⟩)
  -∗ WP c (On (k0_part50 (F := F)) c w0 w1 w2 w3) Φ) := by
  simp only [k0_part50_eq_skeleton]; unfold k0_part50_skel
  simp only [semSignalWord, semWaitWord, Prog.lift, Prog.bind_op, Prog.bind_ret, Prog.pure_eq_ret]
  iintro #HC HO HT0 HP0 HD0 Hk
  iapply (srow I K c 0 1 _ (dev31_eq c) 30 rfl rfl rfl (off19_1_eq c) rfl) $$ HC HO HT0 HP0 HD0
  iintro HO HL0
  iapply ret
  iapply Hk $$ HO HL0

theorem p51 {w0 : _} {Φ : _ → Asn F} :
    Ctx I K ⊢ iprop(Ow c 31
  -∗ Tx c 1 (.row 1)
  -∗ At c cc0_scratch2 (blk (nb c 1) 1) fullShare (pt I 2 c)
  -∗ AtE (nb c 1) cc0_scratch4 (slotRG (rev 1) 1)
  -∗ Tx c 2 (.row 1)
  -∗ At c cc0_scratch2 (blk (nb c 2) 1) fullShare (pt I 2 c)
  -∗ AtE (nb c 2) cc0_scratch4 (slotRG (rev 2) 1)
  -∗ (Ow c 33 -∗ Fl c 1 (.row 1) -∗ Fl c 2 (.row 1) -∗ Φ ⟨⟩)
  -∗ WP c (On (k0_part51 (F := F)) c w0) Φ) := by
  simp only [k0_part51_eq_skeleton]; unfold k0_part51_skel
  simp only [semSignalWord, semWaitWord, Prog.lift, Prog.bind_op, Prog.bind_ret, Prog.pure_eq_ret]
  iintro #HC HO HT1 HP1 HD1 HT2 HP2 HD2 Hk
  iapply (srow I K c 1 1 _ (dev32_eq c) 31 rfl rfl rfl (off19_2_eq c) rfl) $$ HC HO HT1 HP1 HD1
  iintro HO HL1
  iapply (srow I K c 2 1 _ (dev33_eq c) 32 rfl rfl rfl (off19_3_eq c) rfl) $$ HC HO HT2 HP2 HD2
  iintro HO HL2
  iapply ret
  iapply Hk $$ HO HL1 HL2

/-- A formed group by the rows of the devices it goes to, the own first. -/
theorem pt_blks (g : Fin 4) : At c cc0_scratch2 (colS g) fullShare (pt I 2 c) ⊢ iprop(At c cc0_scratch2 (blk c g) fullShare (pt I 2 c)
    ∗ At c cc0_scratch2 (blk (nb c 0) g) fullShare (pt I 2 c) ∗ At c cc0_scratch2 (blk (nb c 1) g) fullShare (pt I 2 c)
    ∗ At c cc0_scratch2 (blk (nb c 2) g) fullShare (pt I 2 c)) := by
  rw [At_snd c cc0_scratch2 rowOf colOf g fullShare (pt I 2 c), quad c]
  exact Entails.refl _

theorem p52 {w0 : _} {Φ : _ → Asn F} :
    Ctx I K ⊢ iprop(Ow c 33
  -∗ FO I c mO2 2 0 2
  -∗ Al c cc0_scratch1 (act I (xs I 2) 2 c)
  -∗ AtE c cc0_scratch2 (colS 2)
  -∗ Tx c 0 (.row 2)
  -∗ AtE (nb c 0) cc0_scratch4 (slotRG (rev 0) 2)
  -∗ (Ow c 34 -∗ Al c cc0_scratch1 (act I (xs I 2) 2 c) -∗ SO c 0 (woutStg I 2 c 2) -∗ HO I c mO2 2 0 -∗ At c cc0_scratch2 (blk c 2) fullShare (pt I 2 c) -∗ At c cc0_scratch2 (blk (nb c 1) 2) fullShare (pt I 2 c) -∗ At c cc0_scratch2 (blk (nb c 2) 2) fullShare (pt I 2 c) -∗ Fl c 0 (.row 2) -∗ ∀ a b, Φ ⟨a, b⟩)
  -∗ WP c (On (k0_part52 (F := F)) c w0) Φ) := by
  simp only [k0_part52_eq_skeleton]; unfold k0_part52_skel
  simp only [semSignalWord, semWaitWord, Prog.lift, Prog.bind_op, Prog.bind_ret, Prog.pure_eq_ret]
  iintro #HC HO HF HH HP HT0 HD0 Hk
  iapply (wO I K c 0 2 2 rfl) $$ HC HF HO
  iintro HO HS HW
  iapply (out1 I c 2 2 0 rfl rfl (T := pt I 2 c) (colBlk_prtAll I _ _ _ _)) $$ HH HS HP
  iintro HH HS HP
  ihave HP := (pt_blks I c 2) $$ HP
  icases HP with ⟨HP, HP0, HP1, HP2⟩
  iapply (srow I K c 0 2 _ (dev34_eq c) 33 rfl rfl rfl (off20_1_eq c) rfl) $$ HC HO HT0 HP0 HD0
  iintro HO HL0
  iapply ret
  iapply Hk $$ HO HH HS HW HP HP1 HP2 HL0

theorem p53 {w0 : _} {w1 : _} {w2 : _} {Φ : _ → Asn F} :
    Ctx I K ⊢ iprop(Ow c 34
  -∗ Tx c 1 (.row 2)
  -∗ At c cc0_scratch2 (blk (nb c 1) 2) fullShare (pt I 2 c)
  -∗ AtE (nb c 1) cc0_scratch4 (slotRG (rev 1) 2)
  -∗ (Ow c 35 -∗ Fl c 1 (.row 2) -∗ ∀ a, Φ a)
  -∗ WP c (On (k0_part53 (F := F)) c w0 w1 w2) Φ) := by
  simp only [k0_part53_eq_skeleton]; unfold k0_part53_skel
  simp only [semSignalWord, semWaitWord, Prog.lift, Prog.bind_op, Prog.bind_ret, Prog.pure_eq_ret]
  iintro #HC HO HT1 HP1 HD1 Hk
  iapply (srow I K c 1 2 _ (dev35_eq c) 34 rfl rfl rfl (off20_2_eq c) rfl) $$ HC HO HT1 HP1 HD1
  iintro HO HL1
  iapply ret
  iapply Hk $$ HO HL1

theorem p54 {w0 : _} {w1 : _} {Φ : _ → Asn F} :
    Ctx I K ⊢ iprop(Ow c 35
  -∗ Tx c 2 (.row 2)
  -∗ At c cc0_scratch2 (blk (nb c 2) 2) fullShare (pt I 2 c)
  -∗ AtE (nb c 2) cc0_scratch4 (slotRG (rev 2) 2)
  -∗ FO I c mO2 2 1 3
  -∗ Al c cc0_scratch1 (act I (xs I 2) 2 c)
  -∗ AtE c cc0_scratch2 (colS 3)
  -∗ (Ow c 36 -∗ Fl c 2 (.row 2) -∗ Al c cc0_scratch1 (act I (xs I 2) 2 c) -∗ SO c 1 (woutStg I 2 c 3) -∗ HO I c mO2 2 1 -∗ At c cc0_scratch2 (colS 3) fullShare (pt I 2 c) -∗ ∀ a b d e, Φ ⟨a, b, d, e⟩)
  -∗ WP c (On (k0_part54 (F := F)) c w0 w1) Φ) := by
  simp only [k0_part54_eq_skeleton]; unfold k0_part54_skel
  simp only [semSignalWord, semWaitWord, Prog.lift, Prog.bind_op, Prog.bind_ret, Prog.pure_eq_ret]
  iintro #HC HO HT2 HP2 HD2 HF HH HP Hk
  iapply (srow I K c 2 2 _ (dev36_eq c) 35 rfl rfl rfl (off20_3_eq c) rfl) $$ HC HO HT2 HP2 HD2
  iintro HO HL2
  iapply (wO I K c 1 2 3 rfl) $$ HC HF HO
  iintro HO HS HW
  iapply (out1 I c 2 3 1 rfl rfl (T := pt I 2 c) (colBlk_prtAll I _ _ _ _)) $$ HH HS HP
  iintro HH HS HP
  iapply ret
  iapply Hk $$ HO HL2 HH HS HW HP

theorem p55 {w0 : _} {w1 : _} {w2 : _} {w3 : _} {w4 : _} {Φ : _ → Asn F} :
    Ctx I K ⊢ iprop(Ow c 36
  -∗ Tx c 0 (.row 3)
  -∗ At c cc0_scratch2 (blk (nb c 0) 3) fullShare (pt I 2 c)
  -∗ AtE (nb c 0) cc0_scratch4 (slotRG (rev 0) 3)
  -∗ (Ow c 37 -∗ Fl c 0 (.row 3) -∗ Φ ⟨⟩)
  -∗ WP c (On (k0_part55 (F := F)) c w0 w1 w2 w3 w4) Φ) := by
  simp only [k0_part55_eq_skeleton]; unfold k0_part55_skel
  simp only [semSignalWord, semWaitWord, Prog.lift, Prog.bind_op, Prog.bind_ret, Prog.pure_eq_ret]
  iintro #HC HO HT0 HP0 HD0 Hk
  iapply (srow I K c 0 3 _ (dev37_eq c) 36 rfl rfl rfl (off21_1_eq c) rfl) $$ HC HO HT0 HP0 HD0
  iintro HO HL0
  iapply ret
  iapply Hk $$ HO HL0

theorem p56 {w0 : _} {Φ : _ → Asn F} :
    Ctx I K ⊢ iprop(Ow c 37
  -∗ Tx c 1 (.row 3)
  -∗ At c cc0_scratch2 (blk (nb c 1) 3) fullShare (pt I 2 c)
  -∗ AtE (nb c 1) cc0_scratch4 (slotRG (rev 1) 3)
  -∗ Tx c 2 (.row 3)
  -∗ At c cc0_scratch2 (blk (nb c 2) 3) fullShare (pt I 2 c)
  -∗ AtE (nb c 2) cc0_scratch4 (slotRG (rev 2) 3)
  -∗ (Ow c 39 -∗ Fl c 1 (.row 3) -∗ Fl c 2 (.row 3) -∗ Φ ⟨⟩)
  -∗ WP c (On (k0_part56 (F := F)) c w0) Φ) := by
  simp only [k0_part56_eq_skeleton]; unfold k0_part56_skel
  simp only [semSignalWord, semWaitWord, Prog.lift, Prog.bind_op, Prog.bind_ret, Prog.pure_eq_ret]
  iintro #HC HO HT1 HP1 HD1 HT2 HP2 HD2 Hk
  iapply (srow I K c 1 3 _ (dev38_eq c) 37 rfl rfl rfl (off21_2_eq c) rfl) $$ HC HO HT1 HP1 HD1
  iintro HO HL1
  iapply (srow I K c 2 3 _ (dev39_eq c) 38 rfl rfl rfl (off21_3_eq c) rfl) $$ HC HO HT2 HP2 HD2
  iintro HO HL2
  iapply ret
  iapply Hk $$ HO HL1 HL2

theorem p57 {w0 : _} {Φ : _ → Asn F} :
    Ctx I K ⊢ iprop(Ow c 39
  -∗ Rx c 0 (.row 0)
  -∗ Rx c 0 (.row 1)
  -∗ Rx c 0 (.row 2)
  -∗ (Ow c 39 -∗ Z c (.rx 0 (.row 0)) -∗ rxPay I c 0 (.row 0) -∗ Z c (.rx 0 (.row 1)) -∗ rxPay I c 0 (.row 1) -∗ Z c (.rx 0 (.row 2)) -∗ rxPay I c 0 (.row 2) -∗ Φ ⟨⟩)
  -∗ WP c (On (k0_part57 (F := F)) w0) Φ) := by
  simp only [k0_part57_eq_skeleton]; unfold k0_part57_skel
  simp only [semSignalWord, semWaitWord, Prog.lift, Prog.bind_op, Prog.bind_ret, Prog.pure_eq_ret]
  iintro #HC HO HR00 HR01 HR02 Hk
  iapply (rcv_row I K c 0 0 39 (by rw [show payL.drop 39 = [] from rfl]; simp) rfl) $$ HC HO HR00
  iintro HO HZ00 HP00
  iapply (rcv_row I K c 0 1 39 (by rw [show payL.drop 39 = [] from rfl]; simp) rfl) $$ HC HO HR01
  iintro HO HZ01 HP01
  iapply (rcv_row I K c 0 2 39 (by rw [show payL.drop 39 = [] from rfl]; simp) rfl) $$ HC HO HR02
  iintro HO HZ02 HP02
  iapply ret
  iapply Hk $$ HO HZ00 HP00 HZ01 HP01 HZ02 HP02

theorem p58 {w0 : _} {Φ : _ → Asn F} :
    Ctx I K ⊢ iprop(Ow c 39
  -∗ Rx c 0 (.row 3)
  -∗ Rx c 1 (.row 0)
  -∗ Rx c 1 (.row 1)
  -∗ (Ow c 39 -∗ Z c (.rx 0 (.row 3)) -∗ rxPay I c 0 (.row 3) -∗ Z c (.rx 1 (.row 0)) -∗ rxPay I c 1 (.row 0) -∗ Z c (.rx 1 (.row 1)) -∗ rxPay I c 1 (.row 1) -∗ Φ ⟨⟩)
  -∗ WP c (On (k0_part58 (F := F)) w0) Φ) := by
  simp only [k0_part58_eq_skeleton]; unfold k0_part58_skel
  simp only [semSignalWord, semWaitWord, Prog.lift, Prog.bind_op, Prog.bind_ret, Prog.pure_eq_ret]
  iintro #HC HO HR03 HR10 HR11 Hk
  iapply (rcv_row I K c 0 3 39 (by rw [show payL.drop 39 = [] from rfl]; simp) rfl) $$ HC HO HR03
  iintro HO HZ03 HP03
  iapply (rcv_row I K c 1 0 39 (by rw [show payL.drop 39 = [] from rfl]; simp) rfl) $$ HC HO HR10
  iintro HO HZ10 HP10
  iapply (rcv_row I K c 1 1 39 (by rw [show payL.drop 39 = [] from rfl]; simp) rfl) $$ HC HO HR11
  iintro HO HZ11 HP11
  iapply ret
  iapply Hk $$ HO HZ03 HP03 HZ10 HP10 HZ11 HP11

theorem p59 {w0 : _} {Φ : _ → Asn F} :
    Ctx I K ⊢ iprop(Ow c 39
  -∗ Rx c 1 (.row 2)
  -∗ Rx c 1 (.row 3)
  -∗ Rx c 2 (.row 0)
  -∗ (Ow c 39 -∗ Z c (.rx 1 (.row 2)) -∗ rxPay I c 1 (.row 2) -∗ Z c (.rx 1 (.row 3)) -∗ rxPay I c 1 (.row 3) -∗ Z c (.rx 2 (.row 0)) -∗ rxPay I c 2 (.row 0) -∗ Φ ⟨⟩)
  -∗ WP c (On (k0_part59 (F := F)) w0) Φ) := by
  simp only [k0_part59_eq_skeleton]; unfold k0_part59_skel
  simp only [semSignalWord, semWaitWord, Prog.lift, Prog.bind_op, Prog.bind_ret, Prog.pure_eq_ret]
  iintro #HC HO HR12 HR13 HR20 Hk
  iapply (rcv_row I K c 1 2 39 (by rw [show payL.drop 39 = [] from rfl]; simp) rfl) $$ HC HO HR12
  iintro HO HZ12 HP12
  iapply (rcv_row I K c 1 3 39 (by rw [show payL.drop 39 = [] from rfl]; simp) rfl) $$ HC HO HR13
  iintro HO HZ13 HP13
  iapply (rcv_row I K c 2 0 39 (by rw [show payL.drop 39 = [] from rfl]; simp) rfl) $$ HC HO HR20
  iintro HO HZ20 HP20
  iapply ret
  iapply Hk $$ HO HZ12 HP12 HZ13 HP13 HZ20 HP20

theorem p60 {w0 : _} {Φ : _ → Asn F} :
    Ctx I K ⊢ iprop(Ow c 39
  -∗ Rx c 2 (.row 1)
  -∗ Rx c 2 (.row 2)
  -∗ Rx c 2 (.row 3)
  -∗ At c cc0_scratch2 (rowS c) fullShare (pt I 2 c)
  -∗ At c cc0_scratch4 (slotR 0) fullShare (accR I c)
  -∗ At c cc0_scratch4 (slotR 1) fullShare (accR I c)
  -∗ (Ow c 39 -∗ Z c (.rx 2 (.row 1)) -∗ rxPay I c 2 (.row 1) -∗ Z c (.rx 2 (.row 2)) -∗ rxPay I c 2 (.row 2) -∗ Z c (.rx 2 (.row 3)) -∗ rxPay I c 2 (.row 3) -∗ At c cc0_scratch2 (rowS c) fullShare (pt I 2 c) -∗ At c cc0_scratch4 (slotR 0) fullShare (accR I c) -∗ At c cc0_scratch4 (slotR 1) fullShare (accR I c) -∗ Φ (k0_pay34 (rowBlk (pt I 2 c) c) (accRBlk I c 0) (accRBlk I c 1)))
  -∗ WP c (On (k0_part60 (F := F)) c w0) Φ) := by
  simp only [k0_part60_eq_skeleton]; unfold k0_part60_skel
  simp only [semSignalWord, semWaitWord, Prog.lift, Prog.bind_op, Prog.bind_ret, Prog.pure_eq_ret]
  iintro #HC HO HR21 HR22 HR23 HP HA0 HA1 Hk
  iapply (rcv_row I K c 2 1 39 (by rw [show payL.drop 39 = [] from rfl]; simp) rfl) $$ HC HO HR21
  iintro HO HZ21 HP21
  iapply (rcv_row I K c 2 2 39 (by rw [show payL.drop 39 = [] from rfl]; simp) rfl) $$ HC HO HR22
  iintro HO HZ22 HP22
  iapply (rcv_row I K c 2 3 39 (by rw [show payL.drop 39 = [] from rfl]; simp) rfl) $$ HC HO HR23
  iintro HO HZ23 HP23
  iapply (ld_ptRow c c (off2_eq c)) $$ HP
  iintro HP
  iapply (ld_accR I c 0 rfl) $$ HA0
  iintro HA0
  iapply (ld_accR I c 1 rfl) $$ HA1
  iintro HA1
  iapply ret
  iapply Hk $$ HO HZ21 HP21 HZ22 HP22 HZ23 HP23 HP HA0 HA1

/-! The result is written, and the own sends are waited for. -/

theorem p61 {Y : FVec F S64x2048 .f32} {Φ : _ → Asn F} :
    Ctx I K ⊢ iprop(Ow c 39
  -∗ At c cc0_scratch4 (slotR 2) fullShare (accR I c)
  -∗ Al c cc0_stg1_0 Y
  -∗ Fl c 0 (.ag 0)
  -∗ Fl c 1 (.ag 0)
  -∗ Fl c 2 (.ag 0)
  -∗ Fl c 0 (.ag 1)
  -∗ (Ow c 39 -∗ At c cc0_scratch4 (slotR 2) fullShare (accR I c) -∗ Al c cc0_stg1_0 (outB I c) -∗ Z c (.tx 0 (.ag 0)) -∗ txPay I c 0 (.ag 0) -∗ Z c (.tx 1 (.ag 0)) -∗ txPay I c 1 (.ag 0) -∗ Z c (.tx 2 (.ag 0)) -∗ txPay I c 2 (.ag 0) -∗ Z c (.tx 0 (.ag 1)) -∗ txPay I c 0 (.ag 1) -∗ Φ ⟨⟩)
  -∗ WP c (On (k0_part61 (F := F)) c (k0_pay34 (rowBlk (pt I 2 c) c) (accRBlk I c 0) (accRBlk I c 1))) Φ) := by
  simp only [k0_part61_eq_skeleton]; unfold k0_part61_skel
  simp only [semSignalWord, semWaitWord, Prog.lift, Prog.bind_op, Prog.bind_ret, Prog.pure_eq_ret]
  iintro #HC HO HA2 HY HL0 HL1 HL2 HL3 Hk
  iapply (ld_accR I c 2 rfl) $$ HA2
  iintro HA2
  iapply (ldE_out c) $$ HY
  iintro HY %_
  iapply (st_out c) $$ HY
  iintro HY
  ihave HY := (show Al c cc0_stg1_0 (k0_pay35 (k0_pay34 (rowBlk (pt I 2 c) c) (accRBlk I c 0) (accRBlk I c 1)) (accRBlk I c 2)) ⊢ Al c cc0_stg1_0 (outB I c) from Entails.refl _) $$ HY
  iapply (sw_ag I K c 0 0 rfl) $$ HC HO HL0
  iintro HO HZ0 HQ0
  iapply (sw_ag I K c 1 0 rfl) $$ HC HO HL1
  iintro HO HZ1 HQ1
  iapply (sw_ag I K c 2 0 rfl) $$ HC HO HL2
  iintro HO HZ2 HQ2
  iapply (sw_ag I K c 0 1 rfl) $$ HC HO HL3
  iintro HO HZ3 HQ3
  iapply ret
  iapply Hk $$ HO HA2 HY HZ0 HQ0 HZ1 HQ1 HZ2 HQ2 HZ3 HQ3

theorem p62 {Φ : _ → Asn F} :
    Ctx I K ⊢ iprop(Ow c 39
  -∗ Fl c 1 (.ag 1)
  -∗ Fl c 2 (.ag 1)
  -∗ Fl c 0 (.ag 2)
  -∗ Fl c 1 (.ag 2)
  -∗ Fl c 2 (.ag 2)
  -∗ (Ow c 39 -∗ Z c (.tx 1 (.ag 1)) -∗ txPay I c 1 (.ag 1) -∗ Z c (.tx 2 (.ag 1)) -∗ txPay I c 2 (.ag 1) -∗ Z c (.tx 0 (.ag 2)) -∗ txPay I c 0 (.ag 2) -∗ Z c (.tx 1 (.ag 2)) -∗ txPay I c 1 (.ag 2) -∗ Z c (.tx 2 (.ag 2)) -∗ txPay I c 2 (.ag 2) -∗ Φ ⟨⟩)
  -∗ WP c (On (k0_part62 (F := F)) c) Φ) := by
  simp only [k0_part62_eq_skeleton]; unfold k0_part62_skel
  simp only [semSignalWord, semWaitWord, Prog.lift, Prog.bind_op, Prog.bind_ret, Prog.pure_eq_ret]
  iintro #HC HO HL4 HL5 HL6 HL7 HL8 Hk
  iapply (sw_ag I K c 1 1 rfl) $$ HC HO HL4
  iintro HO HZ4 HQ4
  iapply (sw_ag I K c 2 1 rfl) $$ HC HO HL5
  iintro HO HZ5 HQ5
  iapply (sw_ag I K c 0 2 rfl) $$ HC HO HL6
  iintro HO HZ6 HQ6
  iapply (sw_ag I K c 1 2 rfl) $$ HC HO HL7
  iintro HO HZ7 HQ7
  iapply (sw_ag I K c 2 2 rfl) $$ HC HO HL8
  iintro HO HZ8 HQ8
  iapply ret
  iapply Hk $$ HO HZ4 HQ4 HZ5 HQ5 HZ6 HQ6 HZ7 HQ7 HZ8 HQ8

theorem p63 {Φ : _ → Asn F} :
    Ctx I K ⊢ iprop(Ow c 39
  -∗ Fl c 0 (.ag 3)
  -∗ Fl c 1 (.ag 3)
  -∗ Fl c 2 (.ag 3)
  -∗ Fl c 0 (.pp 0)
  -∗ (Ow c 39 -∗ Z c (.tx 0 (.ag 3)) -∗ txPay I c 0 (.ag 3) -∗ Z c (.tx 1 (.ag 3)) -∗ txPay I c 1 (.ag 3) -∗ Z c (.tx 2 (.ag 3)) -∗ txPay I c 2 (.ag 3) -∗ Z c (.tx 0 (.pp 0)) -∗ txPay I c 0 (.pp 0) -∗ Φ ⟨⟩)
  -∗ WP c (On (k0_part63 (F := F)) c) Φ) := by
  simp only [k0_part63_eq_skeleton]; unfold k0_part63_skel
  simp only [semSignalWord, semWaitWord, Prog.lift, Prog.bind_op, Prog.bind_ret, Prog.pure_eq_ret]
  iintro #HC HO HL9 HL10 HL11 HL12 Hk
  iapply (sw_ag I K c 0 3 rfl) $$ HC HO HL9
  iintro HO HZ9 HQ9
  iapply (sw_ag I K c 1 3 rfl) $$ HC HO HL10
  iintro HO HZ10 HQ10
  iapply (sw_ag I K c 2 3 rfl) $$ HC HO HL11
  iintro HO HZ11 HQ11
  iapply (sw_pp I K c 0 0 rfl) $$ HC HO HL12
  iintro HO HZ12 HQ12
  iapply ret
  iapply Hk $$ HO HZ9 HQ9 HZ10 HQ10 HZ11 HQ11 HZ12 HQ12

theorem p64 {Φ : _ → Asn F} :
    Ctx I K ⊢ iprop(Ow c 39
  -∗ Fl c 1 (.pp 0)
  -∗ Fl c 2 (.pp 0)
  -∗ Fl c 2 (.bb 0)
  -∗ Fl c 0 (.bb 0)
  -∗ Fl c 1 (.bb 0)
  -∗ (Ow c 39 -∗ Z c (.tx 1 (.pp 0)) -∗ txPay I c 1 (.pp 0) -∗ Z c (.tx 2 (.pp 0)) -∗ txPay I c 2 (.pp 0) -∗ Z c (.tx 2 (.bb 0)) -∗ txPay I c 2 (.bb 0) -∗ Z c (.tx 0 (.bb 0)) -∗ txPay I c 0 (.bb 0) -∗ Z c (.tx 1 (.bb 0)) -∗ txPay I c 1 (.bb 0) -∗ Φ ⟨⟩)
  -∗ WP c (On (k0_part64 (F := F)) c) Φ) := by
  simp only [k0_part64_eq_skeleton]; unfold k0_part64_skel
  simp only [semSignalWord, semWaitWord, Prog.lift, Prog.bind_op, Prog.bind_ret, Prog.pure_eq_ret]
  iintro #HC HO HL13 HL14 HL15 HL16 HL17 Hk
  iapply (sw_pp I K c 1 0 rfl) $$ HC HO HL13
  iintro HO HZ13 HQ13
  iapply (sw_pp I K c 2 0 rfl) $$ HC HO HL14
  iintro HO HZ14 HQ14
  iapply (sw_bb I K c 2 0 rfl) $$ HC HO HL15
  iintro HO HZ15 HQ15
  iapply (sw_bb I K c 0 0 rfl) $$ HC HO HL16
  iintro HO HZ16 HQ16
  iapply (sw_bb I K c 1 0 rfl) $$ HC HO HL17
  iintro HO HZ17 HQ17
  iapply ret
  iapply Hk $$ HO HZ13 HQ13 HZ14 HQ14 HZ15 HQ15 HZ16 HQ16 HZ17 HQ17

theorem p65 {Φ : _ → Asn F} :
    Ctx I K ⊢ iprop(Ow c 39
  -∗ Fl c 0 (.pp 1)
  -∗ Fl c 1 (.pp 1)
  -∗ Fl c 2 (.pp 1)
  -∗ Fl c 2 (.bb 1)
  -∗ Fl c 0 (.bb 1)
  -∗ (Ow c 39 -∗ Z c (.tx 0 (.pp 1)) -∗ txPay I c 0 (.pp 1) -∗ Z c (.tx 1 (.pp 1)) -∗ txPay I c 1 (.pp 1) -∗ Z c (.tx 2 (.pp 1)) -∗ txPay I c 2 (.pp 1) -∗ Z c (.tx 2 (.bb 1)) -∗ txPay I c 2 (.bb 1) -∗ Z c (.tx 0 (.bb 1)) -∗ txPay I c 0 (.bb 1) -∗ Φ ⟨⟩)
  -∗ WP c (On (k0_part65 (F := F)) c) Φ) := by
  simp only [k0_part65_eq_skeleton]; unfold k0_part65_skel
  simp only [semSignalWord, semWaitWord, Prog.lift, Prog.bind_op, Prog.bind_ret, Prog.pure_eq_ret]
  iintro #HC HO HL18 HL19 HL20 HL21 HL22 Hk
  iapply (sw_pp I K c 0 1 rfl) $$ HC HO HL18
  iintro HO HZ18 HQ18
  iapply (sw_pp I K c 1 1 rfl) $$ HC HO HL19
  iintro HO HZ19 HQ19
  iapply (sw_pp I K c 2 1 rfl) $$ HC HO HL20
  iintro HO HZ20 HQ20
  iapply (sw_bb I K c 2 1 rfl) $$ HC HO HL21
  iintro HO HZ21 HQ21
  iapply (sw_bb I K c 0 1 rfl) $$ HC HO HL22
  iintro HO HZ22 HQ22
  iapply ret
  iapply Hk $$ HO HZ18 HQ18 HZ19 HQ19 HZ20 HQ20 HZ21 HQ21 HZ22 HQ22

theorem p66 {Φ : _ → Asn F} :
    Ctx I K ⊢ iprop(Ow c 39
  -∗ Fl c 1 (.bb 1)
  -∗ Fl c 0 (.row 0)
  -∗ Fl c 1 (.row 0)
  -∗ Fl c 2 (.row 0)
  -∗ Fl c 0 (.row 1)
  -∗ (Ow c 39 -∗ Z c (.tx 1 (.bb 1)) -∗ txPay I c 1 (.bb 1) -∗ Z c (.tx 0 (.row 0)) -∗ txPay I c 0 (.row 0) -∗ Z c (.tx 1 (.row 0)) -∗ txPay I c 1 (.row 0) -∗ Z c (.tx 2 (.row 0)) -∗ txPay I c 2 (.row 0) -∗ Z c (.tx 0 (.row 1)) -∗ txPay I c 0 (.row 1) -∗ Φ ⟨⟩)
  -∗ WP c (On (k0_part66 (F := F)) c) Φ) := by
  simp only [k0_part66_eq_skeleton]; unfold k0_part66_skel
  simp only [semSignalWord, semWaitWord, Prog.lift, Prog.bind_op, Prog.bind_ret, Prog.pure_eq_ret]
  iintro #HC HO HL23 HL24 HL25 HL26 HL27 Hk
  iapply (sw_bb I K c 1 1 rfl) $$ HC HO HL23
  iintro HO HZ23 HQ23
  iapply (sw_row I K c 0 0 rfl) $$ HC HO HL24
  iintro HO HZ24 HQ24
  iapply (sw_row I K c 1 0 rfl) $$ HC HO HL25
  iintro HO HZ25 HQ25
  iapply (sw_row I K c 2 0 rfl) $$ HC HO HL26
  iintro HO HZ26 HQ26
  iapply (sw_row I K c 0 1 rfl) $$ HC HO HL27
  iintro HO HZ27 HQ27
  iapply ret
  iapply Hk $$ HO HZ23 HQ23 HZ24 HQ24 HZ25 HQ25 HZ26 HQ26 HZ27 HQ27

theorem p67 {Φ : _ → Asn F} :
    Ctx I K ⊢ iprop(Ow c 39
  -∗ Fl c 1 (.row 1)
  -∗ Fl c 2 (.row 1)
  -∗ Fl c 0 (.row 2)
  -∗ Fl c 1 (.row 2)
  -∗ (Ow c 39 -∗ Z c (.tx 1 (.row 1)) -∗ txPay I c 1 (.row 1) -∗ Z c (.tx 2 (.row 1)) -∗ txPay I c 2 (.row 1) -∗ Z c (.tx 0 (.row 2)) -∗ txPay I c 0 (.row 2) -∗ Z c (.tx 1 (.row 2)) -∗ txPay I c 1 (.row 2) -∗ Φ ⟨⟩)
  -∗ WP c (On (k0_part67 (F := F)) c) Φ) := by
  simp only [k0_part67_eq_skeleton]; unfold k0_part67_skel
  simp only [semSignalWord, semWaitWord, Prog.lift, Prog.bind_op, Prog.bind_ret, Prog.pure_eq_ret]
  iintro #HC HO HL28 HL29 HL30 HL31 Hk
  iapply (sw_row I K c 1 1 rfl) $$ HC HO HL28
  iintro HO HZ28 HQ28
  iapply (sw_row I K c 2 1 rfl) $$ HC HO HL29
  iintro HO HZ29 HQ29
  iapply (sw_row I K c 0 2 rfl) $$ HC HO HL30
  iintro HO HZ30 HQ30
  iapply (sw_row I K c 1 2 rfl) $$ HC HO HL31
  iintro HO HZ31 HQ31
  iapply ret
  iapply Hk $$ HO HZ28 HQ28 HZ29 HQ29 HZ30 HQ30 HZ31 HQ31

end Cert.KernelIdeal.Mlp

end
-- ==== Proof.Ideal.Main.lean ====
/-
  The kernel up to its last sum, one part after another.
-/
module

public import proofs.«01_k».proof.Proof.Ideal.Ends
public import proofs.«01_k».proof.Proof.Ideal.Parts

@[expose] public section

noncomputable section

namespace Cert.KernelIdeal.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Inp F) (K : Dev nD × Role → ℕ) (c : Dev nD)

set_option maxHeartbeats 4000000 in
set_option maxRecDepth 8192 in
/-- Everything up to the last sum, the own sends not waited for. -/
theorem main68 {H : FVec F S256x4096 .f32} {fI0 fI1 : FVec F S2x512x4096 .f32} {fO0 fO1 : FVec F S2x4096x512 .f32}
    {Φ : _ → Asn F} :
    Ctx I K ⊢ iprop(Ow c 0
  -∗ dutyTok ER (cell (nb c 0) .bar) 0 (rev 0)
  -∗ dutyTok ER (cell (nb c 1) .bar) 0 (rev 1)
  -∗ dutyTok ER (cell (nb c 2) .bar) 0 (rev 2)
  -∗ cred (tallyAt (cell c .bar) () 3)
  -∗ atPos ER (cell c .bar) 0 ∅ 0
  -∗ Al c cc0_stg0_0 (I.x c)
  -∗ AtE c cc0_scratch0 (rowS c)
  -∗ AtE c cc0_scratch0 (rowS (nb c 0))
  -∗ AtE c cc0_scratch0 (rowS (nb c 1))
  -∗ AtE c cc0_scratch0 (rowS (nb c 2))
  -∗ AtE c cc0_scratch3 (slotC 0)
  -∗ AtE c cc0_scratch3 (slotC 1)
  -∗ AtE c cc0_scratch3 (slotC 2)
  -∗ AtE c cc0_scratch4 (slotR 0)
  -∗ AtE c cc0_scratch4 (slotR 1)
  -∗ AtE c cc0_scratch4 (slotR 2)
  -∗ Al c cc0_scratch1 H
  -∗ AtE c cc0_scratch2 (colS c)
  -∗ AtE c cc0_scratch2 (colS (nb c 0))
  -∗ AtE c cc0_scratch2 (colS (nb c 1))
  -∗ AtE c cc0_scratch2 (colS (nb c 2))
  -∗ SI c 0 fI0
  -∗ SI c 1 fI1
  -∗ SO c 0 fO0
  -∗ SO c 1 fO1
  -∗ HI I c mI0 0 0
  -∗ HI I c mI0 0 1
  -∗ HI I c mI1 1 0
  -∗ HI I c mI1 1 1
  -∗ HI I c mI2 2 0
  -∗ HI I c mI2 2 1
  -∗ HO I c mO0 0 0
  -∗ HO I c mO0 0 1
  -∗ HO I c mO1 1 0
  -∗ HO I c mO1 1 1
  -∗ HO I c mO2 2 0
  -∗ HO I c mO2 2 1
  -∗ (T3 fun q => Tx c q (.ag 0))
  -∗ (T3 fun q => Tx c q (.ag 1))
  -∗ (T3 fun q => Tx c q (.ag 2))
  -∗ (T3 fun q => Tx c q (.ag 3))
  -∗ (T3 fun q => Tx c q (.pp 0))
  -∗ (T3 fun q => Tx c q (.pp 1))
  -∗ (T3 fun q => Tx c q (.bb 0))
  -∗ (T3 fun q => Tx c q (.bb 1))
  -∗ (T3 fun q => Tx c q (.row 0))
  -∗ (T3 fun q => Tx c q (.row 1))
  -∗ (T3 fun q => Tx c q (.row 2))
  -∗ (T3 fun q => Tx c q (.row 3))
  -∗ (T3 fun j => Rx c j (.ag 0))
  -∗ (T3 fun j => Rx c j (.ag 1))
  -∗ (T3 fun j => Rx c j (.ag 2))
  -∗ (T3 fun j => Rx c j (.ag 3))
  -∗ (T3 fun j => Rx c j (.pp 0))
  -∗ (T3 fun j => Rx c j (.pp 1))
  -∗ (T3 fun j => Rx c j (.bb 0))
  -∗ (T3 fun j => Rx c j (.bb 1))
  -∗ (T3 fun j => Rx c j (.row 0))
  -∗ (T3 fun j => Rx c j (.row 1))
  -∗ (T3 fun j => Rx c j (.row 2))
  -∗ (T3 fun j => Rx c j (.row 3))
  -∗ (Ow c 39
        -∗ Z c .bar
        -∗ (T3 fun j => Z c (.rx j (.ag 0)))
        -∗ (T3 fun j => Z c (.rx j (.ag 1)))
        -∗ (T3 fun j => Z c (.rx j (.ag 2)))
        -∗ (T3 fun j => Z c (.rx j (.ag 3)))
        -∗ (T3 fun j => Z c (.rx j (.pp 0)))
        -∗ (T3 fun j => Z c (.rx j (.pp 1)))
        -∗ (T3 fun j => Z c (.rx j (.bb 0)))
        -∗ (T3 fun j => Z c (.rx j (.bb 1)))
        -∗ (T3 fun j => Z c (.rx j (.row 0)))
        -∗ (T3 fun j => Z c (.rx j (.row 1)))
        -∗ (T3 fun j => Z c (.rx j (.row 2)))
        -∗ (T3 fun j => Z c (.rx j (.row 3)))
        -∗ (T3 fun q => Fl c q (.ag 0))
        -∗ (T3 fun q => Fl c q (.ag 1))
        -∗ (T3 fun q => Fl c q (.ag 2))
        -∗ (T3 fun q => Fl c q (.ag 3))
        -∗ (T3 fun q => Fl c q (.pp 0))
        -∗ (T3 fun q => Fl c q (.pp 1))
        -∗ (T3 fun q => Fl c q (.bb 0))
        -∗ (T3 fun q => Fl c q (.bb 1))
        -∗ (T3 fun q => Fl c q (.row 0))
        -∗ (T3 fun q => Fl c q (.row 1))
        -∗ (T3 fun q => Fl c q (.row 2))
        -∗ (T3 fun q => Fl c q (.row 3))
        -∗ At c cc0_stg0_0 Finset.univ sh0 (I.x c)
        -∗ At c cc0_scratch0 (colS c) sh0 (xs I 2)
        -∗ At c cc0_scratch0 (colS (nb c 0)) fullShare (xs I 2)
        -∗ At c cc0_scratch0 (colS (nb c 1)) fullShare (xs I 2)
        -∗ At c cc0_scratch0 (colS (nb c 2)) fullShare (xs I 2)
        -∗ Al c cc0_scratch1 (act I (xs I 2) 2 c)
        -∗ At c cc0_scratch2 (rowS c) fullShare (pt I 2 c)
        -∗ At c cc0_scratch3 (slotC 0) fullShare (accC I (xs I 1) 1 c)
        -∗ At c cc0_scratch3 (slotC 1) fullShare (accC I (xs I 1) 1 c)
        -∗ At c cc0_scratch3 (slotC 2) fullShare (accC I (xs I 1) 1 c)
        -∗ At c cc0_scratch4 (slotR 0) fullShare (accR I c)
        -∗ At c cc0_scratch4 (slotR 1) fullShare (accR I c)
        -∗ At c cc0_scratch4 (slotR 2) fullShare (accR I c)
        -∗ SI c 0 (winStg I 2 c (nb c 2))
        -∗ SI c 1 (winStg I 2 c (nb c 1))
        -∗ SO c 0 (woutStg I 2 c 2)
        -∗ SO c 1 (woutStg I 2 c 3)
        -∗ HI I c mI0 0 0
        -∗ HI I c mI0 0 1
        -∗ HI I c mI1 1 0
        -∗ HI I c mI1 1 1
        -∗ HI I c mI2 2 0
        -∗ HI I c mI2 2 1
        -∗ HO I c mO0 0 0
        -∗ HO I c mO0 0 1
        -∗ HO I c mO1 1 0
        -∗ HO I c mO1 1 1
        -∗ HO I c mO2 2 0
        -∗ HO I c mO2 2 1
        -∗ Φ ⟨c, k0_pay34 (rowBlk (pt I 2 c) c) (accRBlk I c 0) (accRBlk I c 1)⟩)
  -∗ WP c (On (k0_part68 (F := F))) Φ) := by
  simp only [k0_part68_eq_skeleton]; unfold k0_part68_skel
  iintro #HC HO Hb0 Hb1 Hb2 Hcr Hat HX F0 F1 F2 F3 C0 C1 C2 R0 R1 R2 HH Pc P0 P1 P2 SI0 SI1 SO0 SO1 WI00 WI01 WI10 WI11 WI20 WI21 WO00 WO01 WO10 WO11 WO20 WO21 Tag0 Tag1 Tag2 Tag3 Tpp0 Tpp1 Tbb0 Tbb1 Trow0 Trow1 Trow2 Trow3 Rag0 Rag1 Rag2 Rag3 Rpp0 Rpp1 Rbb0 Rbb1 Rrow0 Rrow1 Rrow2 Rrow3 Hk
  iapply seq
  iapply (p1 I c) $$ SI0 WI00
  iintro FI0 %w1_0 %w1_1 %w1_2
  iapply seq
  iapply (p2 I K c) $$ HC SI1 WI01 SO0 WO00 SO1 WO01 HO Hb0 F1 C0 R0
  iintro FI1 FO0 FO1 HO %w2_0
  iapply seq
  iapply (p3 I K c) $$ HC HO Hb1 F2 C1 R1 Hb2 F3 C2 R2 Hcr Hat HX F0
  iintro HO Zb B0 B1 B2 HX F0
  ihave HT := (tickets I c) $$ B0 B1 B2 HX Tag0 Tag1 Tag2 Tag3
  icases HT with ⟨⟨Gag0, Gag1, Gag2, Gag3⟩, HX, ⟨D0, D1, D2⟩, ⟨RD0, RD1, RD2, RD3⟩⟩
  icases Gag0 with ⟨T0ag0, T1ag0, T2ag0⟩
  icases Gag1 with ⟨T0ag1, T1ag1, T2ag1⟩
  icases Gag2 with ⟨T0ag2, T1ag2, T2ag2⟩
  icases Gag3 with ⟨T0ag3, T1ag3, T2ag3⟩
  ihave F0 := (own_blks I c) $$ F0
  icases F0 with ⟨O0, O1, O2, O3⟩
  icases RD0 with ⟨RD00, RD10, RD20⟩
  icases RD1 with ⟨RD01, RD11, RD21⟩
  icases RD2 with ⟨RD02, RD12, RD22⟩
  icases RD3 with ⟨RD03, RD13, RD23⟩
  iapply seq
  iapply (p4 I K c) $$ HC HO T0ag0
  iintro HO L0ag0 %w4_0
  iapply seq
  iapply (p5 I K c) $$ HC HO T1ag0 T2ag0
  iintro HO L1ag0 L2ag0 %w5_0 %w5_1 %w5_2
  ihave FLag0 := pk3 $$ L0ag0 L1ag0 L2ag0
  iapply seq
  iapply (p6 I K c) $$ HC HO T0ag1
  iintro HO L0ag1
  iapply seq
  iapply (p7 I K c) $$ HC HO T1ag1 T2ag1
  iintro HO L1ag1 L2ag1 %w7_0
  ihave FLag1 := pk3 $$ L0ag1 L1ag1 L2ag1
  iapply seq
  iapply (p8 I K c) $$ HC HO T0ag2 T1ag2
  iintro HO L0ag2 L1ag2 %w8_0 %w8_1 %w8_2
  iapply seq
  iapply (p9 I K c) $$ HC HO T2ag2
  iintro HO L2ag2
  ihave FLag2 := pk3 $$ L0ag2 L1ag2 L2ag2
  iapply seq
  iapply (p10 I K c) $$ HC HO T0ag3 T1ag3
  iintro HO L0ag3 L1ag3 %w10_0 %w10_1 %w10_2 %w10_3 %w10_4
  iapply seq
  iapply (p11 I K c) $$ HC HO T2ag3
  iintro HO L2ag3 %w11_0 %w11_1
  ihave FLag3 := pk3 $$ L0ag3 L1ag3 L2ag3
  iapply seq
  iapply p12
  iintro %w12_0 %w12_1 %w12_2 %w12_3 %w12_4 %w12_5 %w12_6
  icases Rag0 with ⟨R0ag0, R1ag0, R2ag0⟩
  icases Rag1 with ⟨R0ag1, R1ag1, R2ag1⟩
  icases Rag2 with ⟨R0ag2, R1ag2, R2ag2⟩
  icases Rag3 with ⟨R0ag3, R1ag3, R2ag3⟩
  iapply seq
  iapply (p13 I K c) $$ HC HO R0ag0
  iintro HO Z0ag0 G0 %w13_0 %w13_1 %w13_2 %w13_3
  iapply seq
  iapply (p14 I K c) $$ HC HO R1ag0 R2ag0
  iintro HO Z1ag0 G1 Z2ag0 G2
  ihave ZRag0 := pk3 $$ Z0ag0 Z1ag0 Z2ag0
  ihave XF0 := (colS_asm I c 0) $$ O0 G0 G1 G2
  iapply seq
  iapply (p15 I K c) $$ HC HO FI0 XF0 HH
  iintro HO XF0 HH FI0 %w15_0 %w15_1 %w15_2
  iapply seq
  iapply (p16 I K c) $$ HC HO R0ag1 R1ag1
  iintro HO Z0ag1 G0 Z1ag1 G1 %w16_0 %w16_1 %w16_2
  iapply seq
  iapply (p17 I K c) $$ HC HO R2ag1 O1 G0 G1 FI1 HH
  iintro HO Z2ag1 XF1 SI1 WI01 HH
  ihave ZRag1 := pk3 $$ Z0ag1 Z1ag1 Z2ag1
  iapply seq
  iapply (p18 I K c) $$ HC HO SI1 WI01 HH R0ag2
  iintro HO FI1 HH Z0ag2 G0 %w18_0 %w18_1 %w18_2 %w18_3
  iapply seq
  iapply (p19 I K c) $$ HC HO R1ag2
  iintro HO Z1ag2 G1
  iapply seq
  iapply (p20 I K c) $$ HC HO R2ag2 O2 G0 G1 FI0 HH
  iintro HO Z2ag2 XF2 SI0 WI00 HH
  ihave ZRag2 := pk3 $$ Z0ag2 Z1ag2 Z2ag2
  iapply seq
  iapply (p21 I K c) $$ HC HO R0ag3 R1ag3
  iintro HO Z0ag3 G0 Z1ag3 G1 %w21_0 %w21_1
  iapply seq
  iapply (p22 I K c) $$ HC HO R2ag3 O3 G0 G1 FI1 HH
  iintro HO Z2ag3 XF3 SI1 WI01 HH
  ihave ZRag3 := pk3 $$ Z0ag3 Z1ag3 Z2ag3
  ihave XF0 := wk c $$ XF0
  ihave XF1 := wk c $$ XF1
  ihave XF2 := wk c $$ XF2
  ihave XF3 := wk c $$ XF3
  ihave XE := (cols_own c cc0_scratch0 colS) $$ XF0 XF1 XF2 XF3
  icases XE with ⟨Ec, E0, E1, E2⟩
  icases Tpp0 with ⟨T0pp0, T1pp0, T2pp0⟩
  icases Rpp0 with ⟨R0pp0, R1pp0, R2pp0⟩
  icases Tbb0 with ⟨T0bb0, T1bb0, T2bb0⟩
  icases Rbb0 with ⟨R0bb0, R1bb0, R2bb0⟩
  icases Tpp1 with ⟨T0pp1, T1pp1, T2pp1⟩
  icases Rpp1 with ⟨R0pp1, R1pp1, R2pp1⟩
  icases Tbb1 with ⟨T0bb1, T1bb1, T2bb1⟩
  icases Rbb1 with ⟨R0bb1, R1bb1, R2bb1⟩
  iapply seq
  iapply (p23 I K c) $$ HC HO HH SI0 WI10 SI1 WI11 FO0
  iintro HO HH FI0 FI1 SO0 WO00
  iapply seq
  iapply (p24 I K c) $$ HC HO P0 SO0 WO00 T0pp0 D0 E0 FO1
  iintro HO FO0 L0pp0 SO1 WO01
  iapply seq
  iapply (p25 I K c) $$ HC HO HH SO1 P1 WO01 T1pp0 D1 E1
  iintro HO HH FO1 L1pp0
  iapply seq
  iapply (p26 I K c) $$ HC HO HH FO0 P2 T2pp0 D2 E2 FO1
  iintro HO HH SO0 WO00 L2pp0 SO1 WO01
  ihave FLpp0 := pk3 $$ L0pp0 L1pp0 L2pp0
  iapply seq
  iapply (p27 I K c) $$ HC HO SO1 Pc R0pp0 R1pp0
  iintro HO SO1 Pc Z0pp0 G0 Z1pp0 G1
  ihave G0 := (rx_pp0 I c 0) $$ G0
  icases G0 with ⟨A0, B0, E0⟩
  ihave G1 := (rx_pp0 I c 1) $$ G1
  icases G1 with ⟨A1, B1, E1⟩
  iapply seq
  iapply (p28 I K c) $$ HC HO R2pp0 Pc A0 A1 Ec
  iintro HO Z2pp0 Pc A0 A1 A2 B2 E2 Xc %w28_0 %w28_1 %w28_2 %w28_3 %w28_4
  ihave ZRpp0 := pk3 $$ Z0pp0 Z1pp0 Z2pp0
  ihave Xc := (share4 c (b := cc0_scratch0) (colS c) (xs I 1)).1 $$ Xc
  icases Xc with ⟨Xc, S0, S1, S2⟩
  ihave Pc := wk c $$ Pc
  ihave A0 := wk c $$ A0
  ihave A1 := wk c $$ A1
  ihave A2 := wk c $$ A2
  iapply seq
  iapply (p29 I K c) $$ HC HO T2bb0 S2 E2 B2 A2
  iintro HO L2bb0
  iapply seq
  iapply (p30 I K c) $$ HC HO T0bb0 S0 E0 B0 A0 T1bb0 S1 E1 B1 A1 SO0 WO10
  iintro HO L0bb0 L1bb0 FO0
  ihave FLbb0 := pk3 $$ L0bb0 L1bb0 L2bb0
  iapply seq
  iapply (p31 I K c) $$ HC HO SO1 WO11 FI0 Xc HH
  iintro HO FO1 Xc HH FI0
  iapply seq
  iapply (p32 I K c) $$ HC HO R0bb0 FI1 HH
  iintro HO Z0bb0 X0 P0 Y0 D0 HH FI1
  iapply seq
  iapply (p33 I K c) $$ HC HO R2bb0 FI0 HH
  iintro HO Z2bb0 X2 P2 Y2 D2 HH SI0 WI10
  iapply seq
  iapply (p34 I K c) $$ HC HO R1bb0 FI1 HH
  iintro HO Z1bb0 X1 P1 Y1 D1 HH SI1 WI11
  ihave ZRbb0 := pk3 $$ Z0bb0 Z1bb0 Z2bb0
  ihave E0 := wk c $$ X0
  ihave E1 := wk c $$ X1
  ihave E2 := wk c $$ X2
  iapply seq
  iapply (p35 I K c) $$ HC HO SI0 WI20 SI1 WI21 FO0 HH P0
  iintro HO FI0 FI1 SO0 WO10 HH P0
  iapply seq
  iapply (p36 I K c) $$ HC HO SO0 WO10 P0 T0pp1 D0 E0 Y0 FO1 HH P1
  iintro HO FO0 L0pp1 SO1 WO11 HH P1
  iapply seq
  iapply (p37 I K c) $$ HC HO SO1 WO11 P1 T1pp1 D1 E1 Y1 FO0 HH P2
  iintro HO FO1 L1pp1 SO0 WO10 HH P2
  iapply seq
  iapply (p38 I K c) $$ HC HO P2 T2pp1 D2 E2 Y2 FO1 HH Pc
  iintro HO L2pp1 SO1 WO11 HH Pc
  ihave FLpp1 := pk3 $$ L0pp1 L1pp1 L2pp1
  iapply seq
  iapply (p39 I K c) $$ HC HO R0pp1 R1pp1 R2pp1 Pc
  iintro HO Z0pp1 G0 Z1pp1 G1 Z2pp1 G2 Pc
  ihave ZRpp1 := pk3 $$ Z0pp1 Z1pp1 Z2pp1
  ihave G0 := (rx_pp1 I c 0) $$ G0
  icases G0 with ⟨A0, B0, E0, S0⟩
  ihave G1 := (rx_pp1 I c 1) $$ G1
  icases G1 with ⟨A1, B1, E1, S1⟩
  ihave G2 := (rx_pp1 I c 2) $$ G2
  icases G2 with ⟨A2, B2, E2, S2⟩
  ihave Xc := (share4_join c (b := cc0_scratch0) (colS c) (xs I 1)) $$ Xc S0 S1 S2
  iapply seq
  iapply (p40 I c) $$ A0 A1 A2 Xc
  iintro A0 A1 A2 Xc
  ihave Xc := (share4 c (b := cc0_scratch0) (colS c) (xs I 2)).1 $$ Xc
  icases Xc with ⟨Xc, S0, S1, S2⟩
  iapply seq
  iapply (p41 I K c) $$ HC HO T2bb1 S2 E2 B2 T0bb1 S0 E0 B0
  iintro HO L2bb1 L0bb1 %w41_0
  iapply seq
  iapply (p42 I K c) $$ HC HO T1bb1 S1 E1 B1 SO0 WO20 SO1 WO21 FI0
  iintro HO L1bb1 FO0 FO1 SI0 WI20 %w42_0
  ihave FLbb1 := pk3 $$ L0bb1 L1bb1 L2bb1
  iapply seq
  iapply (p43 I K c) $$ HC HO Xc SI0 WI20 HH R0bb1 FI1
  iintro HO Xc HH FI0 Z0bb1 X0 P0 SI1 WI21 %w43_0
  iapply seq
  iapply (p44 I K c) $$ HC HO X0 SI1 WI21 HH R2bb1
  iintro HO X0 HH FI1 Z2bb1 X2 P2
  iapply seq
  iapply (p45 I K c) $$ HC HO FI0 X2 HH R1bb1 FI1
  iintro HO X2 HH SI0 WI20 Z1bb1 X1 P1 SI1 WI21
  ihave ZRbb1 := pk3 $$ Z0bb1 Z1bb1 Z2bb1
  ihave Pc := wk c $$ Pc
  ihave PE := (cols_ord c cc0_scratch2 colS) $$ Pc P0 P1 P2
  icases PE with ⟨Q0, Q1, Q2, Q3⟩
  icases Trow0 with ⟨T0row0, T1row0, T2row0⟩
  icases Rrow0 with ⟨R0row0, R1row0, R2row0⟩
  icases Trow1 with ⟨T0row1, T1row1, T2row1⟩
  icases Rrow1 with ⟨R0row1, R1row1, R2row1⟩
  icases Trow2 with ⟨T0row2, T1row2, T2row2⟩
  icases Rrow2 with ⟨R0row2, R1row2, R2row2⟩
  icases Trow3 with ⟨T0row3, T1row3, T2row3⟩
  icases Rrow3 with ⟨R0row3, R1row3, R2row3⟩
  iapply seq
  iapply (p46 I K c) $$ HC HO X1 SI1 HH FO0 Q0
  iintro HO X1 SI1 HH SO0 WO20 Q0
  ihave Q0 := (pt_blks I c 0) $$ Q0
  icases Q0 with ⟨N0, U0, U1, U2⟩
  iapply seq
  iapply (p47 I K c) $$ HC HO SO0 WO20 T0row0 U0 RD00
  iintro HO FO0 L0row0 %w47_0 %w47_1 %w47_2
  iapply seq
  iapply (p48 I K c) $$ HC HO T1row0 U1 RD10
  iintro HO L1row0
  iapply seq
  iapply (p49 I K c) $$ HC HO T2row0 U2 RD20 FO1 HH Q1
  iintro HO L2row0 HH FO1 Q1 %w49_0 %w49_1 %w49_2
  ihave FLrow0 := pk3 $$ L0row0 L1row0 L2row0
  ihave Q1 := (pt_blks I c 1) $$ Q1
  icases Q1 with ⟨N1, U0, U1, U2⟩
  iapply seq
  iapply (p50 I K c) $$ HC HO T0row1 U0 RD01
  iintro HO L0row1
  iapply seq
  iapply (p51 I K c) $$ HC HO T1row1 U1 RD11 T2row1 U2 RD21
  iintro HO L1row1 L2row1
  ihave FLrow1 := pk3 $$ L0row1 L1row1 L2row1
  iapply seq
  iapply (p52 I K c) $$ HC HO FO0 HH Q2 T0row2 RD02
  iintro HO HH SO0 WO20 N2 U1 U2 L0row2 %w52_0 %w52_1
  iapply seq
  iapply (p53 I K c) $$ HC HO T1row2 U1 RD12
  iintro HO L1row2 %w53_0
  iapply seq
  iapply (p54 I K c) $$ HC HO T2row2 U2 RD22 FO1 HH Q3
  iintro HO L2row2 HH SO1 WO21 Q3 %w54_0 %w54_1 %w54_2 %w54_3
  ihave FLrow2 := pk3 $$ L0row2 L1row2 L2row2
  ihave Q3 := (pt_blks I c 3) $$ Q3
  icases Q3 with ⟨N3, U0, U1, U2⟩
  iapply seq
  iapply (p55 I K c) $$ HC HO T0row3 U0 RD03
  iintro HO L0row3
  iapply seq
  iapply (p56 I K c) $$ HC HO T1row3 U1 RD13 T2row3 U2 RD23
  iintro HO L1row3 L2row3
  ihave FLrow3 := pk3 $$ L0row3 L1row3 L2row3
  ihave Nr := (own_rows I c) $$ N0 N1 N2 N3
  iapply seq
  iapply (p57 I K c) $$ HC HO R0row0 R0row1 R0row2
  iintro HO Z0row0 G00 Z0row1 G01 Z0row2 G02
  iapply seq
  iapply (p58 I K c) $$ HC HO R0row3 R1row0 R1row1
  iintro HO Z0row3 G03 Z1row0 G10 Z1row1 G11
  iapply seq
  iapply (p59 I K c) $$ HC HO R1row2 R1row3 R2row0
  iintro HO Z1row2 G12 Z1row3 G13 Z2row0 G20
  ihave ZRrow0 := pk3 $$ Z0row0 Z1row0 Z2row0
  ihave K0 := (slot_rows I c 0) $$ G00 G01 G02 G03
  ihave K1 := (slot_rows I c 1) $$ G10 G11 G12 G13
  iapply seq
  iapply (p60 I K c) $$ HC HO R2row1 R2row2 R2row3 Nr K0 K1
  iintro HO Z2row1 G21 Z2row2 G22 Z2row3 G23 Nr K0 K1
  ihave ZRrow1 := pk3 $$ Z0row1 Z1row1 Z2row1
  ihave ZRrow2 := pk3 $$ Z0row2 Z1row2 Z2row2
  ihave ZRrow3 := pk3 $$ Z0row3 Z1row3 Z2row3
  ihave K2 := (slot_rows I c 2) $$ G20 G21 G22 G23
  iapply ret
  iapply Hk $$ HO Zb ZRag0 ZRag1 ZRag2 ZRag3 ZRpp0 ZRpp1 ZRbb0 ZRbb1 ZRrow0 ZRrow1 ZRrow2 ZRrow3 FLag0 FLag1 FLag2 FLag3 FLpp0 FLpp1 FLbb0 FLbb1 FLrow0 FLrow1 FLrow2 FLrow3 HX Xc X0 X1 X2 HH Nr A0 A1 A2 K0 K1 K2 SI0 SI1 SO0 SO1 WI00 WI01 WI10 WI11 WI20 WI21 WO00 WO01 WO10 WO11 WO20 WO21

end Cert.KernelIdeal.Mlp

end
-- ==== Proof.Ideal.Body.lean ====
/-
  The kernel on a device, from its start to its end.
-/
module

public import proofs.«01_k».proof.Proof.Ideal.Main

@[expose] public section

noncomputable section

namespace Cert.KernelIdeal.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (I : Inp F) (K : Dev nD × Role → ℕ) (c : Dev nD)

set_option maxHeartbeats 4000000 in
set_option maxRecDepth 8192 in
/-- The kernel on device `c`: from what it starts with to what it ends with, its result written. -/
theorem body {Φ : _ → Asn F} :
    Ctx I K ⊢ iprop(Ow c 0 -∗ Al c cc0_stg0_0 (I.x c) -∗ AtE c cc0_stg1_0 Finset.univ -∗ Begin I c
  -∗ (Ow c 39 -∗ Al c cc0_stg0_0 (I.x c) -∗ Al c cc0_stg1_0 (outB I c) -∗ Done I c -∗ Φ ⟨⟩)
  -∗ WP c (On (cc0_body (F := F))) Φ) := by
  simp only [cc0_body_eq_skeleton]; unfold cc0_body_skel
  simp only [Prog.lift, Prog.bind_op, Prog.bind_ret, Prog.pure_eq_ret]
  unfold Begin Scr Sms Wts Bx
  iintro #HC HO HX ⟨%Y, HY⟩ ⟨⟨Hb, Hcr, Hat⟩, HT, HR, ⟨F, ⟨%H, HH⟩, P, C, R, SI, SO⟩, ⟨s0, s1, s2, s3⟩, w1, w2, w3, w4, w5, w6⟩ Hk
  ihave Hb := (Entails.of_eq (tri fun q : Fin 3 => (dutyTok ER (cell (nb c q) .bar) 0 (rev q) : Asn F))) $$ Hb
  icases Hb with ⟨Hb0, Hb1, Hb2⟩
  ihave HT := (Entails.of_eq (chans fun q x => Tx c q x)) $$ HT
  icases HT with ⟨Tag0, Tag1, Tag2, Tag3, Tpp0, Tpp1, Tbb0, Tbb1, Trow0, Trow1, Trow2, Trow3⟩
  ihave HR := (Entails.of_eq (chans fun q x => Rx c q x)) $$ HR
  icases HR with ⟨Rag0, Rag1, Rag2, Rag3, Rpp0, Rpp1, Rbb0, Rbb1, Rrow0, Rrow1, Rrow2, Rrow3⟩
  ihave F := (AtE_all c (b := cc0_scratch0) rowOf) $$ F
  ihave F := (Entails.of_eq (quad c fun r => AtE (F := F) c cc0_scratch0 (rowS r))) $$ F
  icases F with ⟨F0, F1, F2, F3⟩
  ihave P := (AtE_all c (b := cc0_scratch2) colOf) $$ P
  ihave P := (Entails.of_eq (quad c fun r => AtE (F := F) c cc0_scratch2 (colS r))) $$ P
  icases P with ⟨Pc, P0, P1, P2⟩
  ihave C := (AtE_all c (b := cc0_scratch3) slotOf) $$ C
  ihave C := (Entails.of_eq (tri fun r => AtE (F := F) c cc0_scratch3 (slotC r))) $$ C
  icases C with ⟨C0, C1, C2⟩
  ihave R := (AtE_all c (b := cc0_scratch4) slotOf) $$ R
  ihave R := (Entails.of_eq (tri fun r => AtE (F := F) c cc0_scratch4 (slotR r))) $$ R
  icases R with ⟨R0, R1, R2⟩
  ihave SI := (AtE_all c (b := cc0_scratch5) slotOf) $$ SI
  ihave SI := (Entails.of_eq (duo fun r => AtE (F := F) c cc0_scratch5 (slotI r))) $$ SI
  icases SI with ⟨SI0, SI1⟩
  ihave SO := (AtE_all c (b := cc0_scratch6) slotOf) $$ SO
  ihave SO := (Entails.of_eq (duo fun r => AtE (F := F) c cc0_scratch6 (slotO r))) $$ SO
  icases SO with ⟨SO0, SO1⟩
  ihave SI0 := (si_close c 0) $$ SI0 s0
  icases SI0 with ⟨%f0, SI0⟩
  ihave SI1 := (si_close c 1) $$ SI1 s1
  icases SI1 with ⟨%f1, SI1⟩
  ihave SO0 := (so_close c 0) $$ SO0 s2
  icases SO0 with ⟨%f2, SO0⟩
  ihave SO1 := (so_close c 1) $$ SO1 s3
  icases SO1 with ⟨%f3, SO1⟩
  ihave w1 := (splitI0 I c) $$ w1
  icases w1 with ⟨WI00, WI01⟩
  ihave w4 := (splitO0 I c) $$ w4
  icases w4 with ⟨WO00, WO01⟩
  ihave w2 := (splitI1 I c) $$ w2
  icases w2 with ⟨WI10, WI11⟩
  ihave w5 := (splitO1 I c) $$ w5
  icases w5 with ⟨WO10, WO11⟩
  ihave w3 := (splitI2 I c) $$ w3
  icases w3 with ⟨WI20, WI21⟩
  ihave w6 := (splitO2 I c) $$ w6
  icases w6 with ⟨WO20, WO21⟩
  iapply seq
  iapply (main68 I K c (H := H)) $$ HC HO Hb0 Hb1 Hb2 Hcr Hat HX F0 F1 F2 F3 C0 C1 C2 R0 R1 R2 HH Pc P0 P1 P2 SI0 SI1 SO0 SO1 WI00 WI01 WI10 WI11 WI20 WI21 WO00 WO01 WO10 WO11 WO20 WO21 Tag0 Tag1 Tag2 Tag3 Tpp0 Tpp1 Tbb0 Tbb1 Trow0 Trow1 Trow2 Trow3 Rag0 Rag1 Rag2 Rag3 Rpp0 Rpp1 Rbb0 Rbb1 Rrow0 Rrow1 Rrow2 Rrow3
  iintro HO Zb ZRag0 ZRag1 ZRag2 ZRag3 ZRpp0 ZRpp1 ZRbb0 ZRbb1 ZRrow0 ZRrow1 ZRrow2 ZRrow3 FLag0 FLag1 FLag2 FLag3 FLpp0 FLpp1 FLbb0 FLbb1 FLrow0 FLrow1 FLrow2 FLrow3 HX Xc X0 X1 X2 HH Nr A0 A1 A2 K0 K1 K2 SI0 SI1 SO0 SO1 WI00 WI01 WI10 WI11 WI20 WI21 WO00 WO01 WO10 WO11 WO20 WO21
  icases FLag0 with ⟨L0ag0, L1ag0, L2ag0⟩
  icases FLag1 with ⟨L0ag1, L1ag1, L2ag1⟩
  icases FLag2 with ⟨L0ag2, L1ag2, L2ag2⟩
  icases FLag3 with ⟨L0ag3, L1ag3, L2ag3⟩
  icases FLpp0 with ⟨L0pp0, L1pp0, L2pp0⟩
  icases FLpp1 with ⟨L0pp1, L1pp1, L2pp1⟩
  icases FLbb0 with ⟨L0bb0, L1bb0, L2bb0⟩
  icases FLbb1 with ⟨L0bb1, L1bb1, L2bb1⟩
  icases FLrow0 with ⟨L0row0, L1row0, L2row0⟩
  icases FLrow1 with ⟨L0row1, L1row1, L2row1⟩
  icases FLrow2 with ⟨L0row2, L1row2, L2row2⟩
  icases FLrow3 with ⟨L0row3, L1row3, L2row3⟩
  iapply seq
  iapply (p61 I K c) $$ HC HO K2 HY L0ag0 L1ag0 L2ag0 L0ag1
  iintro HO K2 HY Z0ag0 Q0ag0 Z1ag0 Q1ag0 Z2ag0 Q2ag0 Z0ag1 Q0ag1
  iapply seq
  iapply (p62 I K c) $$ HC HO L1ag1 L2ag1 L0ag2 L1ag2 L2ag2
  iintro HO Z1ag1 Q1ag1 Z2ag1 Q2ag1 Z0ag2 Q0ag2 Z1ag2 Q1ag2 Z2ag2 Q2ag2
  iapply seq
  iapply (p63 I K c) $$ HC HO L0ag3 L1ag3 L2ag3 L0pp0
  iintro HO Z0ag3 Q0ag3 Z1ag3 Q1ag3 Z2ag3 Q2ag3 Z0pp0 Q0pp0
  iapply seq
  iapply (p64 I K c) $$ HC HO L1pp0 L2pp0 L2bb0 L0bb0 L1bb0
  iintro HO Z1pp0 Q1pp0 Z2pp0 Q2pp0 Z2bb0 Q2bb0 Z0bb0 Q0bb0 Z1bb0 Q1bb0
  iapply seq
  iapply (p65 I K c) $$ HC HO L0pp1 L1pp1 L2pp1 L2bb1 L0bb1
  iintro HO Z0pp1 Q0pp1 Z1pp1 Q1pp1 Z2pp1 Q2pp1 Z2bb1 Q2bb1 Z0bb1 Q0bb1
  iapply seq
  iapply (p66 I K c) $$ HC HO L1bb1 L0row0 L1row0 L2row0 L0row1
  iintro HO Z1bb1 Q1bb1 Z0row0 Q0row0 Z1row0 Q1row0 Z2row0 Q2row0 Z0row1 Q0row1
  iapply seq
  iapply (p67 I K c) $$ HC HO L1row1 L2row1 L0row2 L1row2
  iintro HO Z1row1 Q1row1 Z2row1 Q2row1 Z0row2 Q0row2 Z1row2 Q1row2
  iapply (sw_row I K c 2 2 rfl) $$ HC HO L2row2
  iintro HO Z2row2 Q2row2
  iapply (sw_row I K c 0 3 rfl) $$ HC HO L0row3
  iintro HO Z0row3 Q0row3
  iapply (sw_row I K c 1 3 rfl) $$ HC HO L1row3
  iintro HO Z1row3 Q1row3
  iapply (sw_row I K c 2 3 rfl) $$ HC HO L2row3
  iintro HO Z2row3 Q2row3
  ihave ZTag0 := pk3 $$ Z0ag0 Z1ag0 Z2ag0
  ihave ZTag1 := pk3 $$ Z0ag1 Z1ag1 Z2ag1
  ihave ZTag2 := pk3 $$ Z0ag2 Z1ag2 Z2ag2
  ihave ZTag3 := pk3 $$ Z0ag3 Z1ag3 Z2ag3
  ihave ZTpp0 := pk3 $$ Z0pp0 Z1pp0 Z2pp0
  ihave ZTpp1 := pk3 $$ Z0pp1 Z1pp1 Z2pp1
  ihave ZTbb0 := pk3 $$ Z0bb0 Z1bb0 Z2bb0
  ihave ZTbb1 := pk3 $$ Z0bb1 Z1bb1 Z2bb1
  ihave ZTrow0 := pk3 $$ Z0row0 Z1row0 Z2row0
  ihave ZTrow1 := pk3 $$ Z0row1 Z1row1 Z2row1
  ihave ZTrow2 := pk3 $$ Z0row2 Z1row2 Z2row2
  ihave ZTrow3 := pk3 $$ Z0row3 Z1row3 Z2row3
  ihave Qag0 := pk3 $$ Q0ag0 Q1ag0 Q2ag0
  ihave Qag1 := pk3 $$ Q0ag1 Q1ag1 Q2ag1
  ihave Qag2 := pk3 $$ Q0ag2 Q1ag2 Q2ag2
  ihave Qag3 := pk3 $$ Q0ag3 Q1ag3 Q2ag3
  ihave Qbb1 := pk3 $$ Q0bb1 Q1bb1 Q2bb1
  ihave Qrow0 := pk3 $$ Q0row0 Q1row0 Q2row0
  ihave Qrow1 := pk3 $$ Q0row1 Q1row1 Q2row1
  ihave Qrow2 := pk3 $$ Q0row2 Q1row2 Q2row2
  ihave Qrow3 := pk3 $$ Q0row3 Q1row3 Q2row3
  ihave HX := (x_join I c) $$ HX Qag0 Qag1 Qag2 Qag3
  ihave XF := (xf_join I c) $$ Xc Qbb1 X0 X1 X2
  ihave HH := wk c $$ HH
  ihave PT := (part_join I c) $$ Nr Qrow0 Qrow1 Qrow2 Qrow3
  ihave AC := (slots_join c (b := cc0_scratch3) slotOf (accC I (xs I 1) 1 c)) $$ A0 A1 A2
  ihave AR := (slots_join c (b := cc0_scratch4) slotOf (accR I c)) $$ K0 K1 K2
  ihave SI0 := (si_open c 0 _) $$ SI0
  icases SI0 with ⟨SI0, sSI0⟩
  ihave SI1 := (si_open c 1 _) $$ SI1
  icases SI1 with ⟨SI1, sSI1⟩
  ihave SO0 := (so_open c 0 _) $$ SO0
  icases SO0 with ⟨SO0, sSO0⟩
  ihave SO1 := (so_open c 1 _) $$ SO1
  icases SO1 with ⟨SO1, sSO1⟩
  ihave SI := (stages_join c (b := cc0_scratch5) slotOf _ _) $$ SI0 SI1
  ihave SO := (stages_join c (b := cc0_scratch6) slotOf _ _) $$ SO0 SO1
  ihave w1 := (joinI0 I c) $$ WI00 WI01
  ihave w4 := (joinO0 I c) $$ WO00 WO01
  ihave w2 := (joinI1 I c) $$ WI10 WI11
  ihave w5 := (joinO1 I c) $$ WO10 WO11
  ihave w3 := (joinI2 I c) $$ WI20 WI21
  ihave w6 := (joinO2 I c) $$ WO20 WO21
  iapply ret
  iapply Hk $$ HO HX HY
  unfold Done Scr Sms Wts
  isplitl [Zb]; · iexact Zb
  isplitl [ZRag0 ZRag1 ZRag2 ZRag3 ZRpp0 ZRpp1 ZRbb0 ZRbb1 ZRrow0 ZRrow1 ZRrow2 ZRrow3]
  · iapply (Entails.of_eq (chans fun q x => (Z c (.rx q x) : Asn F)).symm)
    isplitl [ZRag0]; · iexact ZRag0
    isplitl [ZRag1]; · iexact ZRag1
    isplitl [ZRag2]; · iexact ZRag2
    isplitl [ZRag3]; · iexact ZRag3
    isplitl [ZRpp0]; · iexact ZRpp0
    isplitl [ZRpp1]; · iexact ZRpp1
    isplitl [ZRbb0]; · iexact ZRbb0
    isplitl [ZRbb1]; · iexact ZRbb1
    isplitl [ZRrow0]; · iexact ZRrow0
    isplitl [ZRrow1]; · iexact ZRrow1
    isplitl [ZRrow2]; · iexact ZRrow2
    iexact ZRrow3
  isplitl [ZTag0 ZTag1 ZTag2 ZTag3 ZTpp0 ZTpp1 ZTbb0 ZTbb1 ZTrow0 ZTrow1 ZTrow2 ZTrow3]
  · iapply (Entails.of_eq (chans fun q x => (Z c (.tx q x) : Asn F)).symm)
    isplitl [ZTag0]; · iexact ZTag0
    isplitl [ZTag1]; · iexact ZTag1
    isplitl [ZTag2]; · iexact ZTag2
    isplitl [ZTag3]; · iexact ZTag3
    isplitl [ZTpp0]; · iexact ZTpp0
    isplitl [ZTpp1]; · iexact ZTpp1
    isplitl [ZTbb0]; · iexact ZTbb0
    isplitl [ZTbb1]; · iexact ZTbb1
    isplitl [ZTrow0]; · iexact ZTrow0
    isplitl [ZTrow1]; · iexact ZTrow1
    isplitl [ZTrow2]; · iexact ZTrow2
    iexact ZTrow3
  isplitl [XF HH PT AC AR SI SO]
  · isplitl [XF]; · iexact XF
    isplitl [HH]; · iexact HH
    isplitl [PT]; · iexact PT
    isplitl [AC]; · iexact AC
    isplitl [AR]; · iexact AR
    isplitl [SI]; · iexact SI
    iexact SO
  isplitl [sSI0 sSI1 sSO0 sSO1]
  · isplitl [sSI0]; · iexact sSI0
    isplitl [sSI1]; · iexact sSI1
    isplitl [sSO0]; · iexact sSO0
    iexact sSO1
  isplitl [w1]; · iexact w1
  isplitl [w2]; · iexact w2
  isplitl [w3]; · iexact w3
  isplitl [w4]; · iexact w4
  isplitl [w5]; · iexact w5
  iexact w6

end Cert.KernelIdeal.Mlp

end
-- ==== Proof.Ideal.Run.lean ====
/-
  The kernel run on all the devices: from any memory every execution ends, with the results computed and the arguments unchanged.
-/
module

public import proofs.«01_k».proof.Proof.Ideal.Ghost
public import proofs.«01_k».proof.Proof.Ideal.Body
public import proofs.«01_k».proof.Proof.Gen.KernelIdeal.Points
public import Idealize.ShloMosaic.Lib.Pipeline.Value
public import Idealize.ShloMosaic.Lib.Pipeline.CollectiveSegs

@[expose] public section

noncomputable section

namespace Cert.KernelIdeal.Mlp

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## The arguments -/

/-- A device's rows of the activations, as the kernel finds them. -/
def xstg (c : Dev nD) : FVec F S64x2048 .f32 := (win0_0.blk (0 : Fin 1)).view.read (Elt F) (m ((c : Thread nD τ).loc main_arg0))

/-- The arguments in memory. -/
def inp : Inp F where
  x c := xstg m c
  win k c := match k with
    | 0 => m (((c : Dev nD) : Thread nD τ).loc main_arg1)
    | 1 => m (((c : Dev nD) : Thread nD τ).loc main_arg2)
    | 2 => m (((c : Dev nD) : Thread nD τ).loc main_arg3)
  wout k c := match k with
    | 0 => m (((c : Dev nD) : Thread nD τ).loc main_arg4)
    | 1 => m (((c : Dev nD) : Thread nD τ).loc main_arg5)
    | 2 => m (((c : Dev nD) : Thread nD τ).loc main_arg6)

/-! ## The launch's data -/

/-- What the kernel starts with, -/
def Φ₀ (c : Dev nD) : sProp 𝕄 := iprop(start (inp m) c ∗ Scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outB (inp m) c
  Φ t := match t with
    | ⟨0, _⟩ => Φ₀ m c
    | ⟨_ + 1, _⟩ => Done (inp m) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Done (inp m) c ∗ (dats m ρ 0 c).owesAt () t0_0.succ ∗ stg c cc0_stg0_0 (xstg m c) ∗ stg c cc0_stg1_0 (outB (inp m) c))

theorem before_0 (c : Dev nD) (d) : (dats (F := F) m ρ 0 c).before (0 : Fin 2) t0_0 d = xstg m c := by
  unfold Dat.before; rw [fetch0_0 t0_0]; rfl

theorem Od_end (c : Dev nD) : Od c 39 = 0 := by
  show Ol c (payL.drop 39) = 0
  rw [show payL.drop 39 = [] from rfl]; rfl

set_option maxRecDepth 65536 in
theorem sound_body (c : Dev nD) : bodyPre m ρ c ⊢ WP c (On (cc0_body (F := F))) (fun _ => bodyPost m ρ c) := by
  unfold bodyPre bodyPost Φ₀ start Dat.owesAt Pipeline.owesWithin
  rw [show (dats m ρ 0 c).owed t0_0.castSucc = Od c 0 from rfl, show (dats m ρ 0 c).owed t0_0.succ = 0 from rfl]
  iintro ⟨⟨⟨⟨%K, #HC⟩, HB, HT, HR, Hs, HW⟩, HS⟩, ⟨%W, -, HO⟩, ⟨%d0, %g0, %e0, Hx⟩, ⟨%d1, %g1, %e1, Hy⟩⟩
  ihave Hb := (body (inp m) K c (Φ := fun _ => bodyPost m ρ c)) $$ HC
  iapply Hb $$ [HO] [Hx] [Hy] [HB HT HR Hs HW HS]
  · unfold Ow; iexists W; iexact HO
  · rw [before_0] at e0; subst e0; iexact Hx
  · iexists g1; iexact Hy
  · unfold Begin
    isplitl [HB]; · iexact HB
    isplitl [HT]; · iexact HT
    isplitl [HR]; · iexact HR
    isplitl [HS]; · iexact HS
    isplitl [Hs]; · iexact Hs
    iexact HW
  · iintro HO HX HY HD
    unfold bodyPost Ow Dat.owesAt Pipeline.owesWithin
    rw [show (dats m ρ 0 c).owed t0_0.succ = 0 from rfl, Od_end]
    icases HO with ⟨%W', HO⟩
    isplitl [HD]; · iexact HD
    isplitl [HO]
    · iexists W'
      isplitr; · ipureintro; exact fun _ _ => Or.inl trivial
      iexact HO
    isplitl [HX]
    · iexists _; isplitr; · (ipureintro; rfl)
      iexact HX
    iexists _; isplitr; · (ipureintro; rfl)
    iexact HY

set_option maxRecDepth 65536 in
/-- What the pipeline asks of the kernel. -/
theorem body_obligation (c : Dev nD) : BodyObligation (dats (F := F) m ρ 0 c) (defs₀ (F := F)) 𝒱₀ () Set.univ := fun t => by
  obtain rfl := fin_N0 t
  rw [show bigSep (Finset.univ : Finset (Fin cfg0.W)) = bigSep (M := MT nD τ sig Unit (Elt F) ℕ UU ℕ) (Finset.univ : Finset (Fin 2)) from rfl, bigSep_W0, bigSep_W0]
  simp only [owns_whole_eq]
  exact sound_body m ρ c

/-! ## The launch -/

theorem ownSemFacts : Pipeline.OwnSemFacts cfg0.spec osem := by decide

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), (initOf allCells allToks, (1 : Counters)))

theorem fund_u :
    (ownU u₀ : sProp 𝕄) ⊢ |={Set.univ}=> iprop(BI.own (EP (initOf (Pipeline.cells cfgs cellOf_inj) (Pipeline.launchToks cfgs cellOf_inj)))
      ∗ bigSep Finset.univ (G (inp m))) := by
  unfold u₀
  iintro Hu
  ihave H := (ownU_pair _ _) $$ Hu
  icases H with ⟨HP, HX⟩
  ihave HX := (show (BI.own (embR (initOf allCells allToks, (1 : Counters))) : sProp 𝕄) ⊢ BI.own (ER (initOf allCells allToks)) from Entails.refl _) $$ HX
  imod (fund_all (inp m)) $$ HX with HG
  imodintro
  isplitl [HP] <;> iassumption

theorem waits (c : Dev nD) : (levAts L lv : sProp 𝕄) ⊢ Pipeline.cellsWaits cfgs (dats m ρ) () 0 c :=
  Pipeline.cellsWaits_intro cfgs (dats m ρ) () 0 c fun w s t => by
    have hs (l : SemLoc sig) (h : ∀ r, csem r ≠ l) : lv ((c : Thread nD τ), l) () = 0 := by
      dsimp only [lv]
      rw [show roleOf l = none from by unfold roleOf Function.partialInv; rw [dif_neg (fun ⟨r, hr⟩ => h r hr)]]
    have hw : ∀ r, csem r ≠ .dma ((cfg0.win w).sem s) := by
      intro r
      cases r with
      | bar => exact fun h => by cases h
      | rx j x => exact ownSemFacts.disj (.inl (j, x)) w s
      | tx q x => exact ownSemFacts.disj (.inr (.inl (q, x))) w s
    rcases t with ⟨_ | _, ht⟩
    · exact mayWait_of c _ 0 (by rw [hs _ hw]; decide)
    · show _ ⊢ MayWait _ _ _ 0
      rw [MayWait_zero]; iintro -; iempintro

theorem hX (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start (inp m) c ∗ emp) := by
  rw [Pipeline.unscopedRestP_none, unscopedRest0_eq]
  iintro ⟨⟨H1, H2, H3, H4, H5, H6⟩, Hlev, Hcr, -, HG⟩
  imodintro
  isplitl
  · iapply (start_intro (inp m) c)
    isplitl [H1 H2 H3 H4 H5 H6]
    · unfold Wts
      isplitl [H1]; · iexact H1
      isplitl [H2]; · iexact H2
      isplitl [H3]; · iexact H3
      isplitl [H4]; · iexact H4
      isplitl [H5]; · iexact H5
      iexact H6
    isplitl [Hlev]; · iexact Hlev
    isplitl [Hcr]; · iexact Hcr
    iexact HG
  · iempintro

theorem hin (c : Dev nD) :
    iprop(start (inp m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs]; · iexact Hs
  iexact Hr

theorem hout (c : Dev nD) :
    (dats m ρ 0 c).Φ (Fin.last cfg0.N) ⊢ iprop((unscopedSems0 c ∗ Wts (inp m) c) ∗ Pipeline.ownSems0 osem c ∗ Pipeline.scopedRest cfg0.spec c) := by
  rw [show (dats m ρ 0 c).Φ (Fin.last cfg0.N) = Done (inp m) c from rfl, scopedRest0_eq, ownSems0_eq, unscopedSems0_eq]
  unfold Done Scr Sms
  iintro ⟨Hb, Hrx, Htx, HS, ⟨HI0, HI1, HO0, HO1⟩, HW⟩
  isplitl [Hb HW]
  · isplitl [Hb]; · iexact Hb
    iexact HW
  isplitr [HS]
  · isplitl [Hrx]; · iexact Hrx
    isplitl [Htx]; · iexact Htx
    isplitl [HI0 HI1]
    · isplitl [HI0]; · iexact HI0
      iexact HI1
    isplitl [HO0]; · iexact HO0
    iexact HO1
  iexact HS

/-- The weights' buffers. -/
def wref : Fin 6 → Ref sig .tc := ![main_arg1, main_arg2, main_arg3, main_arg4, main_arg5, main_arg6]

/-- What is read of the final memory beside the windows' arrays. -/
def QY (c : Dev nD) (s : MemSt nD τ sig (Elt F)) : Prop :=
  (∀ sm : SemLoc sig, sm.isScoped .tc = false → s.sem ((c.tc : Thread nD τ), sm) = 0)
    ∧ ∀ i : Fin 6, s.mem ((c : Thread nD τ).loc (wref i)) = m ((c : Thread nD τ).loc (wref i))

theorem Wts_eq (c : Dev nD) : Wts (inp m) c ⊢ bigSep Finset.univ fun i : Fin 6 => (((c : Thread nD τ).loc (wref i)) ↦{fullShare} m ((c : Thread nD τ).loc (wref i)) : sProp 𝕄) := by
  rw [bigSep_univ_eq_bigSepL [0, 1, 2, 3, 4, 5] (by decide) (by decide)]
  exact Entails.refl _

theorem hY (c : Dev nD) (s' : Phys nD τ sig (Elt F)) :
    iprop((unscopedSems0 c ∗ Wts (inp m) c) ∗ emp ∗ Idealize.ShloMosaic.SI s') ⊢ |={Set.univ}=> iprop(⌜QY m c s'.mem⌝ ∗ Idealize.ShloMosaic.SI s' : sProp 𝕄) := by
  iintro ⟨⟨Hu, HW⟩, -, HSI⟩
  ihave HW := (Wts_eq m c) $$ HW
  ihave H := (Idealize.ShloMosaic.pointsTo_read_all Finset.univ (fun i : Fin 6 => (c : Thread nD τ).loc (wref i)) (fun i => m ((c : Thread nD τ).loc (wref i))) s') $$ [HW HSI]
  · isplitl [HW] <;> iassumption
  icases H with ⟨%hw, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨hs, fun i => hw i (Finset.mem_univ i)⟩
  iexact HSI

/-! ## The run -/

/-- What the windows' arrays hold at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ ∀ i : Fin 6, r.2.mem ((c : Thread nD τ).loc (wref i)) = m ((c : Thread nD τ).loc (wref i))

set_option maxRecDepth 65536 in
/-- Every execution ends, the arrays as computed, the weights unchanged, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := fund_u m) (hglob := glob (inp m))
    (hA := fun _ _ => rfl) (hpf := fun _ k => k.elim0)
    (X := start (inp m)) (Y := fun c => iprop(unscopedSems0 c ∗ Wts (inp m) c)) (Z := fun _ => iprop(emp))
    (hX := hX m ρ) (hin := hin m ρ) (hout := hout m ρ)
    (QY := QY m) (hY := hY m)
    (hQ := fun _ h hs => ⟨fun c => ⟨fun w => (h c).1 w, (h c).2.2.2⟩, sem_eq_zero hs fun c => (h c).2.2.1⟩)

/-! ## The arrays in closed form -/

theorem final_x (c : Dev nD) : finalA m ρ c (0 : Fin 2) = m ((c : Thread nD τ).loc main_arg0) :=
  (dats (F := F) m ρ 0 c).arrAt_in (0 : Fin 2) rfl _

theorem emb_x (t : Fin 1) (y : S64x2048.Idx) : (win0_0.blk t).view.emb y = y :=
  funext fun a => Fin.ext (Window.rect_emb_val_of_index_zero win0_0 t a rfl y)
theorem emb_o (t : Fin 1) (y : S64x2048.Idx) : (win0_1.blk t).view.emb y = y :=
  funext fun a => Fin.ext (Window.rect_emb_val_of_index_zero win0_1 t a rfl y)

theorem xstg_eq (c : Dev nD) : xstg m c = m ((c : Thread nD τ).loc main_arg0) :=
  funext fun y => congrArg (m ((c : Thread nD τ).loc main_arg0)) (emb_x 0 y)

theorem final_o (c : Dev nD) : finalA m ρ c (1 : Fin 2) = outB (inp m) c :=
  (dats (F := F) m ρ 0 c).arrAt_eq_of_cover (1 : Fin 2) (outB (inp m) c)
    (fun t _ => funext fun y => (congrArg (outB (inp m) c) (emb_o t y)).symm)
    (fun i => ⟨t0_0, flush0_1 _, by
      have h := View.emb_mem_set (win0_1.blk (0 : Fin 1)).view i
      rw [emb_o] at h
      exact h⟩)

/-- Every execution ends, each device's result the computed rows, the arguments unchanged, every counter at zero. -/
theorem run : θ_run defs (onTc (τ := τ) (main (F := F))) ⟨m, fun _ => 0, ρ⟩ (fun r =>
    (∀ c : Dev nD, r.2.mem ((c : Thread nD τ).loc main_v1) = outB (inp m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
    ∧ r.2.sem = fun _ => 0) :=
  (θ_run defs _ _).mono (fun r h => ⟨fun c => ⟨((h.1 c).1 (1 : Fin 2)).trans (final_o m ρ c), ((h.1 c).1 (0 : Fin 2)).trans (final_x m ρ c),
    (h.1 c).2 0, (h.1 c).2 1, (h.1 c).2 2, (h.1 c).2 3, (h.1 c).2 4, (h.1 c).2 5⟩, h.2⟩) (run_main m ρ)

end Cert.KernelIdeal.Mlp

end
-- ==== Proof.Value.Terms.lean ====
/-
  The arithmetic of the kernel's steps at the ideal values, read at an index: a product is the sum over the contracted
  coordinate, the activation is the maximum with zero, and the shares received are added one after the other.
-/
module

public import proofs.«01_k».proof.Proof.Ideal.Values
public import Idealize.ShloMosaic.Lib.MatmulPlain
public import Idealize.ShloMosaic.Lib.Pipeline.Value
public import Idealize.ShloMosaic.Lib.Pointwise.Sums

@[expose] public section

noncomputable section

namespace Cert.KernelIdeal.Mlp

open Cert.KernelIdeal Cert.KernelIdeal.Gen
open Idealize.ShloMosaic hiding ix2 ix3
open Idealize.ShloMosaic.ValueIdx
open scoped BigOperators

/-- A matrix of extended reals. -/
abbrev Mat (M N : ℕ) : Type := FVec Ideal ⟨2, ![M, N]⟩ .f32

/-- A product onto the zero splat, at an index. -/
theorem plain_zero_apply {M K N : ℕ} (A : Mat M K) (B : Mat K N) (r : Fin M) (c : Fin N) :
    FloatOps.matmul (DotDims.plain M K N) none A B (constant ⟨2, ![M, N]⟩ .f32 0x00000000#32) (ix2 r c)
      = ∑ k : Fin K, A (ix2 r k) * B (ix2 k c) := by
  rw [Ideal.matmul_plain_apply]
  show Ideal.ofBits .f32 0x00000000#32 + _ = _
  rw [Ideal.ofBits_zero_f32, zero_add]

/-- A block with a leading unit axis dropped, at an index. -/
theorem dropUnit_apply {M N : ℕ} (v : FVec Ideal ⟨3, ![1, M, N]⟩ .f32)
    (h : (⟨3, ![1, M, N]⟩ : Shape).ShapeCasts ⟨2, ![M, N]⟩) (r : Fin M) (c : Fin N) :
    shapeCast ⟨2, ![M, N]⟩ v h (ix2 r c) = v (ix3 0 r c) := by
  refine (shapeCast_dropUnit_apply ![M, N] v h (ix2 r c)).trans (congrArg v ?_)
  funext a
  match a with
  | ⟨0, _⟩ => rfl
  | ⟨1, _⟩ => rfl
  | ⟨2, _⟩ => rfl

/-- The first product of a layer, at an index. -/
theorem pay2_apply (X : FVec Ideal S256x512 .f32) (W : FVec Ideal S1x512x4096 .f32) (r : Fin 256) (h : Fin 4096) :
    k0_pay2 X W (ix2 r h) = ∑ j : Fin 512, X (ix2 r j) * W (ix3 0 j h) := by
  unfold k0_pay2
  rw [shapeCast_self]
  refine (plain_zero_apply (M := 256) (K := 512) (N := 4096) X _ r h).trans ?_
  refine Finset.sum_congr rfl fun j _ => congrArg (X (ix2 r j) * ·) ?_
  exact dropUnit_apply W _ j h

/-- A further product of a layer added to the running sum, at an index. -/
theorem pay5_apply (X : FVec Ideal S256x512 .f32) (W : FVec Ideal S1x512x4096 .f32) (A : FVec Ideal S256x4096 .f32)
    (r : Fin 256) (h : Fin 4096) :
    k0_pay5 X W A (ix2 r h) = A (ix2 r h) + ∑ j : Fin 512, X (ix2 r j) * W (ix3 0 j h) := by
  unfold k0_pay5
  rw [shapeCast_self]
  show A (ix2 r h) + _ = _
  refine congrArg (A (ix2 r h) + ·) ?_
  refine (plain_zero_apply (M := 256) (K := 512) (N := 4096) X _ r h).trans ?_
  refine Finset.sum_congr rfl fun j _ => congrArg (X (ix2 r j) * ·) ?_
  exact dropUnit_apply W _ j h

/-- The activation, at an index. -/
theorem pay7_apply (A : FVec Ideal S256x4096 .f32) (i : S256x4096.Idx) : k0_pay7 A i = max (A i) 0 := by
  unfold k0_pay7
  rw [shapeCast_self]
  show max (A i) (Ideal.ofBits .f32 0x00000000#32) = _
  rw [Ideal.ofBits_zero_f32]

/-- The product with a block of the second weight, at an index. -/
theorem pay10_apply (A : FVec Ideal S256x4096 .f32) (V : FVec Ideal S1x4096x512 .f32) (r : Fin 256) (q : Fin 512) :
    k0_pay10 A V (ix2 r q) = ∑ h : Fin 4096, A (ix2 r h) * V (ix3 0 h q) := by
  unfold k0_pay10
  rw [shapeCast_self]
  refine (plain_zero_apply (M := 256) (K := 4096) (N := 512) A _ r q).trans ?_
  refine Finset.sum_congr rfl fun h _ => congrArg (A (ix2 r h) * ·) ?_
  exact dropUnit_apply V _ h q

/-- The sum of a device's own share and the three it received, at an index. -/
theorem pay13_apply (A : FVec Ideal S256x512 .f32) (U V W : FVec Ideal S1x256x512 .f32) (r : Fin 256) (q : Fin 512) :
    k0_pay13 A U V W (ix2 r q) = A (ix2 r q) + U (ix3 0 r q) + V (ix3 0 r q) + W (ix3 0 r q) := by
  unfold k0_pay13
  rw [shapeCast_self]
  show A (ix2 r q) + shapeCast S256x512 U _ (ix2 r q) + shapeCast S256x512 V _ (ix2 r q)
    + shapeCast S256x512 W _ (ix2 r q) = _
  rw [dropUnit_apply, dropUnit_apply, dropUnit_apply]

/-- The last sum of a device, at an index. -/
theorem pay35_apply (A : FVec Ideal S64x2048 .f32) (U V W : FVec Ideal S1x64x2048 .f32) (r : Fin 64) (q : Fin 2048) :
    k0_pay35 (k0_pay34 A U V) W (ix2 r q) = A (ix2 r q) + U (ix3 0 r q) + V (ix3 0 r q) + W (ix3 0 r q) := by
  unfold k0_pay35 k0_pay34
  show A (ix2 r q) + shapeCast S64x2048 U _ (ix2 r q) + shapeCast S64x2048 V _ (ix2 r q)
    + shapeCast S64x2048 W _ (ix2 r q) = _
  rw [dropUnit_apply, dropUnit_apply, dropUnit_apply]

/-- A sum over four times `n` coordinates, group by group. -/
theorem sum_groups {N : ℕ} (n : ℕ) (hN : 4 * n = N) (f : Fin N → EReal) :
    ∑ k : Fin N, f k = ∑ g : Fin 4, ∑ t : Fin n, f ⟨n * g.val + t.val, by
      have := g.isLt; have := t.isLt; subst hN
      calc n * g.val + t.val < n * g.val + n := by omega
        _ = n * (g.val + 1) := by rw [Nat.mul_add, Nat.mul_one]
        _ ≤ n * 4 := Nat.mul_le_mul_left _ (by omega)
        _ = 4 * n := Nat.mul_comm _ _⟩ := by
  rw [Fin.sum_univ_tiles 4 n hN f]
  refine Finset.sum_congr rfl fun g _ => Finset.sum_congr rfl fun t _ => congrArg f (Fin.ext ?_)
  show g.val * n + t.val = n * g.val + t.val
  rw [Nat.mul_comm]

/-- The groups of the contracted axis, in the order a layer takes them, are all of them. -/
theorem sum_ord (k : Fin 3) (c : Fin 4) (f : Fin 4 → EReal) :
    f (ord k c 0) + f (ord k c 1) + f (ord k c 2) + f (ord k c 3) = ∑ g, f g := by
  rw [Fin.sum_univ_four]
  match k with
  | 0 => rfl
  | 1 => match c with
    | 0 => show f 0 + f 1 + f 3 + f 2 = _; abel
    | 1 => show f 1 + f 2 + f 0 + f 3 = _; abel
    | 2 => show f 2 + f 3 + f 1 + f 0 = _; abel
    | 3 => show f 3 + f 0 + f 2 + f 1 = _; abel
  | 2 => match c with
    | 0 => show f 0 + f 1 + f 3 + f 2 = _; abel
    | 1 => show f 1 + f 2 + f 0 + f 3 = _; abel
    | 2 => show f 2 + f 3 + f 1 + f 0 = _; abel
    | 3 => show f 3 + f 0 + f 2 + f 1 = _; abel

/-- A device and the three after it are all four. -/
theorem sum_nb (c : Fin 4) (f : Fin 4 → EReal) : f c + f (nb c 0) + f (nb c 1) + f (nb c 2) = ∑ d, f d := by
  rw [Fin.sum_univ_four]
  match c with
  | 0 => show f 0 + f 1 + f 2 + f 3 = _; abel
  | 1 => show f 1 + f 2 + f 3 + f 0 = _; abel
  | 2 => show f 2 + f 3 + f 0 + f 1 = _; abel
  | 3 => show f 3 + f 0 + f 1 + f 2 = _; abel

end Cert.KernelIdeal.Mlp

end
-- ==== Proof.Value.Layer.lean ====
/-
  What a device's rows of the result are, in terms of the whole arrays the devices' inputs are cut from: three layers,
  each the product with the first weight, the maximum with zero, and the product with the second. A device's hidden
  columns are the whole hidden layer's, taken group by group; the shares of the four devices add up to the layer's
  output, whatever the order.
-/
module

public import proofs.«01_k».proof.Proof.Value.Terms

@[expose] public section

noncomputable section

namespace Cert.KernelIdeal.Mlp

open Cert.KernelIdeal Cert.KernelIdeal.Gen
open Idealize.ShloMosaic hiding ix2 ix3 eq_ix2
open Idealize.ShloMosaic.ValueIdx
open scoped BigOperators

/-- Hidden column `h` of device `c` among the 16384. -/
abbrev hcol (c : Fin 4) (h : Fin 4096) : Fin 16384 := ⟨4096 * c.val + h.val, by omega⟩

/-- Row `r` of device `c` among the 256. -/
abbrev xrow (c : Fin 4) (r : Fin 64) : Fin 256 := ⟨64 * c.val + r.val, by omega⟩

/-- Coordinate `t` of group `g` among the 2048. -/
abbrev gcol (g : Fin 4) (t : Fin 512) : Fin 2048 := ⟨512 * g.val + t.val, by omega⟩

/-- The devices' inputs are the blocks of whole arrays: rows of the activations, columns of each first weight, rows of
    each second weight. -/
structure Cut (I : Inp Ideal) (X : Mat 256 2048) (W : Fin 3 → Mat 2048 16384) (V : Fin 3 → Mat 16384 2048) : Prop where
  /-- The activations' rows. -/
  x : ∀ c r q, I.x c (ix2 r q) = X (ix2 (xrow c r) q)
  /-- The first weights' columns. -/
  win : ∀ k c j h, I.win k c (ix2 j h) = W k (ix2 j (hcol c h))
  /-- The second weights' rows. -/
  wout : ∀ k c h q, I.wout k c (ix2 h q) = V k (ix2 (hcol c h) q)

/-- The whole hidden layer: the product with the first weight, then the maximum with zero. -/
def hidden (X : Mat 256 2048) (W : Mat 2048 16384) (r : Fin 256) (h : Fin 16384) : EReal :=
  max (∑ j : Fin 2048, X (ix2 r j) * W (ix2 j h)) 0

/-- A whole layer: the hidden layer's product with the second weight. -/
def layer (X : Mat 256 2048) (W : Mat 2048 16384) (V : Mat 16384 2048) : Mat 256 2048 := fun i =>
  ∑ h : Fin 16384, hidden X W (i 0) h * V (ix2 h (i 1))

/-- The activations after `0`, `1` or `2` whole layers. -/
def lay (X : Mat 256 2048) (W : Fin 3 → Mat 2048 16384) (V : Fin 3 → Mat 16384 2048) : Fin 3 → Mat 256 2048
  | 0 => X
  | 1 => layer X (W 0) (V 0)
  | 2 => layer (layer X (W 0) (V 0)) (W 1) (V 1)

variable {I : Inp Ideal} {X : Mat 256 2048} {W : Fin 3 → Mat 2048 16384} {V : Fin 3 → Mat 16384 2048}

/-- A device's hidden columns are the whole hidden layer's. -/
theorem act_apply (hI : Cut I X W V) (Y : Mat 256 2048) (k : Fin 3) (c : Fin 4) (r : Fin 256) (h : Fin 4096) :
    act I Y k c (ix2 r h) = hidden Y (W k) r (hcol c h) := by
  unfold act hidden
  rw [pay7_apply]
  refine congrArg (fun s : EReal => max s 0) ?_
  unfold hid
  rw [pay5_apply]
  unfold hid
  rw [pay5_apply]
  unfold hid
  rw [pay5_apply]
  unfold hid
  rw [pay2_apply]
  refine (sum_ord k c fun g => ∑ t : Fin 512, Y (ix2 r (gcol g t)) * I.win k c (ix2 (gcol g t) h)).trans ?_
  rw [sum_groups (N := 2048) 512 (by norm_num)]
  refine Finset.sum_congr rfl fun g _ => Finset.sum_congr rfl fun t _ => ?_
  rw [hI.win]

/-- A device's share of a layer's output: the sum over its own hidden columns. -/
theorem prtAll_apply (hI : Cut I X W V) (Y : Mat 256 2048) (k : Fin 3) (c : Fin 4) (r : Fin 256) (q : Fin 2048) :
    prtAll I Y k c (ix2 r q) = ∑ h : Fin 4096, hidden Y (W k) r (hcol c h) * V k (ix2 (hcol c h) q) := by
  have e : gcol (grp q.val q.isLt) ⟨q.val % 512, by omega⟩ = q :=
    Fin.ext (by show 512 * (q.val / 512) + q.val % 512 = q.val; omega)
  show k0_pay10 (act I Y k c) (woutBlk I k c (grp q.val q.isLt)) (ix2 r ⟨q.val % 512, by omega⟩) = _
  rw [pay10_apply]
  refine Finset.sum_congr rfl fun h _ => ?_
  rw [act_apply hI]
  refine congrArg (hidden Y (W k) r (hcol c h) * ·) ?_
  show I.wout k c (ix2 h (gcol (grp q.val q.isLt) ⟨q.val % 512, by omega⟩)) = _
  rw [e, hI.wout]

/-- The four devices' shares add up to the layer. -/
theorem sum_prtAll (hI : Cut I X W V) (Y : Mat 256 2048) (k : Fin 3) (r : Fin 256) (q : Fin 2048) :
    ∑ c : Fin 4, prtAll I Y k c (ix2 r q) = layer Y (W k) (V k) (ix2 r q) := by
  show _ = ∑ h : Fin 16384, hidden Y (W k) r h * V k (ix2 h q)
  rw [sum_groups (N := 16384) 4096 (by norm_num)]
  exact Finset.sum_congr rfl fun c _ => prtAll_apply hI Y k c r q

/-- The next activations are the layer. -/
theorem nxtX_eq (hI : Cut I X W V) (Y : Mat 256 2048) (k : Fin 3) : nxtX I Y k = layer Y (W k) (V k) := by
  funext i
  obtain ⟨r, q, rfl⟩ : ∃ (r : Fin 256) (q : Fin 2048), i = ix2 r q := ⟨i 0, i 1, eq_ix2 i⟩
  rw [← sum_prtAll hI Y k r q, ← sum_nb (grp q.val q.isLt) fun d => prtAll I Y k d (ix2 r q)]
  exact pay13_apply _ _ _ _ r ⟨q.val % 512, by omega⟩

/-- The devices' rows one above the other are the whole activations. -/
theorem x0_eq (hI : Cut I X W V) : x0 I = X := by
  funext i
  have h0 := idx2_lt0 i
  show I.x ⟨(i 0).val / 64, _⟩ (ix2 ⟨(i 0).val % 64, _⟩ (i 1)) = _
  refine (hI.x _ _ _).trans ?_
  refine (congrArg (fun r : Fin 256 => X (ix2 r (i 1))) (Fin.ext ?_)).trans (congrArg X (eq_ix2 i).symm)
  show 64 * ((i 0).val / 64) + (i 0).val % 64 = (i 0).val
  omega

/-- The activations entering each layer are those after the whole layers before it. -/
theorem xs_eq (hI : Cut I X W V) (k : Fin 3) : xs I k = lay X W V k := by
  match k with
  | 0 => exact x0_eq hI
  | 1 => show nxtX I (x0 I) 0 = _; rw [x0_eq hI, nxtX_eq hI]; rfl
  | 2 => show nxtX I (nxtX I (x0 I) 0) 1 = _; rw [x0_eq hI, nxtX_eq hI, nxtX_eq hI]; rfl

/-- The rows a device writes are its rows of the three layers' result. -/
theorem outB_apply (hI : Cut I X W V) (c : Fin 4) (r : Fin 64) (q : Fin 2048) :
    outB I c (ix2 r q) = layer (lay X W V 2) (W 2) (V 2) (ix2 (xrow c r) q) := by
  unfold outB
  rw [pay35_apply, ← sum_prtAll hI (lay X W V 2) 2 (xrow c r) q, ← xs_eq hI 2]
  exact sum_nb c fun d => prtAll I (xs I 2) 2 d (ix2 (xrow c r) q)

end Cert.KernelIdeal.Mlp

end
-- ==== Proof.Value.Ref.lean ====
/-
  The reference's result at the ideal values: each of its three stages is a whole layer.
-/
module

public import proofs.«01_k».proof.Proof.Value.Layer
public import proofs.«01_k».proof.Proof.Gen.ReferenceIdeal.Run
public import Idealize.ShloMosaic.Lib.StackMember

@[expose] public section

noncomputable section

namespace Cert.ReferenceIdeal.Mlp

open Cert.ReferenceIdeal Cert.ReferenceIdeal.Gen
open Idealize.ShloMosaic hiding ix2 ix3 eq_ix2
open Idealize.ShloMosaic.ValueIdx
open Cert.KernelIdeal.Mlp (Mat hidden layer lay)
open scoped BigOperators

/-- One stage of the reference: a product, the maximum with zero, a product. -/
abbrev stage (X : FVec Ideal S256x2048 .f32) (W : FVec Ideal S2048x16384 .f32) (V : FVec Ideal S16384x2048 .f32) :
    FVec Ideal S256x2048 .f32 :=
  Host.dotGeneral dot_S256x16384_S16384x2048_S256x2048_1_0_0_1_n_n none
    (maximumf (Host.dotGeneral dot_S256x2048_S2048x16384_S256x16384_1_0_0_1_n_n none X W)
      (broadcastInDim S256x16384 ![] bcast_S_S256x16384 (constant S_ .f32 0x00000000#32))) V

/-- The hidden values of a stage, at an index. -/
theorem hidden_apply (X : FVec Ideal S256x2048 .f32) (W : FVec Ideal S2048x16384 .f32) (r : Fin 256) (h : Fin 16384) :
    maximumf (Host.dotGeneral dot_S256x2048_S2048x16384_S256x16384_1_0_0_1_n_n none X W)
      (broadcastInDim S256x16384 ![] bcast_S_S256x16384 (constant S_ .f32 0x00000000#32)) (ix2 r h) = hidden X W r h := by
  show max (Host.dotGeneral dot_S256x2048_S2048x16384_S256x16384_1_0_0_1_n_n none X W (ix2 r h))
    (Ideal.ofBits .f32 0x00000000#32) = _
  rw [Ideal.ofBits_zero_f32]
  exact congrArg (fun s : EReal => max s 0) (StackMember.dotGeneral_plain_apply (m := 256) (k := 2048) (n := 16384) none X W r h)

/-- A stage of the reference is a whole layer. -/
theorem stage_eq (X : FVec Ideal S256x2048 .f32) (W : FVec Ideal S2048x16384 .f32) (V : FVec Ideal S16384x2048 .f32) :
    stage X W V = layer X W V := by
  funext i
  obtain ⟨r, q, rfl⟩ : ∃ (r : Fin 256) (q : Fin 2048), i = ix2 r q := ⟨i 0, i 1, eq_ix2 i⟩
  refine (StackMember.dotGeneral_plain_apply (m := 256) (k := 16384) (n := 2048) none _ V r q).trans ?_
  exact Finset.sum_congr rfl fun h _ => congrArg (fun s : EReal => s * V (ix2 h q)) (hidden_apply X W r h)

/-- The three stages are the three layers. -/
theorem stages_eq (X : FVec Ideal S256x2048 .f32) (W : Fin 3 → FVec Ideal S2048x16384 .f32)
    (V : Fin 3 → FVec Ideal S16384x2048 .f32) :
    stage (stage (stage X (W 0) (V 0)) (W 1) (V 1)) (W 2) (V 2) = layer (lay X W V 2) (W 2) (V 2) := by
  rw [stage_eq, stage_eq, stage_eq]
  rfl

end Cert.ReferenceIdeal.Mlp

end
-- ==== Proof.Value.Final.lean ====
/-
  The kernel against the reference: when each device holds its blocks of the reference's arrays, the rows a device writes
  are its block of the reference's result.
-/
module

public import proofs.«01_k».proof.Proof.Value.Ref
public import proofs.«01_k».proof.Proof.Ideal.Run
public import Idealize.ShloMosaic.Lib.Layout

@[expose] public section

noncomputable section

namespace Cert.MlpValue

open Idealize.ShloMosaic hiding ix2 ix3 eq_ix2
open Idealize.ShloMosaic.ValueIdx
open Cert.KernelIdeal.Mlp

/-- A block cut along the rows, at an index. -/
theorem rows_apply {M N T : ℕ} (v : Mat T N) (c : Fin 4) (h : Layout.Tiles ⟨2, ![M, N]⟩ ⟨2, ![T, N]⟩ 0 4) (r : Fin M) (q : Fin N)
    (hb : M * c.val + r.val < T) :
    Layout.block ⟨2, ![M, N]⟩ ⟨2, ![T, N]⟩ 0 4 c v h (ix2 r q) = v (ix2 ⟨M * c.val + r.val, hb⟩ q) := by
  refine congrArg v (funext fun a => Fin.ext ?_)
  match a with
  | ⟨0, _⟩ => exact congrArg (· + r.val) (Nat.mul_comm c.val M)
  | ⟨1, _⟩ => rfl

/-- A block cut along the columns, at an index. -/
theorem cols_apply {M N T : ℕ} (v : Mat M T) (c : Fin 4) (h : Layout.Tiles ⟨2, ![M, N]⟩ ⟨2, ![M, T]⟩ 1 4) (r : Fin M) (q : Fin N)
    (hb : N * c.val + q.val < T) :
    Layout.block ⟨2, ![M, N]⟩ ⟨2, ![M, T]⟩ 1 4 c v h (ix2 r q) = v (ix2 r ⟨N * c.val + q.val, hb⟩) := by
  refine congrArg v (funext fun a => Fin.ext ?_)
  match a with
  | ⟨0, _⟩ => rfl
  | ⟨1, _⟩ => exact congrArg (· + q.val) (Nat.mul_comm c.val N)

variable (m : (ℓ : Loc Cert.KernelIdeal.nD Cert.KernelIdeal.τ Cert.KernelIdeal.sig) → Buf (Elt Ideal) ℓ)

/-- Argument `b` of the kernel on device `c`. -/
abbrev karg (c : Dev Cert.KernelIdeal.nD) (b : Ref Cert.KernelIdeal.sig .tc) :=
  m ((c.tc : Thread Cert.KernelIdeal.nD Cert.KernelIdeal.τ).loc b)

/-- Devices holding their blocks of whole arrays have inputs cut from those. -/
theorem cut_inp {X : Mat 256 2048} {W : Fin 3 → Mat 2048 16384} {V : Fin 3 → Mat 16384 2048}
    (hX : ∀ c, karg m c Cert.KernelIdeal.main_arg0 = Layout.block ⟨2, ![64, 2048]⟩ ⟨2, ![256, 2048]⟩ 0 4 c X)
    (hW : ∀ c, karg m c Cert.KernelIdeal.main_arg1 = Layout.block ⟨2, ![2048, 4096]⟩ ⟨2, ![2048, 16384]⟩ 1 4 c (W 0)
      ∧ karg m c Cert.KernelIdeal.main_arg2 = Layout.block ⟨2, ![2048, 4096]⟩ ⟨2, ![2048, 16384]⟩ 1 4 c (W 1)
      ∧ karg m c Cert.KernelIdeal.main_arg3 = Layout.block ⟨2, ![2048, 4096]⟩ ⟨2, ![2048, 16384]⟩ 1 4 c (W 2))
    (hV : ∀ c, karg m c Cert.KernelIdeal.main_arg4 = Layout.block ⟨2, ![4096, 2048]⟩ ⟨2, ![16384, 2048]⟩ 0 4 c (V 0)
      ∧ karg m c Cert.KernelIdeal.main_arg5 = Layout.block ⟨2, ![4096, 2048]⟩ ⟨2, ![16384, 2048]⟩ 0 4 c (V 1)
      ∧ karg m c Cert.KernelIdeal.main_arg6 = Layout.block ⟨2, ![4096, 2048]⟩ ⟨2, ![16384, 2048]⟩ 0 4 c (V 2)) :
    Cut (inp m) X W V where
  x c r q := (congrFun ((xstg_eq m c).trans (hX c)) (ix2 r q)).trans (rows_apply X c (by decide) r q _)
  win k c j h := by
    match k with
    | 0 => exact (congrFun (hW c).1 (ix2 j h)).trans (cols_apply (W 0) c (by decide) j h _)
    | 1 => exact (congrFun (hW c).2.1 (ix2 j h)).trans (cols_apply (W 1) c (by decide) j h _)
    | 2 => exact (congrFun (hW c).2.2 (ix2 j h)).trans (cols_apply (W 2) c (by decide) j h _)
  wout k c h q := by
    match k with
    | 0 => exact (congrFun (hV c).1 (ix2 h q)).trans (rows_apply (V 0) c (by decide) h q _)
    | 1 => exact (congrFun (hV c).2.1 (ix2 h q)).trans (rows_apply (V 1) c (by decide) h q _)
    | 2 => exact (congrFun (hV c).2.2 (ix2 h q)).trans (rows_apply (V 2) c (by decide) h q _)

/-- The rows a device writes are its block of the three layers' result. -/
theorem outB_block {X : Mat 256 2048} {W : Fin 3 → Mat 2048 16384} {V : Fin 3 → Mat 16384 2048} {I : Inp Ideal}
    (hI : Cut I X W V) (c : Fin 4) :
    outB I c = Layout.block ⟨2, ![64, 2048]⟩ ⟨2, ![256, 2048]⟩ 0 4 c (layer (lay X W V 2) (W 2) (V 2)) := by
  funext i
  obtain ⟨r, q, rfl⟩ : ∃ (r : Fin 64) (q : Fin 2048), i = ix2 r q := ⟨i 0, i 1, eq_ix2 i⟩
  exact (outB_apply hI c r q).trans (rows_apply _ c (by decide) r q _).symm

end Cert.MlpValue

end
-- ==== Proof.lean ====
/-
  The claims about the three-layer network on four devices, assembled: the kernel's frame at the chip's words and at the
  ideal values (one run, read at each), the reference's frame, and the equality at the ideal values of the rows each
  device writes with its block of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Run
public import proofs.«01_k».proof.Proof.Ideal.Run
public import proofs.«01_k».proof.Proof.Value.Final
public import Idealize.ShloMosaic.Adequacy
public import Idealize.ShloMosaic.Init

@[expose] public section

noncomputable section

namespace Cert.Proof

open Idealize.ShloMosaic Idealize.SL.Sem

/-- The kernel at the chip's words runs, keeps its arguments and leaves every counter at zero. -/
theorem frame_kernel : Cert.quiescent_Kernel := fun m ρ _ =>
  (θ_run Cert.Kernel.defs _ _).mono (fun _ h => ⟨fun c => (h.1 c).2, h.2⟩) (Cert.Kernel.Mlp.run (F := Bits) m ρ)

/-- The same at the ideal values. -/
theorem frame_kernelIdeal : Cert.quiescent_KernelIdeal := fun m ρ _ =>
  (θ_run Cert.KernelIdeal.defs _ _).mono (fun _ h => ⟨fun c => (h.1 c).2, h.2⟩) (Cert.KernelIdeal.Mlp.run (F := Ideal) m ρ)

/-- The reference runs, keeps its arguments and declares no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the ideal values each device ends with its rows of the reference's result. -/
theorem value : Cert.algebraic_KernelIdeal_ReferenceIdeal := by
  intro m g m' g' _ ha
  let arg := fun b : Ref Cert.ReferenceIdeal.sig .tc =>
    m' (((0 : Dev Cert.ReferenceIdeal.nD).tc : Thread Cert.ReferenceIdeal.nD Cert.ReferenceIdeal.τ).loc b)
  let X : Cert.KernelIdeal.Mlp.Mat 256 2048 := arg Cert.ReferenceIdeal.main_arg0
  let W : Fin 3 → Cert.KernelIdeal.Mlp.Mat 2048 16384 := fun k => match k with
    | 0 => arg Cert.ReferenceIdeal.main_arg1
    | 1 => arg Cert.ReferenceIdeal.main_arg2
    | 2 => arg Cert.ReferenceIdeal.main_arg3
  let V : Fin 3 → Cert.KernelIdeal.Mlp.Mat 16384 2048 := fun k => match k with
    | 0 => arg Cert.ReferenceIdeal.main_arg4
    | 1 => arg Cert.ReferenceIdeal.main_arg5
    | 2 => arg Cert.ReferenceIdeal.main_arg6
  have hI : Cert.KernelIdeal.Mlp.Cut (Cert.KernelIdeal.Mlp.inp m) X W V :=
    Cert.MlpValue.cut_inp m (fun c => (ha c).1) (fun c => ⟨(ha c).2.1, (ha c).2.2.1, (ha c).2.2.2.1⟩)
      (fun c => ⟨(ha c).2.2.2.2.1, (ha c).2.2.2.2.2.1, (ha c).2.2.2.2.2.2⟩)
  refine ⟨Cert.KernelIdeal.Mlp.layer (Cert.KernelIdeal.Mlp.lay X W V 2) (W 2) (V 2), ?_, ?_⟩
  · exact (θ_run Cert.KernelIdeal.defs _ _).mono
      (fun _ h c => ⟨(h.1 c).1.trans (Cert.MlpValue.outB_block hI c), (h.1 c).2⟩) (Cert.KernelIdeal.Mlp.run (F := Ideal) m g)
  · exact (θ_run Cert.ReferenceIdeal.defs _ _).mono
      (fun _ h => ⟨(h 0).1.trans (Cert.ReferenceIdeal.Mlp.stages_eq X W V), (h 0).2⟩)
      (Cert.ReferenceIdeal.Value.run (F := Ideal) m' g')

/-- Every claim. -/
theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
